-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S256x64x64 : Shape := ⟨3, ![256, 64, 64]⟩
abbrev S512x4 : Shape := ⟨2, ![512, 4]⟩
abbrev S512x1 : Shape := ⟨2, ![512, 1]⟩
abbrev S512 : Shape := ⟨1, ![512]⟩
abbrev S_ : Shape := ⟨0, ![]⟩

class Facts : Prop where
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  reducesTo_S512_S_d0 : S512.ReducesTo [0] S_
  h_S_ : 0 < S_.numel

variable [Facts]

def fn_part1 {F : FTy → Type} [FloatOps F] (main_v5 : IVec S512 32) (main_v7 : IVec S512 32) (main_v18 : IVec S512 1) (main_c_3 : IVec S_ 32) : IVec S_ 1 :=
  let main_v19 : IVec S512 32 := broadcastInDim S512 ![] bcast_S_S512 main_c_3
  let main_v20 : IVec S512 1 := cmpi .sge main_v5 main_v19
  let main_v21 : IVec S512 1 := andi main_v18 main_v20
  let main_c_4 : IVec S_ 32 := constantI S_ 32 41#32
  let main_v22 : IVec S512 32 := broadcastInDim S512 ![] bcast_S_S512 main_c_4
  let main_v23 : IVec S512 1 := cmpi .slt main_v5 main_v22
  let main_v24 : IVec S512 1 := andi main_v21 main_v23
  let main_c_5 : IVec S_ 32 := constantI S_ 32 4#32
  let main_v25 : IVec S512 32 := broadcastInDim S512 ![] bcast_S_S512 main_c_5
  let main_v26 : IVec S512 1 := cmpi .sge main_v7 main_v25
  let main_v27 : IVec S512 1 := andi main_v24 main_v26
  let main_c_6 : IVec S_ 32 := constantI S_ 32 41#32
  let main_v28 : IVec S512 32 := broadcastInDim S512 ![] bcast_S_S512 main_c_6
  let main_v29 : IVec S512 1 := cmpi .slt main_v7 main_v28
  let main_v30 : IVec S512 1 := andi main_v27 main_v29
  let main_c_7 : IVec S_ 1 := constantI S_ 1 1#1
  let main_v31 : IVec S_ 1 := (fun x v => Host.reduce IntOp.andi x v reducesTo_S512_S_d0 h_S_) main_v30 main_c_7
  main_v31

def fn {F : FTy → Type} [FloatOps F] (main_arg0 : FVec F S256x64x64 .f32) (main_arg1 : IVec S512x4 32) : IVec S_ 1 :=
  let main_v0 : IVec S512x1 32 := (extractStridedSlice S512x1 ![0, 0] · slices_S512x4_S512x1_0_0) main_arg1
  let main_v1 : IVec S512 32 := shapeCast S512 main_v0 shapeCasts_S512x1_S512
  let main_v2 : IVec S512x1 32 := (extractStridedSlice S512x1 ![0, 1] · slices_S512x4_S512x1_0_1) main_arg1
  let main_v3 : IVec S512 32 := shapeCast S512 main_v2 shapeCasts_S512x1_S512
  let main_v4 : IVec S512x1 32 := (extractStridedSlice S512x1 ![0, 2] · slices_S512x4_S512x1_0_2) main_arg1
  let main_v5 : IVec S512 32 := shapeCast S512 main_v4 shapeCasts_S512x1_S512
  let main_v6 : IVec S512x1 32 := (extractStridedSlice S512x1 ![0, 3] · slices_S512x4_S512x1_0_3) main_arg1
  let main_v7 : IVec S512 32 := shapeCast S512 main_v6 shapeCasts_S512x1_S512
  let main_c : IVec S_ 32 := constantI S_ 32 0#32
  let main_v8 : IVec S512 32 := broadcastInDim S512 ![] bcast_S_S512 main_c
  let main_v9 : IVec S512 1 := cmpi .sge main_v1 main_v8
  let main_c_0 : IVec S_ 32 := constantI S_ 32 64#32
  let main_v10 : IVec S512 32 := broadcastInDim S512 ![] bcast_S_S512 main_c_0
  let main_v11 : IVec S512 1 := cmpi .slt main_v1 main_v10
  let main_v12 : IVec S512 1 := andi main_v9 main_v11
  let main_c_1 : IVec S_ 32 := constantI S_ 32 0#32
  let main_v13 : IVec S512 32 := broadcastInDim S512 ![] bcast_S_S512 main_c_1
  let main_v14 : IVec S512 1 := cmpi .sge main_v3 main_v13
  let main_v15 : IVec S512 1 := andi main_v12 main_v14
  let main_c_2 : IVec S_ 32 := constantI S_ 32 64#32
  let main_v16 : IVec S512 32 := broadcastInDim S512 ![] bcast_S_S512 main_c_2
  let main_v17 : IVec S512 1 := cmpi .slt main_v3 main_v16
  let main_v18 : IVec S512 1 := andi main_v15 main_v17
  let main_c_3 : IVec S_ 32 := constantI S_ 32 4#32
  fn_part1 (F := F) main_v5 main_v7 main_v18 main_c_3
-- ==== Kernel.lean ====
abbrev S256x64x64 : Shape := ⟨3, ![256, 64, 64]⟩
abbrev S512x4 : Shape := ⟨2, ![512, 4]⟩
abbrev S64x64x256 : Shape := ⟨3, ![64, 64, 256]⟩
abbrev S2048 : Shape := ⟨1, ![2048]⟩
abbrev S512x8x8x256 : Shape := ⟨4, ![512, 8, 8, 256]⟩
abbrev S32x8x8x256 : Shape := ⟨4, ![32, 8, 8, 256]⟩
abbrev S6x64x64x256 : Shape := ⟨4, ![6, 64, 64, 256]⟩
abbrev S8x64x256 : Shape := ⟨3, ![8, 64, 256]⟩
abbrev S64x8x256 : Shape := ⟨3, ![64, 8, 256]⟩
abbrev S1x8x64x256 : Shape := ⟨4, ![1, 8, 64, 256]⟩
abbrev S1x7x64x256 : Shape := ⟨4, ![1, 7, 64, 256]⟩
abbrev S7x64x256 : Shape := ⟨3, ![7, 64, 256]⟩
abbrev S1x1x64x256 : Shape := ⟨4, ![1, 1, 64, 256]⟩
abbrev S1x64x256 : Shape := ⟨3, ![1, 64, 256]⟩
abbrev S1x6x64x256 : Shape := ⟨4, ![1, 6, 64, 256]⟩
abbrev S6x64x256 : Shape := ⟨3, ![6, 64, 256]⟩
abbrev S1x2x64x256 : Shape := ⟨4, ![1, 2, 64, 256]⟩
abbrev S2x64x256 : Shape := ⟨3, ![2, 64, 256]⟩
abbrev S1x5x64x256 : Shape := ⟨4, ![1, 5, 64, 256]⟩
abbrev S5x64x256 : Shape := ⟨3, ![5, 64, 256]⟩
abbrev S1x3x64x256 : Shape := ⟨4, ![1, 3, 64, 256]⟩
abbrev S3x64x256 : Shape := ⟨3, ![3, 64, 256]⟩
abbrev S1x4x64x256 : Shape := ⟨4, ![1, 4, 64, 256]⟩
abbrev S4x64x256 : Shape := ⟨3, ![4, 64, 256]⟩
abbrev S1 : Shape := ⟨1, ![1]⟩
abbrev S8x8x256 : Shape := ⟨3, ![8, 8, 256]⟩
abbrev S8x1x1 : Shape := ⟨3, ![8, 1, 1]⟩
abbrev S8x256 : Shape := ⟨2, ![8, 256]⟩
abbrev S1x1x8x256 : Shape := ⟨4, ![1, 1, 8, 256]⟩
abbrev S512x256x8x8 : Shape := ⟨4, ![512, 256, 8, 8]⟩

abbrev nBuf : Space → Nat
  | .hbm => 6
  | .vmem => 6
  | .smem => 1
  | _ => 0

abbrev bufTy : (tb : Table) → Fin (tcTables nBuf tb) → BufTy
  | .hbm, ⟨0, _⟩ => ⟨S256x64x64, .f32⟩
  | .hbm, ⟨1, _⟩ => ⟨S512x4, .i32⟩
  | .hbm, ⟨2, _⟩ => ⟨S64x64x256, .f32⟩
  | .hbm, ⟨3, _⟩ => ⟨S64x64x256, .bf16⟩
  | .hbm, ⟨4, _⟩ => ⟨S512x8x8x256, .f32⟩
  | .hbm, ⟨5, _⟩ => ⟨S512x256x8x8, .f32⟩
  | .local _ .vmem, ⟨0, _⟩ => ⟨S64x64x256, .bf16⟩
  | .local _ .vmem, ⟨1, _⟩ => ⟨S32x8x8x256, .f32⟩
  | .local _ .vmem, ⟨2, _⟩ => ⟨S32x8x8x256, .f32⟩
  | .local _ .vmem, ⟨3, _⟩ => ⟨S6x64x64x256, .bf16⟩
  | .local _ .vmem, ⟨4, _⟩ => ⟨S8x64x256, .bf16⟩
  | .local _ .vmem, ⟨5, _⟩ => ⟨S64x8x256, .bf16⟩
  | .local _ .smem, ⟨0, _⟩ => ⟨S2048, .i32⟩
  | _, _ => ⟨S256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v4 : Ref sig .tc := ⟨.hbm, 5, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32 : BitVec 32 := 32#32
  let v5 : BitVec 32 := Scalar.muli v4 c32_i32
  let c0_i32_1 : BitVec 32 := 0#32
  let v6 : BitVec 32 := Scalar.addi v5 c0_i32_1
  let c4_i32 : BitVec 32 := 4#32
  let v7 : BitVec 32 := Scalar.muli v6 c4_i32
  let v8 : Index := Scalar.indexCast v7
  ![v8.toNat]
def k0_off2 (i : grid0.Coords) (c1_i32 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32 : BitVec 32 := 32#32
  let v5 : BitVec 32 := Scalar.muli v4 c32_i32
  let c0_i32_1 : BitVec 32 := 0#32
  let v6 : BitVec 32 := Scalar.addi v5 c0_i32_1
  let c4_i32 : BitVec 32 := 4#32
  let v7 : BitVec 32 := Scalar.muli v6 c4_i32
  let v10 : BitVec 32 := Scalar.addi v7 c1_i32
  let v11 : Index := Scalar.indexCast v10
  ![v11.toNat]
def k0_off3 (v12 : BitVec 32) (v18 : BitVec 32) (c1_i32_10 : BitVec 32) (c0_i32_8 : BitVec 32) : Fin 4 → Nat :=
  let c1_i32_2 : BitVec 32 := 1#32
  let v19 : BitVec 32 := Scalar.shrui v18 c1_i32_2
  let v20 : BitVec 32 := Scalar.subi v12 v19
  let c0_i32_3 : BitVec 32 := 0#32
  let v21 : BitVec 32 := Scalar.maxsi v20 c0_i32_3
  let v22 : BitVec 32 := Scalar.addi v12 v19
  let c64_i32 : BitVec 32 := 64#32
  let v23 : BitVec 1 := Scalar.cmpi .sgt v22 c64_i32
  let c63_i32 : BitVec 32 := 63#32
  let v24 : BitVec 32 := Scalar.select v23 c63_i32 v22
  let v25 : BitVec 32 := Scalar.subi v24 v21
  let v36 : BitVec 32 := Scalar.muli c1_i32_10 v25
  let c7_i32 : BitVec 32 := 7#32
  let v37 : BitVec 32 := Scalar.addi v36 c7_i32
  let c3_i32_11 : BitVec 32 := 3#32
  let v38 : BitVec 32 := Scalar.shrui v37 c3_i32_11
  let v39 : BitVec 32 := Scalar.addi v21 v38
  let v33 : BitVec 32 := Scalar.muli c0_i32_8 v25
  let c3_i32_9 : BitVec 32 := 3#32
  let v34 : BitVec 32 := Scalar.shrui v33 c3_i32_9
  let v35 : BitVec 32 := Scalar.addi v21 v34
  let v40 : BitVec 32 := Scalar.subi v39 v35
  let c1_i32_12 : BitVec 32 := 1#32
  let v41 : BitVec 32 := Scalar.subi v40 c1_i32_12
  let v42 : Index := Scalar.indexCast v41
  let v43 : Index := Scalar.indexCast v35
  let c0 : Index := 0#32
  let c0_13 : Index := 0#32
  ![v42.toNat, v43.toNat, 0, 0]
def k0_off3_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk1 (v12 : BitVec 32) (v18 : BitVec 32) : Prop :=
  (∀ (r : Fin 8), ∀ a, (k0_off3 v12 v18 (k0_off3_at r).1 (k0_off3_at r).2) a + S1x1x64x256.size a ≤ S6x64x64x256.size a)
theorem k0_off3_inb : ∀ (v12 : BitVec 32) (v18 : BitVec 32) (k0_hw1 : k0_chk1 v12 v18), ∀ (r : Fin 8), ∀ a, (k0_off3 v12 v18 (k0_off3_at r).1 (k0_off3_at r).2) a + S1x1x64x256.size a ≤ S6x64x64x256.size a := fun v12 v18 k0_hw1 r => k0_hw1 r

def k0_off4 (v9 : BitVec 32) (v15 : BitVec 32) (c0_i32_126 : BitVec 32) : Fin 3 → Nat :=
  let c1_i32_4 : BitVec 32 := 1#32
  let v26 : BitVec 32 := Scalar.shrui v15 c1_i32_4
  let v27 : BitVec 32 := Scalar.subi v9 v26
  let c0_i32_5 : BitVec 32 := 0#32
  let v28 : BitVec 32 := Scalar.maxsi v27 c0_i32_5
  let v29 : BitVec 32 := Scalar.addi v9 v26
  let c64_i32_6 : BitVec 32 := 64#32
  let v30 : BitVec 1 := Scalar.cmpi .sgt v29 c64_i32_6
  let c63_i32_7 : BitVec 32 := 63#32
  let v31 : BitVec 32 := Scalar.select v30 c63_i32_7 v29
  let v32 : BitVec 32 := Scalar.subi v31 v28
  let v202 : BitVec 32 := Scalar.muli c0_i32_126 v32
  let c3_i32_127 : BitVec 32 := 3#32
  let v203 : BitVec 32 := Scalar.shrui v202 c3_i32_127
  let v204 : BitVec 32 := Scalar.addi v28 v203
  let c0_i32_131 : BitVec 32 := 0#32
  let v209 : BitVec 32 := Scalar.subi v204 c0_i32_131
  let c56_i32 : BitVec 32 := 56#32
  let v211 : BitVec 32 := Scalar.minsi v209 c56_i32
  let v212 : Index := Scalar.indexCast v211
  let c0_133 : Index := 0#32
  let c0_134 : Index := 0#32
  ![v212.toNat, 0, 0]

def k0_chk2 (v9 : BitVec 32) (v15 : BitVec 32) : Prop :=
  (∀ (r : Fin 8), ∀ a, (k0_off4 v9 v15 (BitVec.ofNat 32 r.val)) a + S8x8x256.size a ≤ S64x8x256.size a)
theorem k0_off4_inb : ∀ (v9 : BitVec 32) (v15 : BitVec 32) (k0_hw2 : k0_chk2 v9 v15), ∀ (r : Fin 8), ∀ a, (k0_off4 v9 v15 (BitVec.ofNat 32 r.val)) a + S8x8x256.size a ≤ S64x8x256.size a := fun v9 v15 k0_hw2 r => k0_hw2 r

def k0_off5 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_252 : BitVec 32 := 32#32
  let v426 : BitVec 32 := Scalar.muli v4 c32_i32_252
  let c1_i32_253 : BitVec 32 := 1#32
  let v427 : BitVec 32 := Scalar.addi v426 c1_i32_253
  let c4_i32_254 : BitVec 32 := 4#32
  let v428 : BitVec 32 := Scalar.muli v427 c4_i32_254
  let v429 : Index := Scalar.indexCast v428
  ![v429.toNat]
def k0_off6 (i : grid0.Coords) (c1_i32_255 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_252 : BitVec 32 := 32#32
  let v426 : BitVec 32 := Scalar.muli v4 c32_i32_252
  let c1_i32_253 : BitVec 32 := 1#32
  let v427 : BitVec 32 := Scalar.addi v426 c1_i32_253
  let c4_i32_254 : BitVec 32 := 4#32
  let v428 : BitVec 32 := Scalar.muli v427 c4_i32_254
  let v431 : BitVec 32 := Scalar.addi v428 c1_i32_255
  let v432 : Index := Scalar.indexCast v431
  ![v432.toNat]
def k0_off7 (v433 : BitVec 32) (v439 : BitVec 32) (c1_i32_268 : BitVec 32) (c0_i32_266 : BitVec 32) : Fin 4 → Nat :=
  let c1_i32_258 : BitVec 32 := 1#32
  let v440 : BitVec 32 := Scalar.shrui v439 c1_i32_258
  let v441 : BitVec 32 := Scalar.subi v433 v440
  let c0_i32_259 : BitVec 32 := 0#32
  let v442 : BitVec 32 := Scalar.maxsi v441 c0_i32_259
  let v443 : BitVec 32 := Scalar.addi v433 v440
  let c64_i32_260 : BitVec 32 := 64#32
  let v444 : BitVec 1 := Scalar.cmpi .sgt v443 c64_i32_260
  let c63_i32_261 : BitVec 32 := 63#32
  let v445 : BitVec 32 := Scalar.select v444 c63_i32_261 v443
  let v446 : BitVec 32 := Scalar.subi v445 v442
  let v457 : BitVec 32 := Scalar.muli c1_i32_268 v446
  let c7_i32_269 : BitVec 32 := 7#32
  let v458 : BitVec 32 := Scalar.addi v457 c7_i32_269
  let c3_i32_270 : BitVec 32 := 3#32
  let v459 : BitVec 32 := Scalar.shrui v458 c3_i32_270
  let v460 : BitVec 32 := Scalar.addi v442 v459
  let v454 : BitVec 32 := Scalar.muli c0_i32_266 v446
  let c3_i32_267 : BitVec 32 := 3#32
  let v455 : BitVec 32 := Scalar.shrui v454 c3_i32_267
  let v456 : BitVec 32 := Scalar.addi v442 v455
  let v461 : BitVec 32 := Scalar.subi v460 v456
  let c1_i32_271 : BitVec 32 := 1#32
  let v462 : BitVec 32 := Scalar.subi v461 c1_i32_271
  let v463 : Index := Scalar.indexCast v462
  let v464 : Index := Scalar.indexCast v456
  let c0_272 : Index := 0#32
  let c0_273 : Index := 0#32
  ![v463.toNat, v464.toNat, 0, 0]
def k0_off7_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk3 (v433 : BitVec 32) (v439 : BitVec 32) : Prop :=
  (∀ (r : Fin 8), ∀ a, (k0_off7 v433 v439 (k0_off7_at r).1 (k0_off7_at r).2) a + S1x1x64x256.size a ≤ S6x64x64x256.size a)
theorem k0_off7_inb : ∀ (v433 : BitVec 32) (v439 : BitVec 32) (k0_hw3 : k0_chk3 v433 v439), ∀ (r : Fin 8), ∀ a, (k0_off7 v433 v439 (k0_off7_at r).1 (k0_off7_at r).2) a + S1x1x64x256.size a ≤ S6x64x64x256.size a := fun v433 v439 k0_hw3 r => k0_hw3 r

def k0_off8 (v430 : BitVec 32) (v436 : BitVec 32) (c0_i32_402 : BitVec 32) : Fin 3 → Nat :=
  let c1_i32_262 : BitVec 32 := 1#32
  let v447 : BitVec 32 := Scalar.shrui v436 c1_i32_262
  let v448 : BitVec 32 := Scalar.subi v430 v447
  let c0_i32_263 : BitVec 32 := 0#32
  let v449 : BitVec 32 := Scalar.maxsi v448 c0_i32_263
  let v450 : BitVec 32 := Scalar.addi v430 v447
  let c64_i32_264 : BitVec 32 := 64#32
  let v451 : BitVec 1 := Scalar.cmpi .sgt v450 c64_i32_264
  let c63_i32_265 : BitVec 32 := 63#32
  let v452 : BitVec 32 := Scalar.select v451 c63_i32_265 v450
  let v453 : BitVec 32 := Scalar.subi v452 v449
  let v623 : BitVec 32 := Scalar.muli c0_i32_402 v453
  let c3_i32_403 : BitVec 32 := 3#32
  let v624 : BitVec 32 := Scalar.shrui v623 c3_i32_403
  let v625 : BitVec 32 := Scalar.addi v449 v624
  let c0_i32_407 : BitVec 32 := 0#32
  let v630 : BitVec 32 := Scalar.subi v625 c0_i32_407
  let c56_i32_409 : BitVec 32 := 56#32
  let v632 : BitVec 32 := Scalar.minsi v630 c56_i32_409
  let v633 : Index := Scalar.indexCast v632
  let c0_410 : Index := 0#32
  let c0_411 : Index := 0#32
  ![v633.toNat, 0, 0]

def k0_chk4 (v430 : BitVec 32) (v436 : BitVec 32) : Prop :=
  (∀ (r : Fin 8), ∀ a, (k0_off8 v430 v436 (BitVec.ofNat 32 r.val)) a + S8x8x256.size a ≤ S64x8x256.size a)
theorem k0_off8_inb : ∀ (v430 : BitVec 32) (v436 : BitVec 32) (k0_hw4 : k0_chk4 v430 v436), ∀ (r : Fin 8), ∀ a, (k0_off8 v430 v436 (BitVec.ofNat 32 r.val)) a + S8x8x256.size a ≤ S64x8x256.size a := fun v430 v436 k0_hw4 r => k0_hw4 r

def k0_off9 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_530 : BitVec 32 := 32#32
  let v847 : BitVec 32 := Scalar.muli v4 c32_i32_530
  let c2_i32_531 : BitVec 32 := 2#32
  let v848 : BitVec 32 := Scalar.addi v847 c2_i32_531
  let c4_i32_532 : BitVec 32 := 4#32
  let v849 : BitVec 32 := Scalar.muli v848 c4_i32_532
  let v850 : Index := Scalar.indexCast v849
  ![v850.toNat]
def k0_off10 (i : grid0.Coords) (c1_i32_533 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_530 : BitVec 32 := 32#32
  let v847 : BitVec 32 := Scalar.muli v4 c32_i32_530
  let c2_i32_531 : BitVec 32 := 2#32
  let v848 : BitVec 32 := Scalar.addi v847 c2_i32_531
  let c4_i32_532 : BitVec 32 := 4#32
  let v849 : BitVec 32 := Scalar.muli v848 c4_i32_532
  let v852 : BitVec 32 := Scalar.addi v849 c1_i32_533
  let v853 : Index := Scalar.indexCast v852
  ![v853.toNat]
def k0_off11 (v854 : BitVec 32) (v860 : BitVec 32) (c1_i32_546 : BitVec 32) (c0_i32_544 : BitVec 32) : Fin 4 → Nat :=
  let c1_i32_536 : BitVec 32 := 1#32
  let v861 : BitVec 32 := Scalar.shrui v860 c1_i32_536
  let v862 : BitVec 32 := Scalar.subi v854 v861
  let c0_i32_537 : BitVec 32 := 0#32
  let v863 : BitVec 32 := Scalar.maxsi v862 c0_i32_537
  let v864 : BitVec 32 := Scalar.addi v854 v861
  let c64_i32_538 : BitVec 32 := 64#32
  let v865 : BitVec 1 := Scalar.cmpi .sgt v864 c64_i32_538
  let c63_i32_539 : BitVec 32 := 63#32
  let v866 : BitVec 32 := Scalar.select v865 c63_i32_539 v864
  let v867 : BitVec 32 := Scalar.subi v866 v863
  let v878 : BitVec 32 := Scalar.muli c1_i32_546 v867
  let c7_i32_547 : BitVec 32 := 7#32
  let v879 : BitVec 32 := Scalar.addi v878 c7_i32_547
  let c3_i32_548 : BitVec 32 := 3#32
  let v880 : BitVec 32 := Scalar.shrui v879 c3_i32_548
  let v881 : BitVec 32 := Scalar.addi v863 v880
  let v875 : BitVec 32 := Scalar.muli c0_i32_544 v867
  let c3_i32_545 : BitVec 32 := 3#32
  let v876 : BitVec 32 := Scalar.shrui v875 c3_i32_545
  let v877 : BitVec 32 := Scalar.addi v863 v876
  let v882 : BitVec 32 := Scalar.subi v881 v877
  let c1_i32_549 : BitVec 32 := 1#32
  let v883 : BitVec 32 := Scalar.subi v882 c1_i32_549
  let v884 : Index := Scalar.indexCast v883
  let v885 : Index := Scalar.indexCast v877
  let c0_550 : Index := 0#32
  let c0_551 : Index := 0#32
  ![v884.toNat, v885.toNat, 0, 0]
def k0_off11_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk5 (v854 : BitVec 32) (v860 : BitVec 32) : Prop :=
  (∀ (r : Fin 8), ∀ a, (k0_off11 v854 v860 (k0_off11_at r).1 (k0_off11_at r).2) a + S1x1x64x256.size a ≤ S6x64x64x256.size a)
theorem k0_off11_inb : ∀ (v854 : BitVec 32) (v860 : BitVec 32) (k0_hw5 : k0_chk5 v854 v860), ∀ (r : Fin 8), ∀ a, (k0_off11 v854 v860 (k0_off11_at r).1 (k0_off11_at r).2) a + S1x1x64x256.size a ≤ S6x64x64x256.size a := fun v854 v860 k0_hw5 r => k0_hw5 r

def k0_off12 (v851 : BitVec 32) (v857 : BitVec 32) (c0_i32_680 : BitVec 32) : Fin 3 → Nat :=
  let c1_i32_540 : BitVec 32 := 1#32
  let v868 : BitVec 32 := Scalar.shrui v857 c1_i32_540
  let v869 : BitVec 32 := Scalar.subi v851 v868
  let c0_i32_541 : BitVec 32 := 0#32
  let v870 : BitVec 32 := Scalar.maxsi v869 c0_i32_541
  let v871 : BitVec 32 := Scalar.addi v851 v868
  let c64_i32_542 : BitVec 32 := 64#32
  let v872 : BitVec 1 := Scalar.cmpi .sgt v871 c64_i32_542
  let c63_i32_543 : BitVec 32 := 63#32
  let v873 : BitVec 32 := Scalar.select v872 c63_i32_543 v871
  let v874 : BitVec 32 := Scalar.subi v873 v870
  let v1044 : BitVec 32 := Scalar.muli c0_i32_680 v874
  let c3_i32_681 : BitVec 32 := 3#32
  let v1045 : BitVec 32 := Scalar.shrui v1044 c3_i32_681
  let v1046 : BitVec 32 := Scalar.addi v870 v1045
  let c0_i32_685 : BitVec 32 := 0#32
  let v1051 : BitVec 32 := Scalar.subi v1046 c0_i32_685
  let c56_i32_687 : BitVec 32 := 56#32
  let v1053 : BitVec 32 := Scalar.minsi v1051 c56_i32_687
  let v1054 : Index := Scalar.indexCast v1053
  let c0_688 : Index := 0#32
  let c0_689 : Index := 0#32
  ![v1054.toNat, 0, 0]

def k0_chk6 (v851 : BitVec 32) (v857 : BitVec 32) : Prop :=
  (∀ (r : Fin 8), ∀ a, (k0_off12 v851 v857 (BitVec.ofNat 32 r.val)) a + S8x8x256.size a ≤ S64x8x256.size a)
theorem k0_off12_inb : ∀ (v851 : BitVec 32) (v857 : BitVec 32) (k0_hw6 : k0_chk6 v851 v857), ∀ (r : Fin 8), ∀ a, (k0_off12 v851 v857 (BitVec.ofNat 32 r.val)) a + S8x8x256.size a ≤ S64x8x256.size a := fun v851 v857 k0_hw6 r => k0_hw6 r

def k0_off13 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_808 : BitVec 32 := 32#32
  let v1268 : BitVec 32 := Scalar.muli v4 c32_i32_808
  let c3_i32_809 : BitVec 32 := 3#32
  let v1269 : BitVec 32 := Scalar.addi v1268 c3_i32_809
  let c4_i32_810 : BitVec 32 := 4#32
  let v1270 : BitVec 32 := Scalar.muli v1269 c4_i32_810
  let v1271 : Index := Scalar.indexCast v1270
  ![v1271.toNat]
def k0_off14 (i : grid0.Coords) (c1_i32_811 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_808 : BitVec 32 := 32#32
  let v1268 : BitVec 32 := Scalar.muli v4 c32_i32_808
  let c3_i32_809 : BitVec 32 := 3#32
  let v1269 : BitVec 32 := Scalar.addi v1268 c3_i32_809
  let c4_i32_810 : BitVec 32 := 4#32
  let v1270 : BitVec 32 := Scalar.muli v1269 c4_i32_810
  let v1273 : BitVec 32 := Scalar.addi v1270 c1_i32_811
  let v1274 : Index := Scalar.indexCast v1273
  ![v1274.toNat]
def k0_off15 (v1275 : BitVec 32) (v1281 : BitVec 32) (c1_i32_824 : BitVec 32) (c0_i32_822 : BitVec 32) : Fin 4 → Nat :=
  let c1_i32_814 : BitVec 32 := 1#32
  let v1282 : BitVec 32 := Scalar.shrui v1281 c1_i32_814
  let v1283 : BitVec 32 := Scalar.subi v1275 v1282
  let c0_i32_815 : BitVec 32 := 0#32
  let v1284 : BitVec 32 := Scalar.maxsi v1283 c0_i32_815
  let v1285 : BitVec 32 := Scalar.addi v1275 v1282
  let c64_i32_816 : BitVec 32 := 64#32
  let v1286 : BitVec 1 := Scalar.cmpi .sgt v1285 c64_i32_816
  let c63_i32_817 : BitVec 32 := 63#32
  let v1287 : BitVec 32 := Scalar.select v1286 c63_i32_817 v1285
  let v1288 : BitVec 32 := Scalar.subi v1287 v1284
  let v1299 : BitVec 32 := Scalar.muli c1_i32_824 v1288
  let c7_i32_825 : BitVec 32 := 7#32
  let v1300 : BitVec 32 := Scalar.addi v1299 c7_i32_825
  let c3_i32_826 : BitVec 32 := 3#32
  let v1301 : BitVec 32 := Scalar.shrui v1300 c3_i32_826
  let v1302 : BitVec 32 := Scalar.addi v1284 v1301
  let v1296 : BitVec 32 := Scalar.muli c0_i32_822 v1288
  let c3_i32_823 : BitVec 32 := 3#32
  let v1297 : BitVec 32 := Scalar.shrui v1296 c3_i32_823
  let v1298 : BitVec 32 := Scalar.addi v1284 v1297
  let v1303 : BitVec 32 := Scalar.subi v1302 v1298
  let c1_i32_827 : BitVec 32 := 1#32
  let v1304 : BitVec 32 := Scalar.subi v1303 c1_i32_827
  let v1305 : Index := Scalar.indexCast v1304
  let v1306 : Index := Scalar.indexCast v1298
  let c0_828 : Index := 0#32
  let c0_829 : Index := 0#32
  ![v1305.toNat, v1306.toNat, 0, 0]
def k0_off15_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk7 (v1275 : BitVec 32) (v1281 : BitVec 32) : Prop :=
  (∀ (r : Fin 8), ∀ a, (k0_off15 v1275 v1281 (k0_off15_at r).1 (k0_off15_at r).2) a + S1x1x64x256.size a ≤ S6x64x64x256.size a)
theorem k0_off15_inb : ∀ (v1275 : BitVec 32) (v1281 : BitVec 32) (k0_hw7 : k0_chk7 v1275 v1281), ∀ (r : Fin 8), ∀ a, (k0_off15 v1275 v1281 (k0_off15_at r).1 (k0_off15_at r).2) a + S1x1x64x256.size a ≤ S6x64x64x256.size a := fun v1275 v1281 k0_hw7 r => k0_hw7 r

def k0_off16 (v1272 : BitVec 32) (v1278 : BitVec 32) (c0_i32_958 : BitVec 32) : Fin 3 → Nat :=
  let c1_i32_818 : BitVec 32 := 1#32
  let v1289 : BitVec 32 := Scalar.shrui v1278 c1_i32_818
  let v1290 : BitVec 32 := Scalar.subi v1272 v1289
  let c0_i32_819 : BitVec 32 := 0#32
  let v1291 : BitVec 32 := Scalar.maxsi v1290 c0_i32_819
  let v1292 : BitVec 32 := Scalar.addi v1272 v1289
  let c64_i32_820 : BitVec 32 := 64#32
  let v1293 : BitVec 1 := Scalar.cmpi .sgt v1292 c64_i32_820
  let c63_i32_821 : BitVec 32 := 63#32
  let v1294 : BitVec 32 := Scalar.select v1293 c63_i32_821 v1292
  let v1295 : BitVec 32 := Scalar.subi v1294 v1291
  let v1465 : BitVec 32 := Scalar.muli c0_i32_958 v1295
  let c3_i32_959 : BitVec 32 := 3#32
  let v1466 : BitVec 32 := Scalar.shrui v1465 c3_i32_959
  let v1467 : BitVec 32 := Scalar.addi v1291 v1466
  let c0_i32_963 : BitVec 32 := 0#32
  let v1472 : BitVec 32 := Scalar.subi v1467 c0_i32_963
  let c56_i32_965 : BitVec 32 := 56#32
  let v1474 : BitVec 32 := Scalar.minsi v1472 c56_i32_965
  let v1475 : Index := Scalar.indexCast v1474
  let c0_966 : Index := 0#32
  let c0_967 : Index := 0#32
  ![v1475.toNat, 0, 0]

def k0_chk8 (v1272 : BitVec 32) (v1278 : BitVec 32) : Prop :=
  (∀ (r : Fin 8), ∀ a, (k0_off16 v1272 v1278 (BitVec.ofNat 32 r.val)) a + S8x8x256.size a ≤ S64x8x256.size a)
theorem k0_off16_inb : ∀ (v1272 : BitVec 32) (v1278 : BitVec 32) (k0_hw8 : k0_chk8 v1272 v1278), ∀ (r : Fin 8), ∀ a, (k0_off16 v1272 v1278 (BitVec.ofNat 32 r.val)) a + S8x8x256.size a ≤ S64x8x256.size a := fun v1272 v1278 k0_hw8 r => k0_hw8 r

def k0_off17 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1086 : BitVec 32 := 32#32
  let v1689 : BitVec 32 := Scalar.muli v4 c32_i32_1086
  let c4_i32_1087 : BitVec 32 := 4#32
  let v1690 : BitVec 32 := Scalar.addi v1689 c4_i32_1087
  let c4_i32_1088 : BitVec 32 := 4#32
  let v1691 : BitVec 32 := Scalar.muli v1690 c4_i32_1088
  let v1692 : Index := Scalar.indexCast v1691
  ![v1692.toNat]
def k0_off18 (i : grid0.Coords) (c1_i32_1089 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1086 : BitVec 32 := 32#32
  let v1689 : BitVec 32 := Scalar.muli v4 c32_i32_1086
  let c4_i32_1087 : BitVec 32 := 4#32
  let v1690 : BitVec 32 := Scalar.addi v1689 c4_i32_1087
  let c4_i32_1088 : BitVec 32 := 4#32
  let v1691 : BitVec 32 := Scalar.muli v1690 c4_i32_1088
  let v1694 : BitVec 32 := Scalar.addi v1691 c1_i32_1089
  let v1695 : Index := Scalar.indexCast v1694
  ![v1695.toNat]
def k0_off19 (v1696 : BitVec 32) (v1702 : BitVec 32) (c1_i32_1102 : BitVec 32) (c0_i32_1100 : BitVec 32) : Fin 4 → Nat :=
  let c1_i32_1092 : BitVec 32 := 1#32
  let v1703 : BitVec 32 := Scalar.shrui v1702 c1_i32_1092
  let v1704 : BitVec 32 := Scalar.subi v1696 v1703
  let c0_i32_1093 : BitVec 32 := 0#32
  let v1705 : BitVec 32 := Scalar.maxsi v1704 c0_i32_1093
  let v1706 : BitVec 32 := Scalar.addi v1696 v1703
  let c64_i32_1094 : BitVec 32 := 64#32
  let v1707 : BitVec 1 := Scalar.cmpi .sgt v1706 c64_i32_1094
  let c63_i32_1095 : BitVec 32 := 63#32
  let v1708 : BitVec 32 := Scalar.select v1707 c63_i32_1095 v1706
  let v1709 : BitVec 32 := Scalar.subi v1708 v1705
  let v1720 : BitVec 32 := Scalar.muli c1_i32_1102 v1709
  let c7_i32_1103 : BitVec 32 := 7#32
  let v1721 : BitVec 32 := Scalar.addi v1720 c7_i32_1103
  let c3_i32_1104 : BitVec 32 := 3#32
  let v1722 : BitVec 32 := Scalar.shrui v1721 c3_i32_1104
  let v1723 : BitVec 32 := Scalar.addi v1705 v1722
  let v1717 : BitVec 32 := Scalar.muli c0_i32_1100 v1709
  let c3_i32_1101 : BitVec 32 := 3#32
  let v1718 : BitVec 32 := Scalar.shrui v1717 c3_i32_1101
  let v1719 : BitVec 32 := Scalar.addi v1705 v1718
  let v1724 : BitVec 32 := Scalar.subi v1723 v1719
  let c1_i32_1105 : BitVec 32 := 1#32
  let v1725 : BitVec 32 := Scalar.subi v1724 c1_i32_1105
  let v1726 : Index := Scalar.indexCast v1725
  let v1727 : Index := Scalar.indexCast v1719
  let c0_1106 : Index := 0#32
  let c0_1107 : Index := 0#32
  ![v1726.toNat, v1727.toNat, 0, 0]
def k0_off19_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk9 (v1696 : BitVec 32) (v1702 : BitVec 32) : Prop :=
  (∀ (r : Fin 8), ∀ a, (k0_off19 v1696 v1702 (k0_off19_at r).1 (k0_off19_at r).2) a + S1x1x64x256.size a ≤ S6x64x64x256.size a)
theorem k0_off19_inb : ∀ (v1696 : BitVec 32) (v1702 : BitVec 32) (k0_hw9 : k0_chk9 v1696 v1702), ∀ (r : Fin 8), ∀ a, (k0_off19 v1696 v1702 (k0_off19_at r).1 (k0_off19_at r).2) a + S1x1x64x256.size a ≤ S6x64x64x256.size a := fun v1696 v1702 k0_hw9 r => k0_hw9 r

def k0_off20 (v1693 : BitVec 32) (v1699 : BitVec 32) (c0_i32_1236 : BitVec 32) : Fin 3 → Nat :=
  let c1_i32_1096 : BitVec 32 := 1#32
  let v1710 : BitVec 32 := Scalar.shrui v1699 c1_i32_1096
  let v1711 : BitVec 32 := Scalar.subi v1693 v1710
  let c0_i32_1097 : BitVec 32 := 0#32
  let v1712 : BitVec 32 := Scalar.maxsi v1711 c0_i32_1097
  let v1713 : BitVec 32 := Scalar.addi v1693 v1710
  let c64_i32_1098 : BitVec 32 := 64#32
  let v1714 : BitVec 1 := Scalar.cmpi .sgt v1713 c64_i32_1098
  let c63_i32_1099 : BitVec 32 := 63#32
  let v1715 : BitVec 32 := Scalar.select v1714 c63_i32_1099 v1713
  let v1716 : BitVec 32 := Scalar.subi v1715 v1712
  let v1886 : BitVec 32 := Scalar.muli c0_i32_1236 v1716
  let c3_i32_1237 : BitVec 32 := 3#32
  let v1887 : BitVec 32 := Scalar.shrui v1886 c3_i32_1237
  let v1888 : BitVec 32 := Scalar.addi v1712 v1887
  let c0_i32_1241 : BitVec 32 := 0#32
  let v1893 : BitVec 32 := Scalar.subi v1888 c0_i32_1241
  let c56_i32_1243 : BitVec 32 := 56#32
  let v1895 : BitVec 32 := Scalar.minsi v1893 c56_i32_1243
  let v1896 : Index := Scalar.indexCast v1895
  let c0_1244 : Index := 0#32
  let c0_1245 : Index := 0#32
  ![v1896.toNat, 0, 0]

def k0_chk10 (v1693 : BitVec 32) (v1699 : BitVec 32) : Prop :=
  (∀ (r : Fin 8), ∀ a, (k0_off20 v1693 v1699 (BitVec.ofNat 32 r.val)) a + S8x8x256.size a ≤ S64x8x256.size a)
theorem k0_off20_inb : ∀ (v1693 : BitVec 32) (v1699 : BitVec 32) (k0_hw10 : k0_chk10 v1693 v1699), ∀ (r : Fin 8), ∀ a, (k0_off20 v1693 v1699 (BitVec.ofNat 32 r.val)) a + S8x8x256.size a ≤ S64x8x256.size a := fun v1693 v1699 k0_hw10 r => k0_hw10 r

def k0_off21 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1364 : BitVec 32 := 32#32
  let v2110 : BitVec 32 := Scalar.muli v4 c32_i32_1364
  let c5_i32_1365 : BitVec 32 := 5#32
  let v2111 : BitVec 32 := Scalar.addi v2110 c5_i32_1365
  let c4_i32_1366 : BitVec 32 := 4#32
  let v2112 : BitVec 32 := Scalar.muli v2111 c4_i32_1366
  let v2113 : Index := Scalar.indexCast v2112
  ![v2113.toNat]
def k0_off22 (i : grid0.Coords) (c1_i32_1367 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1364 : BitVec 32 := 32#32
  let v2110 : BitVec 32 := Scalar.muli v4 c32_i32_1364
  let c5_i32_1365 : BitVec 32 := 5#32
  let v2111 : BitVec 32 := Scalar.addi v2110 c5_i32_1365
  let c4_i32_1366 : BitVec 32 := 4#32
  let v2112 : BitVec 32 := Scalar.muli v2111 c4_i32_1366
  let v2115 : BitVec 32 := Scalar.addi v2112 c1_i32_1367
  let v2116 : Index := Scalar.indexCast v2115
  ![v2116.toNat]
def k0_off23 (v2117 : BitVec 32) (v2123 : BitVec 32) (c1_i32_1380 : BitVec 32) (c0_i32_1378 : BitVec 32) : Fin 4 → Nat :=
  let c1_i32_1370 : BitVec 32 := 1#32
  let v2124 : BitVec 32 := Scalar.shrui v2123 c1_i32_1370
  let v2125 : BitVec 32 := Scalar.subi v2117 v2124
  let c0_i32_1371 : BitVec 32 := 0#32
  let v2126 : BitVec 32 := Scalar.maxsi v2125 c0_i32_1371
  let v2127 : BitVec 32 := Scalar.addi v2117 v2124
  let c64_i32_1372 : BitVec 32 := 64#32
  let v2128 : BitVec 1 := Scalar.cmpi .sgt v2127 c64_i32_1372
  let c63_i32_1373 : BitVec 32 := 63#32
  let v2129 : BitVec 32 := Scalar.select v2128 c63_i32_1373 v2127
  let v2130 : BitVec 32 := Scalar.subi v2129 v2126
  let v2141 : BitVec 32 := Scalar.muli c1_i32_1380 v2130
  let c7_i32_1381 : BitVec 32 := 7#32
  let v2142 : BitVec 32 := Scalar.addi v2141 c7_i32_1381
  let c3_i32_1382 : BitVec 32 := 3#32
  let v2143 : BitVec 32 := Scalar.shrui v2142 c3_i32_1382
  let v2144 : BitVec 32 := Scalar.addi v2126 v2143
  let v2138 : BitVec 32 := Scalar.muli c0_i32_1378 v2130
  let c3_i32_1379 : BitVec 32 := 3#32
  let v2139 : BitVec 32 := Scalar.shrui v2138 c3_i32_1379
  let v2140 : BitVec 32 := Scalar.addi v2126 v2139
  let v2145 : BitVec 32 := Scalar.subi v2144 v2140
  let c1_i32_1383 : BitVec 32 := 1#32
  let v2146 : BitVec 32 := Scalar.subi v2145 c1_i32_1383
  let v2147 : Index := Scalar.indexCast v2146
  let v2148 : Index := Scalar.indexCast v2140
  let c0_1384 : Index := 0#32
  let c0_1385 : Index := 0#32
  ![v2147.toNat, v2148.toNat, 0, 0]
def k0_off23_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk11 (v2117 : BitVec 32) (v2123 : BitVec 32) : Prop :=
  (∀ (r : Fin 8), ∀ a, (k0_off23 v2117 v2123 (k0_off23_at r).1 (k0_off23_at r).2) a + S1x1x64x256.size a ≤ S6x64x64x256.size a)
theorem k0_off23_inb : ∀ (v2117 : BitVec 32) (v2123 : BitVec 32) (k0_hw11 : k0_chk11 v2117 v2123), ∀ (r : Fin 8), ∀ a, (k0_off23 v2117 v2123 (k0_off23_at r).1 (k0_off23_at r).2) a + S1x1x64x256.size a ≤ S6x64x64x256.size a := fun v2117 v2123 k0_hw11 r => k0_hw11 r

def k0_off24 (v2114 : BitVec 32) (v2120 : BitVec 32) (c0_i32_1514 : BitVec 32) : Fin 3 → Nat :=
  let c1_i32_1374 : BitVec 32 := 1#32
  let v2131 : BitVec 32 := Scalar.shrui v2120 c1_i32_1374
  let v2132 : BitVec 32 := Scalar.subi v2114 v2131
  let c0_i32_1375 : BitVec 32 := 0#32
  let v2133 : BitVec 32 := Scalar.maxsi v2132 c0_i32_1375
  let v2134 : BitVec 32 := Scalar.addi v2114 v2131
  let c64_i32_1376 : BitVec 32 := 64#32
  let v2135 : BitVec 1 := Scalar.cmpi .sgt v2134 c64_i32_1376
  let c63_i32_1377 : BitVec 32 := 63#32
  let v2136 : BitVec 32 := Scalar.select v2135 c63_i32_1377 v2134
  let v2137 : BitVec 32 := Scalar.subi v2136 v2133
  let v2307 : BitVec 32 := Scalar.muli c0_i32_1514 v2137
  let c3_i32_1515 : BitVec 32 := 3#32
  let v2308 : BitVec 32 := Scalar.shrui v2307 c3_i32_1515
  let v2309 : BitVec 32 := Scalar.addi v2133 v2308
  let c0_i32_1519 : BitVec 32 := 0#32
  let v2314 : BitVec 32 := Scalar.subi v2309 c0_i32_1519
  let c56_i32_1521 : BitVec 32 := 56#32
  let v2316 : BitVec 32 := Scalar.minsi v2314 c56_i32_1521
  let v2317 : Index := Scalar.indexCast v2316
  let c0_1522 : Index := 0#32
  let c0_1523 : Index := 0#32
  ![v2317.toNat, 0, 0]

def k0_chk12 (v2114 : BitVec 32) (v2120 : BitVec 32) : Prop :=
  (∀ (r : Fin 8), ∀ a, (k0_off24 v2114 v2120 (BitVec.ofNat 32 r.val)) a + S8x8x256.size a ≤ S64x8x256.size a)
theorem k0_off24_inb : ∀ (v2114 : BitVec 32) (v2120 : BitVec 32) (k0_hw12 : k0_chk12 v2114 v2120), ∀ (r : Fin 8), ∀ a, (k0_off24 v2114 v2120 (BitVec.ofNat 32 r.val)) a + S8x8x256.size a ≤ S64x8x256.size a := fun v2114 v2120 k0_hw12 r => k0_hw12 r

def k0_off25 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1642 : BitVec 32 := 32#32
  let v2531 : BitVec 32 := Scalar.muli v4 c32_i32_1642
  let c6_i32_1643 : BitVec 32 := 6#32
  let v2532 : BitVec 32 := Scalar.addi v2531 c6_i32_1643
  let c4_i32_1644 : BitVec 32 := 4#32
  let v2533 : BitVec 32 := Scalar.muli v2532 c4_i32_1644
  let v2534 : Index := Scalar.indexCast v2533
  ![v2534.toNat]
def k0_off26 (i : grid0.Coords) (c1_i32_1645 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1642 : BitVec 32 := 32#32
  let v2531 : BitVec 32 := Scalar.muli v4 c32_i32_1642
  let c6_i32_1643 : BitVec 32 := 6#32
  let v2532 : BitVec 32 := Scalar.addi v2531 c6_i32_1643
  let c4_i32_1644 : BitVec 32 := 4#32
  let v2533 : BitVec 32 := Scalar.muli v2532 c4_i32_1644
  let v2536 : BitVec 32 := Scalar.addi v2533 c1_i32_1645
  let v2537 : Index := Scalar.indexCast v2536
  ![v2537.toNat]
def k0_off27 (v2538 : BitVec 32) (v2544 : BitVec 32) (c1_i32_1658 : BitVec 32) (c0_i32_1656 : BitVec 32) : Fin 4 → Nat :=
  let c1_i32_1648 : BitVec 32 := 1#32
  let v2545 : BitVec 32 := Scalar.shrui v2544 c1_i32_1648
  let v2546 : BitVec 32 := Scalar.subi v2538 v2545
  let c0_i32_1649 : BitVec 32 := 0#32
  let v2547 : BitVec 32 := Scalar.maxsi v2546 c0_i32_1649
  let v2548 : BitVec 32 := Scalar.addi v2538 v2545
  let c64_i32_1650 : BitVec 32 := 64#32
  let v2549 : BitVec 1 := Scalar.cmpi .sgt v2548 c64_i32_1650
  let c63_i32_1651 : BitVec 32 := 63#32
  let v2550 : BitVec 32 := Scalar.select v2549 c63_i32_1651 v2548
  let v2551 : BitVec 32 := Scalar.subi v2550 v2547
  let v2562 : BitVec 32 := Scalar.muli c1_i32_1658 v2551
  let c7_i32_1659 : BitVec 32 := 7#32
  let v2563 : BitVec 32 := Scalar.addi v2562 c7_i32_1659
  let c3_i32_1660 : BitVec 32 := 3#32
  let v2564 : BitVec 32 := Scalar.shrui v2563 c3_i32_1660
  let v2565 : BitVec 32 := Scalar.addi v2547 v2564
  let v2559 : BitVec 32 := Scalar.muli c0_i32_1656 v2551
  let c3_i32_1657 : BitVec 32 := 3#32
  let v2560 : BitVec 32 := Scalar.shrui v2559 c3_i32_1657
  let v2561 : BitVec 32 := Scalar.addi v2547 v2560
  let v2566 : BitVec 32 := Scalar.subi v2565 v2561
  let c1_i32_1661 : BitVec 32 := 1#32
  let v2567 : BitVec 32 := Scalar.subi v2566 c1_i32_1661
  let v2568 : Index := Scalar.indexCast v2567
  let v2569 : Index := Scalar.indexCast v2561
  let c0_1662 : Index := 0#32
  let c0_1663 : Index := 0#32
  ![v2568.toNat, v2569.toNat, 0, 0]
def k0_off27_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk13 (v2538 : BitVec 32) (v2544 : BitVec 32) : Prop :=
  (∀ (r : Fin 8), ∀ a, (k0_off27 v2538 v2544 (k0_off27_at r).1 (k0_off27_at r).2) a + S1x1x64x256.size a ≤ S6x64x64x256.size a)
theorem k0_off27_inb : ∀ (v2538 : BitVec 32) (v2544 : BitVec 32) (k0_hw13 : k0_chk13 v2538 v2544), ∀ (r : Fin 8), ∀ a, (k0_off27 v2538 v2544 (k0_off27_at r).1 (k0_off27_at r).2) a + S1x1x64x256.size a ≤ S6x64x64x256.size a := fun v2538 v2544 k0_hw13 r => k0_hw13 r

def k0_off28 (v2535 : BitVec 32) (v2541 : BitVec 32) (c0_i32_1792 : BitVec 32) : Fin 3 → Nat :=
  let c1_i32_1652 : BitVec 32 := 1#32
  let v2552 : BitVec 32 := Scalar.shrui v2541 c1_i32_1652
  let v2553 : BitVec 32 := Scalar.subi v2535 v2552
  let c0_i32_1653 : BitVec 32 := 0#32
  let v2554 : BitVec 32 := Scalar.maxsi v2553 c0_i32_1653
  let v2555 : BitVec 32 := Scalar.addi v2535 v2552
  let c64_i32_1654 : BitVec 32 := 64#32
  let v2556 : BitVec 1 := Scalar.cmpi .sgt v2555 c64_i32_1654
  let c63_i32_1655 : BitVec 32 := 63#32
  let v2557 : BitVec 32 := Scalar.select v2556 c63_i32_1655 v2555
  let v2558 : BitVec 32 := Scalar.subi v2557 v2554
  let v2728 : BitVec 32 := Scalar.muli c0_i32_1792 v2558
  let c3_i32_1793 : BitVec 32 := 3#32
  let v2729 : BitVec 32 := Scalar.shrui v2728 c3_i32_1793
  let v2730 : BitVec 32 := Scalar.addi v2554 v2729
  let c0_i32_1797 : BitVec 32 := 0#32
  let v2735 : BitVec 32 := Scalar.subi v2730 c0_i32_1797
  let c56_i32_1799 : BitVec 32 := 56#32
  let v2737 : BitVec 32 := Scalar.minsi v2735 c56_i32_1799
  let v2738 : Index := Scalar.indexCast v2737
  let c0_1800 : Index := 0#32
  let c0_1801 : Index := 0#32
  ![v2738.toNat, 0, 0]

def k0_chk14 (v2535 : BitVec 32) (v2541 : BitVec 32) : Prop :=
  (∀ (r : Fin 8), ∀ a, (k0_off28 v2535 v2541 (BitVec.ofNat 32 r.val)) a + S8x8x256.size a ≤ S64x8x256.size a)
theorem k0_off28_inb : ∀ (v2535 : BitVec 32) (v2541 : BitVec 32) (k0_hw14 : k0_chk14 v2535 v2541), ∀ (r : Fin 8), ∀ a, (k0_off28 v2535 v2541 (BitVec.ofNat 32 r.val)) a + S8x8x256.size a ≤ S64x8x256.size a := fun v2535 v2541 k0_hw14 r => k0_hw14 r

def k0_off29 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1920 : BitVec 32 := 32#32
  let v2952 : BitVec 32 := Scalar.muli v4 c32_i32_1920
  let c7_i32_1921 : BitVec 32 := 7#32
  let v2953 : BitVec 32 := Scalar.addi v2952 c7_i32_1921
  let c4_i32_1922 : BitVec 32 := 4#32
  let v2954 : BitVec 32 := Scalar.muli v2953 c4_i32_1922
  let v2955 : Index := Scalar.indexCast v2954
  ![v2955.toNat]
def k0_off30 (i : grid0.Coords) (c1_i32_1923 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_1920 : BitVec 32 := 32#32
  let v2952 : BitVec 32 := Scalar.muli v4 c32_i32_1920
  let c7_i32_1921 : BitVec 32 := 7#32
  let v2953 : BitVec 32 := Scalar.addi v2952 c7_i32_1921
  let c4_i32_1922 : BitVec 32 := 4#32
  let v2954 : BitVec 32 := Scalar.muli v2953 c4_i32_1922
  let v2957 : BitVec 32 := Scalar.addi v2954 c1_i32_1923
  let v2958 : Index := Scalar.indexCast v2957
  ![v2958.toNat]
def k0_off31 (v2959 : BitVec 32) (v2965 : BitVec 32) (c1_i32_1936 : BitVec 32) (c0_i32_1934 : BitVec 32) : Fin 4 → Nat :=
  let c1_i32_1926 : BitVec 32 := 1#32
  let v2966 : BitVec 32 := Scalar.shrui v2965 c1_i32_1926
  let v2967 : BitVec 32 := Scalar.subi v2959 v2966
  let c0_i32_1927 : BitVec 32 := 0#32
  let v2968 : BitVec 32 := Scalar.maxsi v2967 c0_i32_1927
  let v2969 : BitVec 32 := Scalar.addi v2959 v2966
  let c64_i32_1928 : BitVec 32 := 64#32
  let v2970 : BitVec 1 := Scalar.cmpi .sgt v2969 c64_i32_1928
  let c63_i32_1929 : BitVec 32 := 63#32
  let v2971 : BitVec 32 := Scalar.select v2970 c63_i32_1929 v2969
  let v2972 : BitVec 32 := Scalar.subi v2971 v2968
  let v2983 : BitVec 32 := Scalar.muli c1_i32_1936 v2972
  let c7_i32_1937 : BitVec 32 := 7#32
  let v2984 : BitVec 32 := Scalar.addi v2983 c7_i32_1937
  let c3_i32_1938 : BitVec 32 := 3#32
  let v2985 : BitVec 32 := Scalar.shrui v2984 c3_i32_1938
  let v2986 : BitVec 32 := Scalar.addi v2968 v2985
  let v2980 : BitVec 32 := Scalar.muli c0_i32_1934 v2972
  let c3_i32_1935 : BitVec 32 := 3#32
  let v2981 : BitVec 32 := Scalar.shrui v2980 c3_i32_1935
  let v2982 : BitVec 32 := Scalar.addi v2968 v2981
  let v2987 : BitVec 32 := Scalar.subi v2986 v2982
  let c1_i32_1939 : BitVec 32 := 1#32
  let v2988 : BitVec 32 := Scalar.subi v2987 c1_i32_1939
  let v2989 : Index := Scalar.indexCast v2988
  let v2990 : Index := Scalar.indexCast v2982
  let c0_1940 : Index := 0#32
  let c0_1941 : Index := 0#32
  ![v2989.toNat, v2990.toNat, 0, 0]
def k0_off31_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk15 (v2959 : BitVec 32) (v2965 : BitVec 32) : Prop :=
  (∀ (r : Fin 8), ∀ a, (k0_off31 v2959 v2965 (k0_off31_at r).1 (k0_off31_at r).2) a + S1x1x64x256.size a ≤ S6x64x64x256.size a)
theorem k0_off31_inb : ∀ (v2959 : BitVec 32) (v2965 : BitVec 32) (k0_hw15 : k0_chk15 v2959 v2965), ∀ (r : Fin 8), ∀ a, (k0_off31 v2959 v2965 (k0_off31_at r).1 (k0_off31_at r).2) a + S1x1x64x256.size a ≤ S6x64x64x256.size a := fun v2959 v2965 k0_hw15 r => k0_hw15 r

def k0_off32 (v2956 : BitVec 32) (v2962 : BitVec 32) (c0_i32_2070 : BitVec 32) : Fin 3 → Nat :=
  let c1_i32_1930 : BitVec 32 := 1#32
  let v2973 : BitVec 32 := Scalar.shrui v2962 c1_i32_1930
  let v2974 : BitVec 32 := Scalar.subi v2956 v2973
  let c0_i32_1931 : BitVec 32 := 0#32
  let v2975 : BitVec 32 := Scalar.maxsi v2974 c0_i32_1931
  let v2976 : BitVec 32 := Scalar.addi v2956 v2973
  let c64_i32_1932 : BitVec 32 := 64#32
  let v2977 : BitVec 1 := Scalar.cmpi .sgt v2976 c64_i32_1932
  let c63_i32_1933 : BitVec 32 := 63#32
  let v2978 : BitVec 32 := Scalar.select v2977 c63_i32_1933 v2976
  let v2979 : BitVec 32 := Scalar.subi v2978 v2975
  let v3149 : BitVec 32 := Scalar.muli c0_i32_2070 v2979
  let c3_i32_2071 : BitVec 32 := 3#32
  let v3150 : BitVec 32 := Scalar.shrui v3149 c3_i32_2071
  let v3151 : BitVec 32 := Scalar.addi v2975 v3150
  let c0_i32_2075 : BitVec 32 := 0#32
  let v3156 : BitVec 32 := Scalar.subi v3151 c0_i32_2075
  let c56_i32_2077 : BitVec 32 := 56#32
  let v3158 : BitVec 32 := Scalar.minsi v3156 c56_i32_2077
  let v3159 : Index := Scalar.indexCast v3158
  let c0_2078 : Index := 0#32
  let c0_2079 : Index := 0#32
  ![v3159.toNat, 0, 0]

def k0_chk16 (v2956 : BitVec 32) (v2962 : BitVec 32) : Prop :=
  (∀ (r : Fin 8), ∀ a, (k0_off32 v2956 v2962 (BitVec.ofNat 32 r.val)) a + S8x8x256.size a ≤ S64x8x256.size a)
theorem k0_off32_inb : ∀ (v2956 : BitVec 32) (v2962 : BitVec 32) (k0_hw16 : k0_chk16 v2956 v2962), ∀ (r : Fin 8), ∀ a, (k0_off32 v2956 v2962 (BitVec.ofNat 32 r.val)) a + S8x8x256.size a ≤ S64x8x256.size a := fun v2956 v2962 k0_hw16 r => k0_hw16 r

def k0_off33 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2198 : BitVec 32 := 32#32
  let v3373 : BitVec 32 := Scalar.muli v4 c32_i32_2198
  let c8_i32_2199 : BitVec 32 := 8#32
  let v3374 : BitVec 32 := Scalar.addi v3373 c8_i32_2199
  let c4_i32_2200 : BitVec 32 := 4#32
  let v3375 : BitVec 32 := Scalar.muli v3374 c4_i32_2200
  let v3376 : Index := Scalar.indexCast v3375
  ![v3376.toNat]
def k0_off34 (i : grid0.Coords) (c1_i32_2201 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2198 : BitVec 32 := 32#32
  let v3373 : BitVec 32 := Scalar.muli v4 c32_i32_2198
  let c8_i32_2199 : BitVec 32 := 8#32
  let v3374 : BitVec 32 := Scalar.addi v3373 c8_i32_2199
  let c4_i32_2200 : BitVec 32 := 4#32
  let v3375 : BitVec 32 := Scalar.muli v3374 c4_i32_2200
  let v3378 : BitVec 32 := Scalar.addi v3375 c1_i32_2201
  let v3379 : Index := Scalar.indexCast v3378
  ![v3379.toNat]
def k0_off35 (v3380 : BitVec 32) (v3386 : BitVec 32) (c1_i32_2214 : BitVec 32) (c0_i32_2212 : BitVec 32) : Fin 4 → Nat :=
  let c1_i32_2204 : BitVec 32 := 1#32
  let v3387 : BitVec 32 := Scalar.shrui v3386 c1_i32_2204
  let v3388 : BitVec 32 := Scalar.subi v3380 v3387
  let c0_i32_2205 : BitVec 32 := 0#32
  let v3389 : BitVec 32 := Scalar.maxsi v3388 c0_i32_2205
  let v3390 : BitVec 32 := Scalar.addi v3380 v3387
  let c64_i32_2206 : BitVec 32 := 64#32
  let v3391 : BitVec 1 := Scalar.cmpi .sgt v3390 c64_i32_2206
  let c63_i32_2207 : BitVec 32 := 63#32
  let v3392 : BitVec 32 := Scalar.select v3391 c63_i32_2207 v3390
  let v3393 : BitVec 32 := Scalar.subi v3392 v3389
  let v3404 : BitVec 32 := Scalar.muli c1_i32_2214 v3393
  let c7_i32_2215 : BitVec 32 := 7#32
  let v3405 : BitVec 32 := Scalar.addi v3404 c7_i32_2215
  let c3_i32_2216 : BitVec 32 := 3#32
  let v3406 : BitVec 32 := Scalar.shrui v3405 c3_i32_2216
  let v3407 : BitVec 32 := Scalar.addi v3389 v3406
  let v3401 : BitVec 32 := Scalar.muli c0_i32_2212 v3393
  let c3_i32_2213 : BitVec 32 := 3#32
  let v3402 : BitVec 32 := Scalar.shrui v3401 c3_i32_2213
  let v3403 : BitVec 32 := Scalar.addi v3389 v3402
  let v3408 : BitVec 32 := Scalar.subi v3407 v3403
  let c1_i32_2217 : BitVec 32 := 1#32
  let v3409 : BitVec 32 := Scalar.subi v3408 c1_i32_2217
  let v3410 : Index := Scalar.indexCast v3409
  let v3411 : Index := Scalar.indexCast v3403
  let c0_2218 : Index := 0#32
  let c0_2219 : Index := 0#32
  ![v3410.toNat, v3411.toNat, 0, 0]
def k0_off35_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk17 (v3380 : BitVec 32) (v3386 : BitVec 32) : Prop :=
  (∀ (r : Fin 8), ∀ a, (k0_off35 v3380 v3386 (k0_off35_at r).1 (k0_off35_at r).2) a + S1x1x64x256.size a ≤ S6x64x64x256.size a)
theorem k0_off35_inb : ∀ (v3380 : BitVec 32) (v3386 : BitVec 32) (k0_hw17 : k0_chk17 v3380 v3386), ∀ (r : Fin 8), ∀ a, (k0_off35 v3380 v3386 (k0_off35_at r).1 (k0_off35_at r).2) a + S1x1x64x256.size a ≤ S6x64x64x256.size a := fun v3380 v3386 k0_hw17 r => k0_hw17 r

def k0_off36 (v3377 : BitVec 32) (v3383 : BitVec 32) (c0_i32_2348 : BitVec 32) : Fin 3 → Nat :=
  let c1_i32_2208 : BitVec 32 := 1#32
  let v3394 : BitVec 32 := Scalar.shrui v3383 c1_i32_2208
  let v3395 : BitVec 32 := Scalar.subi v3377 v3394
  let c0_i32_2209 : BitVec 32 := 0#32
  let v3396 : BitVec 32 := Scalar.maxsi v3395 c0_i32_2209
  let v3397 : BitVec 32 := Scalar.addi v3377 v3394
  let c64_i32_2210 : BitVec 32 := 64#32
  let v3398 : BitVec 1 := Scalar.cmpi .sgt v3397 c64_i32_2210
  let c63_i32_2211 : BitVec 32 := 63#32
  let v3399 : BitVec 32 := Scalar.select v3398 c63_i32_2211 v3397
  let v3400 : BitVec 32 := Scalar.subi v3399 v3396
  let v3570 : BitVec 32 := Scalar.muli c0_i32_2348 v3400
  let c3_i32_2349 : BitVec 32 := 3#32
  let v3571 : BitVec 32 := Scalar.shrui v3570 c3_i32_2349
  let v3572 : BitVec 32 := Scalar.addi v3396 v3571
  let c0_i32_2353 : BitVec 32 := 0#32
  let v3577 : BitVec 32 := Scalar.subi v3572 c0_i32_2353
  let c56_i32_2355 : BitVec 32 := 56#32
  let v3579 : BitVec 32 := Scalar.minsi v3577 c56_i32_2355
  let v3580 : Index := Scalar.indexCast v3579
  let c0_2356 : Index := 0#32
  let c0_2357 : Index := 0#32
  ![v3580.toNat, 0, 0]

def k0_chk18 (v3377 : BitVec 32) (v3383 : BitVec 32) : Prop :=
  (∀ (r : Fin 8), ∀ a, (k0_off36 v3377 v3383 (BitVec.ofNat 32 r.val)) a + S8x8x256.size a ≤ S64x8x256.size a)
theorem k0_off36_inb : ∀ (v3377 : BitVec 32) (v3383 : BitVec 32) (k0_hw18 : k0_chk18 v3377 v3383), ∀ (r : Fin 8), ∀ a, (k0_off36 v3377 v3383 (BitVec.ofNat 32 r.val)) a + S8x8x256.size a ≤ S64x8x256.size a := fun v3377 v3383 k0_hw18 r => k0_hw18 r

def k0_off37 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2476 : BitVec 32 := 32#32
  let v3794 : BitVec 32 := Scalar.muli v4 c32_i32_2476
  let c9_i32 : BitVec 32 := 9#32
  let v3795 : BitVec 32 := Scalar.addi v3794 c9_i32
  let c4_i32_2477 : BitVec 32 := 4#32
  let v3796 : BitVec 32 := Scalar.muli v3795 c4_i32_2477
  let v3797 : Index := Scalar.indexCast v3796
  ![v3797.toNat]
def k0_off38 (i : grid0.Coords) (c1_i32_2478 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2476 : BitVec 32 := 32#32
  let v3794 : BitVec 32 := Scalar.muli v4 c32_i32_2476
  let c9_i32 : BitVec 32 := 9#32
  let v3795 : BitVec 32 := Scalar.addi v3794 c9_i32
  let c4_i32_2477 : BitVec 32 := 4#32
  let v3796 : BitVec 32 := Scalar.muli v3795 c4_i32_2477
  let v3799 : BitVec 32 := Scalar.addi v3796 c1_i32_2478
  let v3800 : Index := Scalar.indexCast v3799
  ![v3800.toNat]
def k0_off39 (v3801 : BitVec 32) (v3807 : BitVec 32) (c1_i32_2491 : BitVec 32) (c0_i32_2489 : BitVec 32) : Fin 4 → Nat :=
  let c1_i32_2481 : BitVec 32 := 1#32
  let v3808 : BitVec 32 := Scalar.shrui v3807 c1_i32_2481
  let v3809 : BitVec 32 := Scalar.subi v3801 v3808
  let c0_i32_2482 : BitVec 32 := 0#32
  let v3810 : BitVec 32 := Scalar.maxsi v3809 c0_i32_2482
  let v3811 : BitVec 32 := Scalar.addi v3801 v3808
  let c64_i32_2483 : BitVec 32 := 64#32
  let v3812 : BitVec 1 := Scalar.cmpi .sgt v3811 c64_i32_2483
  let c63_i32_2484 : BitVec 32 := 63#32
  let v3813 : BitVec 32 := Scalar.select v3812 c63_i32_2484 v3811
  let v3814 : BitVec 32 := Scalar.subi v3813 v3810
  let v3825 : BitVec 32 := Scalar.muli c1_i32_2491 v3814
  let c7_i32_2492 : BitVec 32 := 7#32
  let v3826 : BitVec 32 := Scalar.addi v3825 c7_i32_2492
  let c3_i32_2493 : BitVec 32 := 3#32
  let v3827 : BitVec 32 := Scalar.shrui v3826 c3_i32_2493
  let v3828 : BitVec 32 := Scalar.addi v3810 v3827
  let v3822 : BitVec 32 := Scalar.muli c0_i32_2489 v3814
  let c3_i32_2490 : BitVec 32 := 3#32
  let v3823 : BitVec 32 := Scalar.shrui v3822 c3_i32_2490
  let v3824 : BitVec 32 := Scalar.addi v3810 v3823
  let v3829 : BitVec 32 := Scalar.subi v3828 v3824
  let c1_i32_2494 : BitVec 32 := 1#32
  let v3830 : BitVec 32 := Scalar.subi v3829 c1_i32_2494
  let v3831 : Index := Scalar.indexCast v3830
  let v3832 : Index := Scalar.indexCast v3824
  let c0_2495 : Index := 0#32
  let c0_2496 : Index := 0#32
  ![v3831.toNat, v3832.toNat, 0, 0]
def k0_off39_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk19 (v3801 : BitVec 32) (v3807 : BitVec 32) : Prop :=
  (∀ (r : Fin 8), ∀ a, (k0_off39 v3801 v3807 (k0_off39_at r).1 (k0_off39_at r).2) a + S1x1x64x256.size a ≤ S6x64x64x256.size a)
theorem k0_off39_inb : ∀ (v3801 : BitVec 32) (v3807 : BitVec 32) (k0_hw19 : k0_chk19 v3801 v3807), ∀ (r : Fin 8), ∀ a, (k0_off39 v3801 v3807 (k0_off39_at r).1 (k0_off39_at r).2) a + S1x1x64x256.size a ≤ S6x64x64x256.size a := fun v3801 v3807 k0_hw19 r => k0_hw19 r

def k0_off40 (v3798 : BitVec 32) (v3804 : BitVec 32) (c0_i32_2625 : BitVec 32) : Fin 3 → Nat :=
  let c1_i32_2485 : BitVec 32 := 1#32
  let v3815 : BitVec 32 := Scalar.shrui v3804 c1_i32_2485
  let v3816 : BitVec 32 := Scalar.subi v3798 v3815
  let c0_i32_2486 : BitVec 32 := 0#32
  let v3817 : BitVec 32 := Scalar.maxsi v3816 c0_i32_2486
  let v3818 : BitVec 32 := Scalar.addi v3798 v3815
  let c64_i32_2487 : BitVec 32 := 64#32
  let v3819 : BitVec 1 := Scalar.cmpi .sgt v3818 c64_i32_2487
  let c63_i32_2488 : BitVec 32 := 63#32
  let v3820 : BitVec 32 := Scalar.select v3819 c63_i32_2488 v3818
  let v3821 : BitVec 32 := Scalar.subi v3820 v3817
  let v3991 : BitVec 32 := Scalar.muli c0_i32_2625 v3821
  let c3_i32_2626 : BitVec 32 := 3#32
  let v3992 : BitVec 32 := Scalar.shrui v3991 c3_i32_2626
  let v3993 : BitVec 32 := Scalar.addi v3817 v3992
  let c0_i32_2630 : BitVec 32 := 0#32
  let v3998 : BitVec 32 := Scalar.subi v3993 c0_i32_2630
  let c56_i32_2632 : BitVec 32 := 56#32
  let v4000 : BitVec 32 := Scalar.minsi v3998 c56_i32_2632
  let v4001 : Index := Scalar.indexCast v4000
  let c0_2633 : Index := 0#32
  let c0_2634 : Index := 0#32
  ![v4001.toNat, 0, 0]

def k0_chk20 (v3798 : BitVec 32) (v3804 : BitVec 32) : Prop :=
  (∀ (r : Fin 8), ∀ a, (k0_off40 v3798 v3804 (BitVec.ofNat 32 r.val)) a + S8x8x256.size a ≤ S64x8x256.size a)
theorem k0_off40_inb : ∀ (v3798 : BitVec 32) (v3804 : BitVec 32) (k0_hw20 : k0_chk20 v3798 v3804), ∀ (r : Fin 8), ∀ a, (k0_off40 v3798 v3804 (BitVec.ofNat 32 r.val)) a + S8x8x256.size a ≤ S64x8x256.size a := fun v3798 v3804 k0_hw20 r => k0_hw20 r

def k0_off41 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2752 : BitVec 32 := 32#32
  let v4215 : BitVec 32 := Scalar.muli v4 c32_i32_2752
  let c10_i32 : BitVec 32 := 10#32
  let v4216 : BitVec 32 := Scalar.addi v4215 c10_i32
  let c4_i32_2753 : BitVec 32 := 4#32
  let v4217 : BitVec 32 := Scalar.muli v4216 c4_i32_2753
  let v4218 : Index := Scalar.indexCast v4217
  ![v4218.toNat]
def k0_off42 (i : grid0.Coords) (c1_i32_2754 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2752 : BitVec 32 := 32#32
  let v4215 : BitVec 32 := Scalar.muli v4 c32_i32_2752
  let c10_i32 : BitVec 32 := 10#32
  let v4216 : BitVec 32 := Scalar.addi v4215 c10_i32
  let c4_i32_2753 : BitVec 32 := 4#32
  let v4217 : BitVec 32 := Scalar.muli v4216 c4_i32_2753
  let v4220 : BitVec 32 := Scalar.addi v4217 c1_i32_2754
  let v4221 : Index := Scalar.indexCast v4220
  ![v4221.toNat]
def k0_off43 (v4222 : BitVec 32) (v4228 : BitVec 32) (c1_i32_2767 : BitVec 32) (c0_i32_2765 : BitVec 32) : Fin 4 → Nat :=
  let c1_i32_2757 : BitVec 32 := 1#32
  let v4229 : BitVec 32 := Scalar.shrui v4228 c1_i32_2757
  let v4230 : BitVec 32 := Scalar.subi v4222 v4229
  let c0_i32_2758 : BitVec 32 := 0#32
  let v4231 : BitVec 32 := Scalar.maxsi v4230 c0_i32_2758
  let v4232 : BitVec 32 := Scalar.addi v4222 v4229
  let c64_i32_2759 : BitVec 32 := 64#32
  let v4233 : BitVec 1 := Scalar.cmpi .sgt v4232 c64_i32_2759
  let c63_i32_2760 : BitVec 32 := 63#32
  let v4234 : BitVec 32 := Scalar.select v4233 c63_i32_2760 v4232
  let v4235 : BitVec 32 := Scalar.subi v4234 v4231
  let v4246 : BitVec 32 := Scalar.muli c1_i32_2767 v4235
  let c7_i32_2768 : BitVec 32 := 7#32
  let v4247 : BitVec 32 := Scalar.addi v4246 c7_i32_2768
  let c3_i32_2769 : BitVec 32 := 3#32
  let v4248 : BitVec 32 := Scalar.shrui v4247 c3_i32_2769
  let v4249 : BitVec 32 := Scalar.addi v4231 v4248
  let v4243 : BitVec 32 := Scalar.muli c0_i32_2765 v4235
  let c3_i32_2766 : BitVec 32 := 3#32
  let v4244 : BitVec 32 := Scalar.shrui v4243 c3_i32_2766
  let v4245 : BitVec 32 := Scalar.addi v4231 v4244
  let v4250 : BitVec 32 := Scalar.subi v4249 v4245
  let c1_i32_2770 : BitVec 32 := 1#32
  let v4251 : BitVec 32 := Scalar.subi v4250 c1_i32_2770
  let v4252 : Index := Scalar.indexCast v4251
  let v4253 : Index := Scalar.indexCast v4245
  let c0_2771 : Index := 0#32
  let c0_2772 : Index := 0#32
  ![v4252.toNat, v4253.toNat, 0, 0]
def k0_off43_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk21 (v4222 : BitVec 32) (v4228 : BitVec 32) : Prop :=
  (∀ (r : Fin 8), ∀ a, (k0_off43 v4222 v4228 (k0_off43_at r).1 (k0_off43_at r).2) a + S1x1x64x256.size a ≤ S6x64x64x256.size a)
theorem k0_off43_inb : ∀ (v4222 : BitVec 32) (v4228 : BitVec 32) (k0_hw21 : k0_chk21 v4222 v4228), ∀ (r : Fin 8), ∀ a, (k0_off43 v4222 v4228 (k0_off43_at r).1 (k0_off43_at r).2) a + S1x1x64x256.size a ≤ S6x64x64x256.size a := fun v4222 v4228 k0_hw21 r => k0_hw21 r

def k0_off44 (v4219 : BitVec 32) (v4225 : BitVec 32) (c0_i32_2901 : BitVec 32) : Fin 3 → Nat :=
  let c1_i32_2761 : BitVec 32 := 1#32
  let v4236 : BitVec 32 := Scalar.shrui v4225 c1_i32_2761
  let v4237 : BitVec 32 := Scalar.subi v4219 v4236
  let c0_i32_2762 : BitVec 32 := 0#32
  let v4238 : BitVec 32 := Scalar.maxsi v4237 c0_i32_2762
  let v4239 : BitVec 32 := Scalar.addi v4219 v4236
  let c64_i32_2763 : BitVec 32 := 64#32
  let v4240 : BitVec 1 := Scalar.cmpi .sgt v4239 c64_i32_2763
  let c63_i32_2764 : BitVec 32 := 63#32
  let v4241 : BitVec 32 := Scalar.select v4240 c63_i32_2764 v4239
  let v4242 : BitVec 32 := Scalar.subi v4241 v4238
  let v4412 : BitVec 32 := Scalar.muli c0_i32_2901 v4242
  let c3_i32_2902 : BitVec 32 := 3#32
  let v4413 : BitVec 32 := Scalar.shrui v4412 c3_i32_2902
  let v4414 : BitVec 32 := Scalar.addi v4238 v4413
  let c0_i32_2906 : BitVec 32 := 0#32
  let v4419 : BitVec 32 := Scalar.subi v4414 c0_i32_2906
  let c56_i32_2908 : BitVec 32 := 56#32
  let v4421 : BitVec 32 := Scalar.minsi v4419 c56_i32_2908
  let v4422 : Index := Scalar.indexCast v4421
  let c0_2909 : Index := 0#32
  let c0_2910 : Index := 0#32
  ![v4422.toNat, 0, 0]

def k0_chk22 (v4219 : BitVec 32) (v4225 : BitVec 32) : Prop :=
  (∀ (r : Fin 8), ∀ a, (k0_off44 v4219 v4225 (BitVec.ofNat 32 r.val)) a + S8x8x256.size a ≤ S64x8x256.size a)
theorem k0_off44_inb : ∀ (v4219 : BitVec 32) (v4225 : BitVec 32) (k0_hw22 : k0_chk22 v4219 v4225), ∀ (r : Fin 8), ∀ a, (k0_off44 v4219 v4225 (BitVec.ofNat 32 r.val)) a + S8x8x256.size a ≤ S64x8x256.size a := fun v4219 v4225 k0_hw22 r => k0_hw22 r

def k0_off45 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3028 : BitVec 32 := 32#32
  let v4636 : BitVec 32 := Scalar.muli v4 c32_i32_3028
  let c11_i32 : BitVec 32 := 11#32
  let v4637 : BitVec 32 := Scalar.addi v4636 c11_i32
  let c4_i32_3029 : BitVec 32 := 4#32
  let v4638 : BitVec 32 := Scalar.muli v4637 c4_i32_3029
  let v4639 : Index := Scalar.indexCast v4638
  ![v4639.toNat]
def k0_off46 (i : grid0.Coords) (c1_i32_3030 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3028 : BitVec 32 := 32#32
  let v4636 : BitVec 32 := Scalar.muli v4 c32_i32_3028
  let c11_i32 : BitVec 32 := 11#32
  let v4637 : BitVec 32 := Scalar.addi v4636 c11_i32
  let c4_i32_3029 : BitVec 32 := 4#32
  let v4638 : BitVec 32 := Scalar.muli v4637 c4_i32_3029
  let v4641 : BitVec 32 := Scalar.addi v4638 c1_i32_3030
  let v4642 : Index := Scalar.indexCast v4641
  ![v4642.toNat]
def k0_off47 (v4643 : BitVec 32) (v4649 : BitVec 32) (c1_i32_3043 : BitVec 32) (c0_i32_3041 : BitVec 32) : Fin 4 → Nat :=
  let c1_i32_3033 : BitVec 32 := 1#32
  let v4650 : BitVec 32 := Scalar.shrui v4649 c1_i32_3033
  let v4651 : BitVec 32 := Scalar.subi v4643 v4650
  let c0_i32_3034 : BitVec 32 := 0#32
  let v4652 : BitVec 32 := Scalar.maxsi v4651 c0_i32_3034
  let v4653 : BitVec 32 := Scalar.addi v4643 v4650
  let c64_i32_3035 : BitVec 32 := 64#32
  let v4654 : BitVec 1 := Scalar.cmpi .sgt v4653 c64_i32_3035
  let c63_i32_3036 : BitVec 32 := 63#32
  let v4655 : BitVec 32 := Scalar.select v4654 c63_i32_3036 v4653
  let v4656 : BitVec 32 := Scalar.subi v4655 v4652
  let v4667 : BitVec 32 := Scalar.muli c1_i32_3043 v4656
  let c7_i32_3044 : BitVec 32 := 7#32
  let v4668 : BitVec 32 := Scalar.addi v4667 c7_i32_3044
  let c3_i32_3045 : BitVec 32 := 3#32
  let v4669 : BitVec 32 := Scalar.shrui v4668 c3_i32_3045
  let v4670 : BitVec 32 := Scalar.addi v4652 v4669
  let v4664 : BitVec 32 := Scalar.muli c0_i32_3041 v4656
  let c3_i32_3042 : BitVec 32 := 3#32
  let v4665 : BitVec 32 := Scalar.shrui v4664 c3_i32_3042
  let v4666 : BitVec 32 := Scalar.addi v4652 v4665
  let v4671 : BitVec 32 := Scalar.subi v4670 v4666
  let c1_i32_3046 : BitVec 32 := 1#32
  let v4672 : BitVec 32 := Scalar.subi v4671 c1_i32_3046
  let v4673 : Index := Scalar.indexCast v4672
  let v4674 : Index := Scalar.indexCast v4666
  let c0_3047 : Index := 0#32
  let c0_3048 : Index := 0#32
  ![v4673.toNat, v4674.toNat, 0, 0]
def k0_off47_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk23 (v4643 : BitVec 32) (v4649 : BitVec 32) : Prop :=
  (∀ (r : Fin 8), ∀ a, (k0_off47 v4643 v4649 (k0_off47_at r).1 (k0_off47_at r).2) a + S1x1x64x256.size a ≤ S6x64x64x256.size a)
theorem k0_off47_inb : ∀ (v4643 : BitVec 32) (v4649 : BitVec 32) (k0_hw23 : k0_chk23 v4643 v4649), ∀ (r : Fin 8), ∀ a, (k0_off47 v4643 v4649 (k0_off47_at r).1 (k0_off47_at r).2) a + S1x1x64x256.size a ≤ S6x64x64x256.size a := fun v4643 v4649 k0_hw23 r => k0_hw23 r

def k0_off48 (v4640 : BitVec 32) (v4646 : BitVec 32) (c0_i32_3177 : BitVec 32) : Fin 3 → Nat :=
  let c1_i32_3037 : BitVec 32 := 1#32
  let v4657 : BitVec 32 := Scalar.shrui v4646 c1_i32_3037
  let v4658 : BitVec 32 := Scalar.subi v4640 v4657
  let c0_i32_3038 : BitVec 32 := 0#32
  let v4659 : BitVec 32 := Scalar.maxsi v4658 c0_i32_3038
  let v4660 : BitVec 32 := Scalar.addi v4640 v4657
  let c64_i32_3039 : BitVec 32 := 64#32
  let v4661 : BitVec 1 := Scalar.cmpi .sgt v4660 c64_i32_3039
  let c63_i32_3040 : BitVec 32 := 63#32
  let v4662 : BitVec 32 := Scalar.select v4661 c63_i32_3040 v4660
  let v4663 : BitVec 32 := Scalar.subi v4662 v4659
  let v4833 : BitVec 32 := Scalar.muli c0_i32_3177 v4663
  let c3_i32_3178 : BitVec 32 := 3#32
  let v4834 : BitVec 32 := Scalar.shrui v4833 c3_i32_3178
  let v4835 : BitVec 32 := Scalar.addi v4659 v4834
  let c0_i32_3182 : BitVec 32 := 0#32
  let v4840 : BitVec 32 := Scalar.subi v4835 c0_i32_3182
  let c56_i32_3184 : BitVec 32 := 56#32
  let v4842 : BitVec 32 := Scalar.minsi v4840 c56_i32_3184
  let v4843 : Index := Scalar.indexCast v4842
  let c0_3185 : Index := 0#32
  let c0_3186 : Index := 0#32
  ![v4843.toNat, 0, 0]

def k0_chk24 (v4640 : BitVec 32) (v4646 : BitVec 32) : Prop :=
  (∀ (r : Fin 8), ∀ a, (k0_off48 v4640 v4646 (BitVec.ofNat 32 r.val)) a + S8x8x256.size a ≤ S64x8x256.size a)
theorem k0_off48_inb : ∀ (v4640 : BitVec 32) (v4646 : BitVec 32) (k0_hw24 : k0_chk24 v4640 v4646), ∀ (r : Fin 8), ∀ a, (k0_off48 v4640 v4646 (BitVec.ofNat 32 r.val)) a + S8x8x256.size a ≤ S64x8x256.size a := fun v4640 v4646 k0_hw24 r => k0_hw24 r

def k0_off49 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3304 : BitVec 32 := 32#32
  let v5057 : BitVec 32 := Scalar.muli v4 c32_i32_3304
  let c12_i32 : BitVec 32 := 12#32
  let v5058 : BitVec 32 := Scalar.addi v5057 c12_i32
  let c4_i32_3305 : BitVec 32 := 4#32
  let v5059 : BitVec 32 := Scalar.muli v5058 c4_i32_3305
  let v5060 : Index := Scalar.indexCast v5059
  ![v5060.toNat]
def k0_off50 (i : grid0.Coords) (c1_i32_3306 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3304 : BitVec 32 := 32#32
  let v5057 : BitVec 32 := Scalar.muli v4 c32_i32_3304
  let c12_i32 : BitVec 32 := 12#32
  let v5058 : BitVec 32 := Scalar.addi v5057 c12_i32
  let c4_i32_3305 : BitVec 32 := 4#32
  let v5059 : BitVec 32 := Scalar.muli v5058 c4_i32_3305
  let v5062 : BitVec 32 := Scalar.addi v5059 c1_i32_3306
  let v5063 : Index := Scalar.indexCast v5062
  ![v5063.toNat]
def k0_off51 (v5064 : BitVec 32) (v5070 : BitVec 32) (c1_i32_3319 : BitVec 32) (c0_i32_3317 : BitVec 32) : Fin 4 → Nat :=
  let c1_i32_3309 : BitVec 32 := 1#32
  let v5071 : BitVec 32 := Scalar.shrui v5070 c1_i32_3309
  let v5072 : BitVec 32 := Scalar.subi v5064 v5071
  let c0_i32_3310 : BitVec 32 := 0#32
  let v5073 : BitVec 32 := Scalar.maxsi v5072 c0_i32_3310
  let v5074 : BitVec 32 := Scalar.addi v5064 v5071
  let c64_i32_3311 : BitVec 32 := 64#32
  let v5075 : BitVec 1 := Scalar.cmpi .sgt v5074 c64_i32_3311
  let c63_i32_3312 : BitVec 32 := 63#32
  let v5076 : BitVec 32 := Scalar.select v5075 c63_i32_3312 v5074
  let v5077 : BitVec 32 := Scalar.subi v5076 v5073
  let v5088 : BitVec 32 := Scalar.muli c1_i32_3319 v5077
  let c7_i32_3320 : BitVec 32 := 7#32
  let v5089 : BitVec 32 := Scalar.addi v5088 c7_i32_3320
  let c3_i32_3321 : BitVec 32 := 3#32
  let v5090 : BitVec 32 := Scalar.shrui v5089 c3_i32_3321
  let v5091 : BitVec 32 := Scalar.addi v5073 v5090
  let v5085 : BitVec 32 := Scalar.muli c0_i32_3317 v5077
  let c3_i32_3318 : BitVec 32 := 3#32
  let v5086 : BitVec 32 := Scalar.shrui v5085 c3_i32_3318
  let v5087 : BitVec 32 := Scalar.addi v5073 v5086
  let v5092 : BitVec 32 := Scalar.subi v5091 v5087
  let c1_i32_3322 : BitVec 32 := 1#32
  let v5093 : BitVec 32 := Scalar.subi v5092 c1_i32_3322
  let v5094 : Index := Scalar.indexCast v5093
  let v5095 : Index := Scalar.indexCast v5087
  let c0_3323 : Index := 0#32
  let c0_3324 : Index := 0#32
  ![v5094.toNat, v5095.toNat, 0, 0]
def k0_off51_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk25 (v5064 : BitVec 32) (v5070 : BitVec 32) : Prop :=
  (∀ (r : Fin 8), ∀ a, (k0_off51 v5064 v5070 (k0_off51_at r).1 (k0_off51_at r).2) a + S1x1x64x256.size a ≤ S6x64x64x256.size a)
theorem k0_off51_inb : ∀ (v5064 : BitVec 32) (v5070 : BitVec 32) (k0_hw25 : k0_chk25 v5064 v5070), ∀ (r : Fin 8), ∀ a, (k0_off51 v5064 v5070 (k0_off51_at r).1 (k0_off51_at r).2) a + S1x1x64x256.size a ≤ S6x64x64x256.size a := fun v5064 v5070 k0_hw25 r => k0_hw25 r

def k0_off52 (v5061 : BitVec 32) (v5067 : BitVec 32) (c0_i32_3453 : BitVec 32) : Fin 3 → Nat :=
  let c1_i32_3313 : BitVec 32 := 1#32
  let v5078 : BitVec 32 := Scalar.shrui v5067 c1_i32_3313
  let v5079 : BitVec 32 := Scalar.subi v5061 v5078
  let c0_i32_3314 : BitVec 32 := 0#32
  let v5080 : BitVec 32 := Scalar.maxsi v5079 c0_i32_3314
  let v5081 : BitVec 32 := Scalar.addi v5061 v5078
  let c64_i32_3315 : BitVec 32 := 64#32
  let v5082 : BitVec 1 := Scalar.cmpi .sgt v5081 c64_i32_3315
  let c63_i32_3316 : BitVec 32 := 63#32
  let v5083 : BitVec 32 := Scalar.select v5082 c63_i32_3316 v5081
  let v5084 : BitVec 32 := Scalar.subi v5083 v5080
  let v5254 : BitVec 32 := Scalar.muli c0_i32_3453 v5084
  let c3_i32_3454 : BitVec 32 := 3#32
  let v5255 : BitVec 32 := Scalar.shrui v5254 c3_i32_3454
  let v5256 : BitVec 32 := Scalar.addi v5080 v5255
  let c0_i32_3458 : BitVec 32 := 0#32
  let v5261 : BitVec 32 := Scalar.subi v5256 c0_i32_3458
  let c56_i32_3460 : BitVec 32 := 56#32
  let v5263 : BitVec 32 := Scalar.minsi v5261 c56_i32_3460
  let v5264 : Index := Scalar.indexCast v5263
  let c0_3461 : Index := 0#32
  let c0_3462 : Index := 0#32
  ![v5264.toNat, 0, 0]

def k0_chk26 (v5061 : BitVec 32) (v5067 : BitVec 32) : Prop :=
  (∀ (r : Fin 8), ∀ a, (k0_off52 v5061 v5067 (BitVec.ofNat 32 r.val)) a + S8x8x256.size a ≤ S64x8x256.size a)
theorem k0_off52_inb : ∀ (v5061 : BitVec 32) (v5067 : BitVec 32) (k0_hw26 : k0_chk26 v5061 v5067), ∀ (r : Fin 8), ∀ a, (k0_off52 v5061 v5067 (BitVec.ofNat 32 r.val)) a + S8x8x256.size a ≤ S64x8x256.size a := fun v5061 v5067 k0_hw26 r => k0_hw26 r

def k0_off53 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3580 : BitVec 32 := 32#32
  let v5478 : BitVec 32 := Scalar.muli v4 c32_i32_3580
  let c13_i32 : BitVec 32 := 13#32
  let v5479 : BitVec 32 := Scalar.addi v5478 c13_i32
  let c4_i32_3581 : BitVec 32 := 4#32
  let v5480 : BitVec 32 := Scalar.muli v5479 c4_i32_3581
  let v5481 : Index := Scalar.indexCast v5480
  ![v5481.toNat]
def k0_off54 (i : grid0.Coords) (c1_i32_3582 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3580 : BitVec 32 := 32#32
  let v5478 : BitVec 32 := Scalar.muli v4 c32_i32_3580
  let c13_i32 : BitVec 32 := 13#32
  let v5479 : BitVec 32 := Scalar.addi v5478 c13_i32
  let c4_i32_3581 : BitVec 32 := 4#32
  let v5480 : BitVec 32 := Scalar.muli v5479 c4_i32_3581
  let v5483 : BitVec 32 := Scalar.addi v5480 c1_i32_3582
  let v5484 : Index := Scalar.indexCast v5483
  ![v5484.toNat]
def k0_off55 (v5485 : BitVec 32) (v5491 : BitVec 32) (c1_i32_3595 : BitVec 32) (c0_i32_3593 : BitVec 32) : Fin 4 → Nat :=
  let c1_i32_3585 : BitVec 32 := 1#32
  let v5492 : BitVec 32 := Scalar.shrui v5491 c1_i32_3585
  let v5493 : BitVec 32 := Scalar.subi v5485 v5492
  let c0_i32_3586 : BitVec 32 := 0#32
  let v5494 : BitVec 32 := Scalar.maxsi v5493 c0_i32_3586
  let v5495 : BitVec 32 := Scalar.addi v5485 v5492
  let c64_i32_3587 : BitVec 32 := 64#32
  let v5496 : BitVec 1 := Scalar.cmpi .sgt v5495 c64_i32_3587
  let c63_i32_3588 : BitVec 32 := 63#32
  let v5497 : BitVec 32 := Scalar.select v5496 c63_i32_3588 v5495
  let v5498 : BitVec 32 := Scalar.subi v5497 v5494
  let v5509 : BitVec 32 := Scalar.muli c1_i32_3595 v5498
  let c7_i32_3596 : BitVec 32 := 7#32
  let v5510 : BitVec 32 := Scalar.addi v5509 c7_i32_3596
  let c3_i32_3597 : BitVec 32 := 3#32
  let v5511 : BitVec 32 := Scalar.shrui v5510 c3_i32_3597
  let v5512 : BitVec 32 := Scalar.addi v5494 v5511
  let v5506 : BitVec 32 := Scalar.muli c0_i32_3593 v5498
  let c3_i32_3594 : BitVec 32 := 3#32
  let v5507 : BitVec 32 := Scalar.shrui v5506 c3_i32_3594
  let v5508 : BitVec 32 := Scalar.addi v5494 v5507
  let v5513 : BitVec 32 := Scalar.subi v5512 v5508
  let c1_i32_3598 : BitVec 32 := 1#32
  let v5514 : BitVec 32 := Scalar.subi v5513 c1_i32_3598
  let v5515 : Index := Scalar.indexCast v5514
  let v5516 : Index := Scalar.indexCast v5508
  let c0_3599 : Index := 0#32
  let c0_3600 : Index := 0#32
  ![v5515.toNat, v5516.toNat, 0, 0]
def k0_off55_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk27 (v5485 : BitVec 32) (v5491 : BitVec 32) : Prop :=
  (∀ (r : Fin 8), ∀ a, (k0_off55 v5485 v5491 (k0_off55_at r).1 (k0_off55_at r).2) a + S1x1x64x256.size a ≤ S6x64x64x256.size a)
theorem k0_off55_inb : ∀ (v5485 : BitVec 32) (v5491 : BitVec 32) (k0_hw27 : k0_chk27 v5485 v5491), ∀ (r : Fin 8), ∀ a, (k0_off55 v5485 v5491 (k0_off55_at r).1 (k0_off55_at r).2) a + S1x1x64x256.size a ≤ S6x64x64x256.size a := fun v5485 v5491 k0_hw27 r => k0_hw27 r

def k0_off56 (v5482 : BitVec 32) (v5488 : BitVec 32) (c0_i32_3729 : BitVec 32) : Fin 3 → Nat :=
  let c1_i32_3589 : BitVec 32 := 1#32
  let v5499 : BitVec 32 := Scalar.shrui v5488 c1_i32_3589
  let v5500 : BitVec 32 := Scalar.subi v5482 v5499
  let c0_i32_3590 : BitVec 32 := 0#32
  let v5501 : BitVec 32 := Scalar.maxsi v5500 c0_i32_3590
  let v5502 : BitVec 32 := Scalar.addi v5482 v5499
  let c64_i32_3591 : BitVec 32 := 64#32
  let v5503 : BitVec 1 := Scalar.cmpi .sgt v5502 c64_i32_3591
  let c63_i32_3592 : BitVec 32 := 63#32
  let v5504 : BitVec 32 := Scalar.select v5503 c63_i32_3592 v5502
  let v5505 : BitVec 32 := Scalar.subi v5504 v5501
  let v5675 : BitVec 32 := Scalar.muli c0_i32_3729 v5505
  let c3_i32_3730 : BitVec 32 := 3#32
  let v5676 : BitVec 32 := Scalar.shrui v5675 c3_i32_3730
  let v5677 : BitVec 32 := Scalar.addi v5501 v5676
  let c0_i32_3734 : BitVec 32 := 0#32
  let v5682 : BitVec 32 := Scalar.subi v5677 c0_i32_3734
  let c56_i32_3736 : BitVec 32 := 56#32
  let v5684 : BitVec 32 := Scalar.minsi v5682 c56_i32_3736
  let v5685 : Index := Scalar.indexCast v5684
  let c0_3737 : Index := 0#32
  let c0_3738 : Index := 0#32
  ![v5685.toNat, 0, 0]

def k0_chk28 (v5482 : BitVec 32) (v5488 : BitVec 32) : Prop :=
  (∀ (r : Fin 8), ∀ a, (k0_off56 v5482 v5488 (BitVec.ofNat 32 r.val)) a + S8x8x256.size a ≤ S64x8x256.size a)
theorem k0_off56_inb : ∀ (v5482 : BitVec 32) (v5488 : BitVec 32) (k0_hw28 : k0_chk28 v5482 v5488), ∀ (r : Fin 8), ∀ a, (k0_off56 v5482 v5488 (BitVec.ofNat 32 r.val)) a + S8x8x256.size a ≤ S64x8x256.size a := fun v5482 v5488 k0_hw28 r => k0_hw28 r

def k0_off57 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3856 : BitVec 32 := 32#32
  let v5899 : BitVec 32 := Scalar.muli v4 c32_i32_3856
  let c14_i32 : BitVec 32 := 14#32
  let v5900 : BitVec 32 := Scalar.addi v5899 c14_i32
  let c4_i32_3857 : BitVec 32 := 4#32
  let v5901 : BitVec 32 := Scalar.muli v5900 c4_i32_3857
  let v5902 : Index := Scalar.indexCast v5901
  ![v5902.toNat]
def k0_off58 (i : grid0.Coords) (c1_i32_3858 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_3856 : BitVec 32 := 32#32
  let v5899 : BitVec 32 := Scalar.muli v4 c32_i32_3856
  let c14_i32 : BitVec 32 := 14#32
  let v5900 : BitVec 32 := Scalar.addi v5899 c14_i32
  let c4_i32_3857 : BitVec 32 := 4#32
  let v5901 : BitVec 32 := Scalar.muli v5900 c4_i32_3857
  let v5904 : BitVec 32 := Scalar.addi v5901 c1_i32_3858
  let v5905 : Index := Scalar.indexCast v5904
  ![v5905.toNat]
def k0_off59 (v5906 : BitVec 32) (v5912 : BitVec 32) (c1_i32_3871 : BitVec 32) (c0_i32_3869 : BitVec 32) : Fin 4 → Nat :=
  let c1_i32_3861 : BitVec 32 := 1#32
  let v5913 : BitVec 32 := Scalar.shrui v5912 c1_i32_3861
  let v5914 : BitVec 32 := Scalar.subi v5906 v5913
  let c0_i32_3862 : BitVec 32 := 0#32
  let v5915 : BitVec 32 := Scalar.maxsi v5914 c0_i32_3862
  let v5916 : BitVec 32 := Scalar.addi v5906 v5913
  let c64_i32_3863 : BitVec 32 := 64#32
  let v5917 : BitVec 1 := Scalar.cmpi .sgt v5916 c64_i32_3863
  let c63_i32_3864 : BitVec 32 := 63#32
  let v5918 : BitVec 32 := Scalar.select v5917 c63_i32_3864 v5916
  let v5919 : BitVec 32 := Scalar.subi v5918 v5915
  let v5930 : BitVec 32 := Scalar.muli c1_i32_3871 v5919
  let c7_i32_3872 : BitVec 32 := 7#32
  let v5931 : BitVec 32 := Scalar.addi v5930 c7_i32_3872
  let c3_i32_3873 : BitVec 32 := 3#32
  let v5932 : BitVec 32 := Scalar.shrui v5931 c3_i32_3873
  let v5933 : BitVec 32 := Scalar.addi v5915 v5932
  let v5927 : BitVec 32 := Scalar.muli c0_i32_3869 v5919
  let c3_i32_3870 : BitVec 32 := 3#32
  let v5928 : BitVec 32 := Scalar.shrui v5927 c3_i32_3870
  let v5929 : BitVec 32 := Scalar.addi v5915 v5928
  let v5934 : BitVec 32 := Scalar.subi v5933 v5929
  let c1_i32_3874 : BitVec 32 := 1#32
  let v5935 : BitVec 32 := Scalar.subi v5934 c1_i32_3874
  let v5936 : Index := Scalar.indexCast v5935
  let v5937 : Index := Scalar.indexCast v5929
  let c0_3875 : Index := 0#32
  let c0_3876 : Index := 0#32
  ![v5936.toNat, v5937.toNat, 0, 0]
def k0_off59_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk29 (v5906 : BitVec 32) (v5912 : BitVec 32) : Prop :=
  (∀ (r : Fin 8), ∀ a, (k0_off59 v5906 v5912 (k0_off59_at r).1 (k0_off59_at r).2) a + S1x1x64x256.size a ≤ S6x64x64x256.size a)
theorem k0_off59_inb : ∀ (v5906 : BitVec 32) (v5912 : BitVec 32) (k0_hw29 : k0_chk29 v5906 v5912), ∀ (r : Fin 8), ∀ a, (k0_off59 v5906 v5912 (k0_off59_at r).1 (k0_off59_at r).2) a + S1x1x64x256.size a ≤ S6x64x64x256.size a := fun v5906 v5912 k0_hw29 r => k0_hw29 r

def k0_off60 (v5903 : BitVec 32) (v5909 : BitVec 32) (c0_i32_4005 : BitVec 32) : Fin 3 → Nat :=
  let c1_i32_3865 : BitVec 32 := 1#32
  let v5920 : BitVec 32 := Scalar.shrui v5909 c1_i32_3865
  let v5921 : BitVec 32 := Scalar.subi v5903 v5920
  let c0_i32_3866 : BitVec 32 := 0#32
  let v5922 : BitVec 32 := Scalar.maxsi v5921 c0_i32_3866
  let v5923 : BitVec 32 := Scalar.addi v5903 v5920
  let c64_i32_3867 : BitVec 32 := 64#32
  let v5924 : BitVec 1 := Scalar.cmpi .sgt v5923 c64_i32_3867
  let c63_i32_3868 : BitVec 32 := 63#32
  let v5925 : BitVec 32 := Scalar.select v5924 c63_i32_3868 v5923
  let v5926 : BitVec 32 := Scalar.subi v5925 v5922
  let v6096 : BitVec 32 := Scalar.muli c0_i32_4005 v5926
  let c3_i32_4006 : BitVec 32 := 3#32
  let v6097 : BitVec 32 := Scalar.shrui v6096 c3_i32_4006
  let v6098 : BitVec 32 := Scalar.addi v5922 v6097
  let c0_i32_4010 : BitVec 32 := 0#32
  let v6103 : BitVec 32 := Scalar.subi v6098 c0_i32_4010
  let c56_i32_4012 : BitVec 32 := 56#32
  let v6105 : BitVec 32 := Scalar.minsi v6103 c56_i32_4012
  let v6106 : Index := Scalar.indexCast v6105
  let c0_4013 : Index := 0#32
  let c0_4014 : Index := 0#32
  ![v6106.toNat, 0, 0]

def k0_chk30 (v5903 : BitVec 32) (v5909 : BitVec 32) : Prop :=
  (∀ (r : Fin 8), ∀ a, (k0_off60 v5903 v5909 (BitVec.ofNat 32 r.val)) a + S8x8x256.size a ≤ S64x8x256.size a)
theorem k0_off60_inb : ∀ (v5903 : BitVec 32) (v5909 : BitVec 32) (k0_hw30 : k0_chk30 v5903 v5909), ∀ (r : Fin 8), ∀ a, (k0_off60 v5903 v5909 (BitVec.ofNat 32 r.val)) a + S8x8x256.size a ≤ S64x8x256.size a := fun v5903 v5909 k0_hw30 r => k0_hw30 r

def k0_off61 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4132 : BitVec 32 := 32#32
  let v6320 : BitVec 32 := Scalar.muli v4 c32_i32_4132
  let c15_i32 : BitVec 32 := 15#32
  let v6321 : BitVec 32 := Scalar.addi v6320 c15_i32
  let c4_i32_4133 : BitVec 32 := 4#32
  let v6322 : BitVec 32 := Scalar.muli v6321 c4_i32_4133
  let v6323 : Index := Scalar.indexCast v6322
  ![v6323.toNat]
def k0_off62 (i : grid0.Coords) (c1_i32_4134 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4132 : BitVec 32 := 32#32
  let v6320 : BitVec 32 := Scalar.muli v4 c32_i32_4132
  let c15_i32 : BitVec 32 := 15#32
  let v6321 : BitVec 32 := Scalar.addi v6320 c15_i32
  let c4_i32_4133 : BitVec 32 := 4#32
  let v6322 : BitVec 32 := Scalar.muli v6321 c4_i32_4133
  let v6325 : BitVec 32 := Scalar.addi v6322 c1_i32_4134
  let v6326 : Index := Scalar.indexCast v6325
  ![v6326.toNat]
def k0_off63 (v6327 : BitVec 32) (v6333 : BitVec 32) (c1_i32_4147 : BitVec 32) (c0_i32_4145 : BitVec 32) : Fin 4 → Nat :=
  let c1_i32_4137 : BitVec 32 := 1#32
  let v6334 : BitVec 32 := Scalar.shrui v6333 c1_i32_4137
  let v6335 : BitVec 32 := Scalar.subi v6327 v6334
  let c0_i32_4138 : BitVec 32 := 0#32
  let v6336 : BitVec 32 := Scalar.maxsi v6335 c0_i32_4138
  let v6337 : BitVec 32 := Scalar.addi v6327 v6334
  let c64_i32_4139 : BitVec 32 := 64#32
  let v6338 : BitVec 1 := Scalar.cmpi .sgt v6337 c64_i32_4139
  let c63_i32_4140 : BitVec 32 := 63#32
  let v6339 : BitVec 32 := Scalar.select v6338 c63_i32_4140 v6337
  let v6340 : BitVec 32 := Scalar.subi v6339 v6336
  let v6351 : BitVec 32 := Scalar.muli c1_i32_4147 v6340
  let c7_i32_4148 : BitVec 32 := 7#32
  let v6352 : BitVec 32 := Scalar.addi v6351 c7_i32_4148
  let c3_i32_4149 : BitVec 32 := 3#32
  let v6353 : BitVec 32 := Scalar.shrui v6352 c3_i32_4149
  let v6354 : BitVec 32 := Scalar.addi v6336 v6353
  let v6348 : BitVec 32 := Scalar.muli c0_i32_4145 v6340
  let c3_i32_4146 : BitVec 32 := 3#32
  let v6349 : BitVec 32 := Scalar.shrui v6348 c3_i32_4146
  let v6350 : BitVec 32 := Scalar.addi v6336 v6349
  let v6355 : BitVec 32 := Scalar.subi v6354 v6350
  let c1_i32_4150 : BitVec 32 := 1#32
  let v6356 : BitVec 32 := Scalar.subi v6355 c1_i32_4150
  let v6357 : Index := Scalar.indexCast v6356
  let v6358 : Index := Scalar.indexCast v6350
  let c0_4151 : Index := 0#32
  let c0_4152 : Index := 0#32
  ![v6357.toNat, v6358.toNat, 0, 0]
def k0_off63_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk31 (v6327 : BitVec 32) (v6333 : BitVec 32) : Prop :=
  (∀ (r : Fin 8), ∀ a, (k0_off63 v6327 v6333 (k0_off63_at r).1 (k0_off63_at r).2) a + S1x1x64x256.size a ≤ S6x64x64x256.size a)
theorem k0_off63_inb : ∀ (v6327 : BitVec 32) (v6333 : BitVec 32) (k0_hw31 : k0_chk31 v6327 v6333), ∀ (r : Fin 8), ∀ a, (k0_off63 v6327 v6333 (k0_off63_at r).1 (k0_off63_at r).2) a + S1x1x64x256.size a ≤ S6x64x64x256.size a := fun v6327 v6333 k0_hw31 r => k0_hw31 r

def k0_off64 (v6324 : BitVec 32) (v6330 : BitVec 32) (c0_i32_4281 : BitVec 32) : Fin 3 → Nat :=
  let c1_i32_4141 : BitVec 32 := 1#32
  let v6341 : BitVec 32 := Scalar.shrui v6330 c1_i32_4141
  let v6342 : BitVec 32 := Scalar.subi v6324 v6341
  let c0_i32_4142 : BitVec 32 := 0#32
  let v6343 : BitVec 32 := Scalar.maxsi v6342 c0_i32_4142
  let v6344 : BitVec 32 := Scalar.addi v6324 v6341
  let c64_i32_4143 : BitVec 32 := 64#32
  let v6345 : BitVec 1 := Scalar.cmpi .sgt v6344 c64_i32_4143
  let c63_i32_4144 : BitVec 32 := 63#32
  let v6346 : BitVec 32 := Scalar.select v6345 c63_i32_4144 v6344
  let v6347 : BitVec 32 := Scalar.subi v6346 v6343
  let v6517 : BitVec 32 := Scalar.muli c0_i32_4281 v6347
  let c3_i32_4282 : BitVec 32 := 3#32
  let v6518 : BitVec 32 := Scalar.shrui v6517 c3_i32_4282
  let v6519 : BitVec 32 := Scalar.addi v6343 v6518
  let c0_i32_4286 : BitVec 32 := 0#32
  let v6524 : BitVec 32 := Scalar.subi v6519 c0_i32_4286
  let c56_i32_4288 : BitVec 32 := 56#32
  let v6526 : BitVec 32 := Scalar.minsi v6524 c56_i32_4288
  let v6527 : Index := Scalar.indexCast v6526
  let c0_4289 : Index := 0#32
  let c0_4290 : Index := 0#32
  ![v6527.toNat, 0, 0]

def k0_chk32 (v6324 : BitVec 32) (v6330 : BitVec 32) : Prop :=
  (∀ (r : Fin 8), ∀ a, (k0_off64 v6324 v6330 (BitVec.ofNat 32 r.val)) a + S8x8x256.size a ≤ S64x8x256.size a)
theorem k0_off64_inb : ∀ (v6324 : BitVec 32) (v6330 : BitVec 32) (k0_hw32 : k0_chk32 v6324 v6330), ∀ (r : Fin 8), ∀ a, (k0_off64 v6324 v6330 (BitVec.ofNat 32 r.val)) a + S8x8x256.size a ≤ S64x8x256.size a := fun v6324 v6330 k0_hw32 r => k0_hw32 r

def k0_off65 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4408 : BitVec 32 := 32#32
  let v6741 : BitVec 32 := Scalar.muli v4 c32_i32_4408
  let c16_i32 : BitVec 32 := 16#32
  let v6742 : BitVec 32 := Scalar.addi v6741 c16_i32
  let c4_i32_4409 : BitVec 32 := 4#32
  let v6743 : BitVec 32 := Scalar.muli v6742 c4_i32_4409
  let v6744 : Index := Scalar.indexCast v6743
  ![v6744.toNat]
def k0_off66 (i : grid0.Coords) (c1_i32_4410 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4408 : BitVec 32 := 32#32
  let v6741 : BitVec 32 := Scalar.muli v4 c32_i32_4408
  let c16_i32 : BitVec 32 := 16#32
  let v6742 : BitVec 32 := Scalar.addi v6741 c16_i32
  let c4_i32_4409 : BitVec 32 := 4#32
  let v6743 : BitVec 32 := Scalar.muli v6742 c4_i32_4409
  let v6746 : BitVec 32 := Scalar.addi v6743 c1_i32_4410
  let v6747 : Index := Scalar.indexCast v6746
  ![v6747.toNat]
def k0_off67 (v6748 : BitVec 32) (v6754 : BitVec 32) (c1_i32_4423 : BitVec 32) (c0_i32_4421 : BitVec 32) : Fin 4 → Nat :=
  let c1_i32_4413 : BitVec 32 := 1#32
  let v6755 : BitVec 32 := Scalar.shrui v6754 c1_i32_4413
  let v6756 : BitVec 32 := Scalar.subi v6748 v6755
  let c0_i32_4414 : BitVec 32 := 0#32
  let v6757 : BitVec 32 := Scalar.maxsi v6756 c0_i32_4414
  let v6758 : BitVec 32 := Scalar.addi v6748 v6755
  let c64_i32_4415 : BitVec 32 := 64#32
  let v6759 : BitVec 1 := Scalar.cmpi .sgt v6758 c64_i32_4415
  let c63_i32_4416 : BitVec 32 := 63#32
  let v6760 : BitVec 32 := Scalar.select v6759 c63_i32_4416 v6758
  let v6761 : BitVec 32 := Scalar.subi v6760 v6757
  let v6772 : BitVec 32 := Scalar.muli c1_i32_4423 v6761
  let c7_i32_4424 : BitVec 32 := 7#32
  let v6773 : BitVec 32 := Scalar.addi v6772 c7_i32_4424
  let c3_i32_4425 : BitVec 32 := 3#32
  let v6774 : BitVec 32 := Scalar.shrui v6773 c3_i32_4425
  let v6775 : BitVec 32 := Scalar.addi v6757 v6774
  let v6769 : BitVec 32 := Scalar.muli c0_i32_4421 v6761
  let c3_i32_4422 : BitVec 32 := 3#32
  let v6770 : BitVec 32 := Scalar.shrui v6769 c3_i32_4422
  let v6771 : BitVec 32 := Scalar.addi v6757 v6770
  let v6776 : BitVec 32 := Scalar.subi v6775 v6771
  let c1_i32_4426 : BitVec 32 := 1#32
  let v6777 : BitVec 32 := Scalar.subi v6776 c1_i32_4426
  let v6778 : Index := Scalar.indexCast v6777
  let v6779 : Index := Scalar.indexCast v6771
  let c0_4427 : Index := 0#32
  let c0_4428 : Index := 0#32
  ![v6778.toNat, v6779.toNat, 0, 0]
def k0_off67_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk33 (v6748 : BitVec 32) (v6754 : BitVec 32) : Prop :=
  (∀ (r : Fin 8), ∀ a, (k0_off67 v6748 v6754 (k0_off67_at r).1 (k0_off67_at r).2) a + S1x1x64x256.size a ≤ S6x64x64x256.size a)
theorem k0_off67_inb : ∀ (v6748 : BitVec 32) (v6754 : BitVec 32) (k0_hw33 : k0_chk33 v6748 v6754), ∀ (r : Fin 8), ∀ a, (k0_off67 v6748 v6754 (k0_off67_at r).1 (k0_off67_at r).2) a + S1x1x64x256.size a ≤ S6x64x64x256.size a := fun v6748 v6754 k0_hw33 r => k0_hw33 r

def k0_off68 (v6745 : BitVec 32) (v6751 : BitVec 32) (c0_i32_4557 : BitVec 32) : Fin 3 → Nat :=
  let c1_i32_4417 : BitVec 32 := 1#32
  let v6762 : BitVec 32 := Scalar.shrui v6751 c1_i32_4417
  let v6763 : BitVec 32 := Scalar.subi v6745 v6762
  let c0_i32_4418 : BitVec 32 := 0#32
  let v6764 : BitVec 32 := Scalar.maxsi v6763 c0_i32_4418
  let v6765 : BitVec 32 := Scalar.addi v6745 v6762
  let c64_i32_4419 : BitVec 32 := 64#32
  let v6766 : BitVec 1 := Scalar.cmpi .sgt v6765 c64_i32_4419
  let c63_i32_4420 : BitVec 32 := 63#32
  let v6767 : BitVec 32 := Scalar.select v6766 c63_i32_4420 v6765
  let v6768 : BitVec 32 := Scalar.subi v6767 v6764
  let v6938 : BitVec 32 := Scalar.muli c0_i32_4557 v6768
  let c3_i32_4558 : BitVec 32 := 3#32
  let v6939 : BitVec 32 := Scalar.shrui v6938 c3_i32_4558
  let v6940 : BitVec 32 := Scalar.addi v6764 v6939
  let c0_i32_4562 : BitVec 32 := 0#32
  let v6945 : BitVec 32 := Scalar.subi v6940 c0_i32_4562
  let c56_i32_4564 : BitVec 32 := 56#32
  let v6947 : BitVec 32 := Scalar.minsi v6945 c56_i32_4564
  let v6948 : Index := Scalar.indexCast v6947
  let c0_4565 : Index := 0#32
  let c0_4566 : Index := 0#32
  ![v6948.toNat, 0, 0]

def k0_chk34 (v6745 : BitVec 32) (v6751 : BitVec 32) : Prop :=
  (∀ (r : Fin 8), ∀ a, (k0_off68 v6745 v6751 (BitVec.ofNat 32 r.val)) a + S8x8x256.size a ≤ S64x8x256.size a)
theorem k0_off68_inb : ∀ (v6745 : BitVec 32) (v6751 : BitVec 32) (k0_hw34 : k0_chk34 v6745 v6751), ∀ (r : Fin 8), ∀ a, (k0_off68 v6745 v6751 (BitVec.ofNat 32 r.val)) a + S8x8x256.size a ≤ S64x8x256.size a := fun v6745 v6751 k0_hw34 r => k0_hw34 r

def k0_off69 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4685 : BitVec 32 := 32#32
  let v7162 : BitVec 32 := Scalar.muli v4 c32_i32_4685
  let c17_i32 : BitVec 32 := 17#32
  let v7163 : BitVec 32 := Scalar.addi v7162 c17_i32
  let c4_i32_4686 : BitVec 32 := 4#32
  let v7164 : BitVec 32 := Scalar.muli v7163 c4_i32_4686
  let v7165 : Index := Scalar.indexCast v7164
  ![v7165.toNat]
def k0_off70 (i : grid0.Coords) (c1_i32_4687 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4685 : BitVec 32 := 32#32
  let v7162 : BitVec 32 := Scalar.muli v4 c32_i32_4685
  let c17_i32 : BitVec 32 := 17#32
  let v7163 : BitVec 32 := Scalar.addi v7162 c17_i32
  let c4_i32_4686 : BitVec 32 := 4#32
  let v7164 : BitVec 32 := Scalar.muli v7163 c4_i32_4686
  let v7167 : BitVec 32 := Scalar.addi v7164 c1_i32_4687
  let v7168 : Index := Scalar.indexCast v7167
  ![v7168.toNat]
def k0_off71 (v7169 : BitVec 32) (v7175 : BitVec 32) (c1_i32_4700 : BitVec 32) (c0_i32_4698 : BitVec 32) : Fin 4 → Nat :=
  let c1_i32_4690 : BitVec 32 := 1#32
  let v7176 : BitVec 32 := Scalar.shrui v7175 c1_i32_4690
  let v7177 : BitVec 32 := Scalar.subi v7169 v7176
  let c0_i32_4691 : BitVec 32 := 0#32
  let v7178 : BitVec 32 := Scalar.maxsi v7177 c0_i32_4691
  let v7179 : BitVec 32 := Scalar.addi v7169 v7176
  let c64_i32_4692 : BitVec 32 := 64#32
  let v7180 : BitVec 1 := Scalar.cmpi .sgt v7179 c64_i32_4692
  let c63_i32_4693 : BitVec 32 := 63#32
  let v7181 : BitVec 32 := Scalar.select v7180 c63_i32_4693 v7179
  let v7182 : BitVec 32 := Scalar.subi v7181 v7178
  let v7193 : BitVec 32 := Scalar.muli c1_i32_4700 v7182
  let c7_i32_4701 : BitVec 32 := 7#32
  let v7194 : BitVec 32 := Scalar.addi v7193 c7_i32_4701
  let c3_i32_4702 : BitVec 32 := 3#32
  let v7195 : BitVec 32 := Scalar.shrui v7194 c3_i32_4702
  let v7196 : BitVec 32 := Scalar.addi v7178 v7195
  let v7190 : BitVec 32 := Scalar.muli c0_i32_4698 v7182
  let c3_i32_4699 : BitVec 32 := 3#32
  let v7191 : BitVec 32 := Scalar.shrui v7190 c3_i32_4699
  let v7192 : BitVec 32 := Scalar.addi v7178 v7191
  let v7197 : BitVec 32 := Scalar.subi v7196 v7192
  let c1_i32_4703 : BitVec 32 := 1#32
  let v7198 : BitVec 32 := Scalar.subi v7197 c1_i32_4703
  let v7199 : Index := Scalar.indexCast v7198
  let v7200 : Index := Scalar.indexCast v7192
  let c0_4704 : Index := 0#32
  let c0_4705 : Index := 0#32
  ![v7199.toNat, v7200.toNat, 0, 0]
def k0_off71_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk35 (v7169 : BitVec 32) (v7175 : BitVec 32) : Prop :=
  (∀ (r : Fin 8), ∀ a, (k0_off71 v7169 v7175 (k0_off71_at r).1 (k0_off71_at r).2) a + S1x1x64x256.size a ≤ S6x64x64x256.size a)
theorem k0_off71_inb : ∀ (v7169 : BitVec 32) (v7175 : BitVec 32) (k0_hw35 : k0_chk35 v7169 v7175), ∀ (r : Fin 8), ∀ a, (k0_off71 v7169 v7175 (k0_off71_at r).1 (k0_off71_at r).2) a + S1x1x64x256.size a ≤ S6x64x64x256.size a := fun v7169 v7175 k0_hw35 r => k0_hw35 r

def k0_off72 (v7166 : BitVec 32) (v7172 : BitVec 32) (c0_i32_4834 : BitVec 32) : Fin 3 → Nat :=
  let c1_i32_4694 : BitVec 32 := 1#32
  let v7183 : BitVec 32 := Scalar.shrui v7172 c1_i32_4694
  let v7184 : BitVec 32 := Scalar.subi v7166 v7183
  let c0_i32_4695 : BitVec 32 := 0#32
  let v7185 : BitVec 32 := Scalar.maxsi v7184 c0_i32_4695
  let v7186 : BitVec 32 := Scalar.addi v7166 v7183
  let c64_i32_4696 : BitVec 32 := 64#32
  let v7187 : BitVec 1 := Scalar.cmpi .sgt v7186 c64_i32_4696
  let c63_i32_4697 : BitVec 32 := 63#32
  let v7188 : BitVec 32 := Scalar.select v7187 c63_i32_4697 v7186
  let v7189 : BitVec 32 := Scalar.subi v7188 v7185
  let v7359 : BitVec 32 := Scalar.muli c0_i32_4834 v7189
  let c3_i32_4835 : BitVec 32 := 3#32
  let v7360 : BitVec 32 := Scalar.shrui v7359 c3_i32_4835
  let v7361 : BitVec 32 := Scalar.addi v7185 v7360
  let c0_i32_4839 : BitVec 32 := 0#32
  let v7366 : BitVec 32 := Scalar.subi v7361 c0_i32_4839
  let c56_i32_4841 : BitVec 32 := 56#32
  let v7368 : BitVec 32 := Scalar.minsi v7366 c56_i32_4841
  let v7369 : Index := Scalar.indexCast v7368
  let c0_4842 : Index := 0#32
  let c0_4843 : Index := 0#32
  ![v7369.toNat, 0, 0]

def k0_chk36 (v7166 : BitVec 32) (v7172 : BitVec 32) : Prop :=
  (∀ (r : Fin 8), ∀ a, (k0_off72 v7166 v7172 (BitVec.ofNat 32 r.val)) a + S8x8x256.size a ≤ S64x8x256.size a)
theorem k0_off72_inb : ∀ (v7166 : BitVec 32) (v7172 : BitVec 32) (k0_hw36 : k0_chk36 v7166 v7172), ∀ (r : Fin 8), ∀ a, (k0_off72 v7166 v7172 (BitVec.ofNat 32 r.val)) a + S8x8x256.size a ≤ S64x8x256.size a := fun v7166 v7172 k0_hw36 r => k0_hw36 r

def k0_off73 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4961 : BitVec 32 := 32#32
  let v7583 : BitVec 32 := Scalar.muli v4 c32_i32_4961
  let c18_i32 : BitVec 32 := 18#32
  let v7584 : BitVec 32 := Scalar.addi v7583 c18_i32
  let c4_i32_4962 : BitVec 32 := 4#32
  let v7585 : BitVec 32 := Scalar.muli v7584 c4_i32_4962
  let v7586 : Index := Scalar.indexCast v7585
  ![v7586.toNat]
def k0_off74 (i : grid0.Coords) (c1_i32_4963 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_4961 : BitVec 32 := 32#32
  let v7583 : BitVec 32 := Scalar.muli v4 c32_i32_4961
  let c18_i32 : BitVec 32 := 18#32
  let v7584 : BitVec 32 := Scalar.addi v7583 c18_i32
  let c4_i32_4962 : BitVec 32 := 4#32
  let v7585 : BitVec 32 := Scalar.muli v7584 c4_i32_4962
  let v7588 : BitVec 32 := Scalar.addi v7585 c1_i32_4963
  let v7589 : Index := Scalar.indexCast v7588
  ![v7589.toNat]
def k0_off75 (v7590 : BitVec 32) (v7596 : BitVec 32) (c1_i32_4976 : BitVec 32) (c0_i32_4974 : BitVec 32) : Fin 4 → Nat :=
  let c1_i32_4966 : BitVec 32 := 1#32
  let v7597 : BitVec 32 := Scalar.shrui v7596 c1_i32_4966
  let v7598 : BitVec 32 := Scalar.subi v7590 v7597
  let c0_i32_4967 : BitVec 32 := 0#32
  let v7599 : BitVec 32 := Scalar.maxsi v7598 c0_i32_4967
  let v7600 : BitVec 32 := Scalar.addi v7590 v7597
  let c64_i32_4968 : BitVec 32 := 64#32
  let v7601 : BitVec 1 := Scalar.cmpi .sgt v7600 c64_i32_4968
  let c63_i32_4969 : BitVec 32 := 63#32
  let v7602 : BitVec 32 := Scalar.select v7601 c63_i32_4969 v7600
  let v7603 : BitVec 32 := Scalar.subi v7602 v7599
  let v7614 : BitVec 32 := Scalar.muli c1_i32_4976 v7603
  let c7_i32_4977 : BitVec 32 := 7#32
  let v7615 : BitVec 32 := Scalar.addi v7614 c7_i32_4977
  let c3_i32_4978 : BitVec 32 := 3#32
  let v7616 : BitVec 32 := Scalar.shrui v7615 c3_i32_4978
  let v7617 : BitVec 32 := Scalar.addi v7599 v7616
  let v7611 : BitVec 32 := Scalar.muli c0_i32_4974 v7603
  let c3_i32_4975 : BitVec 32 := 3#32
  let v7612 : BitVec 32 := Scalar.shrui v7611 c3_i32_4975
  let v7613 : BitVec 32 := Scalar.addi v7599 v7612
  let v7618 : BitVec 32 := Scalar.subi v7617 v7613
  let c1_i32_4979 : BitVec 32 := 1#32
  let v7619 : BitVec 32 := Scalar.subi v7618 c1_i32_4979
  let v7620 : Index := Scalar.indexCast v7619
  let v7621 : Index := Scalar.indexCast v7613
  let c0_4980 : Index := 0#32
  let c0_4981 : Index := 0#32
  ![v7620.toNat, v7621.toNat, 0, 0]
def k0_off75_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk37 (v7590 : BitVec 32) (v7596 : BitVec 32) : Prop :=
  (∀ (r : Fin 8), ∀ a, (k0_off75 v7590 v7596 (k0_off75_at r).1 (k0_off75_at r).2) a + S1x1x64x256.size a ≤ S6x64x64x256.size a)
theorem k0_off75_inb : ∀ (v7590 : BitVec 32) (v7596 : BitVec 32) (k0_hw37 : k0_chk37 v7590 v7596), ∀ (r : Fin 8), ∀ a, (k0_off75 v7590 v7596 (k0_off75_at r).1 (k0_off75_at r).2) a + S1x1x64x256.size a ≤ S6x64x64x256.size a := fun v7590 v7596 k0_hw37 r => k0_hw37 r

def k0_off76 (v7587 : BitVec 32) (v7593 : BitVec 32) (c0_i32_5110 : BitVec 32) : Fin 3 → Nat :=
  let c1_i32_4970 : BitVec 32 := 1#32
  let v7604 : BitVec 32 := Scalar.shrui v7593 c1_i32_4970
  let v7605 : BitVec 32 := Scalar.subi v7587 v7604
  let c0_i32_4971 : BitVec 32 := 0#32
  let v7606 : BitVec 32 := Scalar.maxsi v7605 c0_i32_4971
  let v7607 : BitVec 32 := Scalar.addi v7587 v7604
  let c64_i32_4972 : BitVec 32 := 64#32
  let v7608 : BitVec 1 := Scalar.cmpi .sgt v7607 c64_i32_4972
  let c63_i32_4973 : BitVec 32 := 63#32
  let v7609 : BitVec 32 := Scalar.select v7608 c63_i32_4973 v7607
  let v7610 : BitVec 32 := Scalar.subi v7609 v7606
  let v7780 : BitVec 32 := Scalar.muli c0_i32_5110 v7610
  let c3_i32_5111 : BitVec 32 := 3#32
  let v7781 : BitVec 32 := Scalar.shrui v7780 c3_i32_5111
  let v7782 : BitVec 32 := Scalar.addi v7606 v7781
  let c0_i32_5115 : BitVec 32 := 0#32
  let v7787 : BitVec 32 := Scalar.subi v7782 c0_i32_5115
  let c56_i32_5117 : BitVec 32 := 56#32
  let v7789 : BitVec 32 := Scalar.minsi v7787 c56_i32_5117
  let v7790 : Index := Scalar.indexCast v7789
  let c0_5118 : Index := 0#32
  let c0_5119 : Index := 0#32
  ![v7790.toNat, 0, 0]

def k0_chk38 (v7587 : BitVec 32) (v7593 : BitVec 32) : Prop :=
  (∀ (r : Fin 8), ∀ a, (k0_off76 v7587 v7593 (BitVec.ofNat 32 r.val)) a + S8x8x256.size a ≤ S64x8x256.size a)
theorem k0_off76_inb : ∀ (v7587 : BitVec 32) (v7593 : BitVec 32) (k0_hw38 : k0_chk38 v7587 v7593), ∀ (r : Fin 8), ∀ a, (k0_off76 v7587 v7593 (BitVec.ofNat 32 r.val)) a + S8x8x256.size a ≤ S64x8x256.size a := fun v7587 v7593 k0_hw38 r => k0_hw38 r

def k0_off77 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5237 : BitVec 32 := 32#32
  let v8004 : BitVec 32 := Scalar.muli v4 c32_i32_5237
  let c19_i32 : BitVec 32 := 19#32
  let v8005 : BitVec 32 := Scalar.addi v8004 c19_i32
  let c4_i32_5238 : BitVec 32 := 4#32
  let v8006 : BitVec 32 := Scalar.muli v8005 c4_i32_5238
  let v8007 : Index := Scalar.indexCast v8006
  ![v8007.toNat]
def k0_off78 (i : grid0.Coords) (c1_i32_5239 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5237 : BitVec 32 := 32#32
  let v8004 : BitVec 32 := Scalar.muli v4 c32_i32_5237
  let c19_i32 : BitVec 32 := 19#32
  let v8005 : BitVec 32 := Scalar.addi v8004 c19_i32
  let c4_i32_5238 : BitVec 32 := 4#32
  let v8006 : BitVec 32 := Scalar.muli v8005 c4_i32_5238
  let v8009 : BitVec 32 := Scalar.addi v8006 c1_i32_5239
  let v8010 : Index := Scalar.indexCast v8009
  ![v8010.toNat]
def k0_off79 (v8011 : BitVec 32) (v8017 : BitVec 32) (c1_i32_5252 : BitVec 32) (c0_i32_5250 : BitVec 32) : Fin 4 → Nat :=
  let c1_i32_5242 : BitVec 32 := 1#32
  let v8018 : BitVec 32 := Scalar.shrui v8017 c1_i32_5242
  let v8019 : BitVec 32 := Scalar.subi v8011 v8018
  let c0_i32_5243 : BitVec 32 := 0#32
  let v8020 : BitVec 32 := Scalar.maxsi v8019 c0_i32_5243
  let v8021 : BitVec 32 := Scalar.addi v8011 v8018
  let c64_i32_5244 : BitVec 32 := 64#32
  let v8022 : BitVec 1 := Scalar.cmpi .sgt v8021 c64_i32_5244
  let c63_i32_5245 : BitVec 32 := 63#32
  let v8023 : BitVec 32 := Scalar.select v8022 c63_i32_5245 v8021
  let v8024 : BitVec 32 := Scalar.subi v8023 v8020
  let v8035 : BitVec 32 := Scalar.muli c1_i32_5252 v8024
  let c7_i32_5253 : BitVec 32 := 7#32
  let v8036 : BitVec 32 := Scalar.addi v8035 c7_i32_5253
  let c3_i32_5254 : BitVec 32 := 3#32
  let v8037 : BitVec 32 := Scalar.shrui v8036 c3_i32_5254
  let v8038 : BitVec 32 := Scalar.addi v8020 v8037
  let v8032 : BitVec 32 := Scalar.muli c0_i32_5250 v8024
  let c3_i32_5251 : BitVec 32 := 3#32
  let v8033 : BitVec 32 := Scalar.shrui v8032 c3_i32_5251
  let v8034 : BitVec 32 := Scalar.addi v8020 v8033
  let v8039 : BitVec 32 := Scalar.subi v8038 v8034
  let c1_i32_5255 : BitVec 32 := 1#32
  let v8040 : BitVec 32 := Scalar.subi v8039 c1_i32_5255
  let v8041 : Index := Scalar.indexCast v8040
  let v8042 : Index := Scalar.indexCast v8034
  let c0_5256 : Index := 0#32
  let c0_5257 : Index := 0#32
  ![v8041.toNat, v8042.toNat, 0, 0]
def k0_off79_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk39 (v8011 : BitVec 32) (v8017 : BitVec 32) : Prop :=
  (∀ (r : Fin 8), ∀ a, (k0_off79 v8011 v8017 (k0_off79_at r).1 (k0_off79_at r).2) a + S1x1x64x256.size a ≤ S6x64x64x256.size a)
theorem k0_off79_inb : ∀ (v8011 : BitVec 32) (v8017 : BitVec 32) (k0_hw39 : k0_chk39 v8011 v8017), ∀ (r : Fin 8), ∀ a, (k0_off79 v8011 v8017 (k0_off79_at r).1 (k0_off79_at r).2) a + S1x1x64x256.size a ≤ S6x64x64x256.size a := fun v8011 v8017 k0_hw39 r => k0_hw39 r

def k0_off80 (v8008 : BitVec 32) (v8014 : BitVec 32) (c0_i32_5386 : BitVec 32) : Fin 3 → Nat :=
  let c1_i32_5246 : BitVec 32 := 1#32
  let v8025 : BitVec 32 := Scalar.shrui v8014 c1_i32_5246
  let v8026 : BitVec 32 := Scalar.subi v8008 v8025
  let c0_i32_5247 : BitVec 32 := 0#32
  let v8027 : BitVec 32 := Scalar.maxsi v8026 c0_i32_5247
  let v8028 : BitVec 32 := Scalar.addi v8008 v8025
  let c64_i32_5248 : BitVec 32 := 64#32
  let v8029 : BitVec 1 := Scalar.cmpi .sgt v8028 c64_i32_5248
  let c63_i32_5249 : BitVec 32 := 63#32
  let v8030 : BitVec 32 := Scalar.select v8029 c63_i32_5249 v8028
  let v8031 : BitVec 32 := Scalar.subi v8030 v8027
  let v8201 : BitVec 32 := Scalar.muli c0_i32_5386 v8031
  let c3_i32_5387 : BitVec 32 := 3#32
  let v8202 : BitVec 32 := Scalar.shrui v8201 c3_i32_5387
  let v8203 : BitVec 32 := Scalar.addi v8027 v8202
  let c0_i32_5391 : BitVec 32 := 0#32
  let v8208 : BitVec 32 := Scalar.subi v8203 c0_i32_5391
  let c56_i32_5393 : BitVec 32 := 56#32
  let v8210 : BitVec 32 := Scalar.minsi v8208 c56_i32_5393
  let v8211 : Index := Scalar.indexCast v8210
  let c0_5394 : Index := 0#32
  let c0_5395 : Index := 0#32
  ![v8211.toNat, 0, 0]

def k0_chk40 (v8008 : BitVec 32) (v8014 : BitVec 32) : Prop :=
  (∀ (r : Fin 8), ∀ a, (k0_off80 v8008 v8014 (BitVec.ofNat 32 r.val)) a + S8x8x256.size a ≤ S64x8x256.size a)
theorem k0_off80_inb : ∀ (v8008 : BitVec 32) (v8014 : BitVec 32) (k0_hw40 : k0_chk40 v8008 v8014), ∀ (r : Fin 8), ∀ a, (k0_off80 v8008 v8014 (BitVec.ofNat 32 r.val)) a + S8x8x256.size a ≤ S64x8x256.size a := fun v8008 v8014 k0_hw40 r => k0_hw40 r

def k0_off81 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5513 : BitVec 32 := 32#32
  let v8425 : BitVec 32 := Scalar.muli v4 c32_i32_5513
  let c20_i32 : BitVec 32 := 20#32
  let v8426 : BitVec 32 := Scalar.addi v8425 c20_i32
  let c4_i32_5514 : BitVec 32 := 4#32
  let v8427 : BitVec 32 := Scalar.muli v8426 c4_i32_5514
  let v8428 : Index := Scalar.indexCast v8427
  ![v8428.toNat]
def k0_off82 (i : grid0.Coords) (c1_i32_5515 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5513 : BitVec 32 := 32#32
  let v8425 : BitVec 32 := Scalar.muli v4 c32_i32_5513
  let c20_i32 : BitVec 32 := 20#32
  let v8426 : BitVec 32 := Scalar.addi v8425 c20_i32
  let c4_i32_5514 : BitVec 32 := 4#32
  let v8427 : BitVec 32 := Scalar.muli v8426 c4_i32_5514
  let v8430 : BitVec 32 := Scalar.addi v8427 c1_i32_5515
  let v8431 : Index := Scalar.indexCast v8430
  ![v8431.toNat]
def k0_off83 (v8432 : BitVec 32) (v8438 : BitVec 32) (c1_i32_5528 : BitVec 32) (c0_i32_5526 : BitVec 32) : Fin 4 → Nat :=
  let c1_i32_5518 : BitVec 32 := 1#32
  let v8439 : BitVec 32 := Scalar.shrui v8438 c1_i32_5518
  let v8440 : BitVec 32 := Scalar.subi v8432 v8439
  let c0_i32_5519 : BitVec 32 := 0#32
  let v8441 : BitVec 32 := Scalar.maxsi v8440 c0_i32_5519
  let v8442 : BitVec 32 := Scalar.addi v8432 v8439
  let c64_i32_5520 : BitVec 32 := 64#32
  let v8443 : BitVec 1 := Scalar.cmpi .sgt v8442 c64_i32_5520
  let c63_i32_5521 : BitVec 32 := 63#32
  let v8444 : BitVec 32 := Scalar.select v8443 c63_i32_5521 v8442
  let v8445 : BitVec 32 := Scalar.subi v8444 v8441
  let v8456 : BitVec 32 := Scalar.muli c1_i32_5528 v8445
  let c7_i32_5529 : BitVec 32 := 7#32
  let v8457 : BitVec 32 := Scalar.addi v8456 c7_i32_5529
  let c3_i32_5530 : BitVec 32 := 3#32
  let v8458 : BitVec 32 := Scalar.shrui v8457 c3_i32_5530
  let v8459 : BitVec 32 := Scalar.addi v8441 v8458
  let v8453 : BitVec 32 := Scalar.muli c0_i32_5526 v8445
  let c3_i32_5527 : BitVec 32 := 3#32
  let v8454 : BitVec 32 := Scalar.shrui v8453 c3_i32_5527
  let v8455 : BitVec 32 := Scalar.addi v8441 v8454
  let v8460 : BitVec 32 := Scalar.subi v8459 v8455
  let c1_i32_5531 : BitVec 32 := 1#32
  let v8461 : BitVec 32 := Scalar.subi v8460 c1_i32_5531
  let v8462 : Index := Scalar.indexCast v8461
  let v8463 : Index := Scalar.indexCast v8455
  let c0_5532 : Index := 0#32
  let c0_5533 : Index := 0#32
  ![v8462.toNat, v8463.toNat, 0, 0]
def k0_off83_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk41 (v8432 : BitVec 32) (v8438 : BitVec 32) : Prop :=
  (∀ (r : Fin 8), ∀ a, (k0_off83 v8432 v8438 (k0_off83_at r).1 (k0_off83_at r).2) a + S1x1x64x256.size a ≤ S6x64x64x256.size a)
theorem k0_off83_inb : ∀ (v8432 : BitVec 32) (v8438 : BitVec 32) (k0_hw41 : k0_chk41 v8432 v8438), ∀ (r : Fin 8), ∀ a, (k0_off83 v8432 v8438 (k0_off83_at r).1 (k0_off83_at r).2) a + S1x1x64x256.size a ≤ S6x64x64x256.size a := fun v8432 v8438 k0_hw41 r => k0_hw41 r

def k0_off84 (v8429 : BitVec 32) (v8435 : BitVec 32) (c0_i32_5662 : BitVec 32) : Fin 3 → Nat :=
  let c1_i32_5522 : BitVec 32 := 1#32
  let v8446 : BitVec 32 := Scalar.shrui v8435 c1_i32_5522
  let v8447 : BitVec 32 := Scalar.subi v8429 v8446
  let c0_i32_5523 : BitVec 32 := 0#32
  let v8448 : BitVec 32 := Scalar.maxsi v8447 c0_i32_5523
  let v8449 : BitVec 32 := Scalar.addi v8429 v8446
  let c64_i32_5524 : BitVec 32 := 64#32
  let v8450 : BitVec 1 := Scalar.cmpi .sgt v8449 c64_i32_5524
  let c63_i32_5525 : BitVec 32 := 63#32
  let v8451 : BitVec 32 := Scalar.select v8450 c63_i32_5525 v8449
  let v8452 : BitVec 32 := Scalar.subi v8451 v8448
  let v8622 : BitVec 32 := Scalar.muli c0_i32_5662 v8452
  let c3_i32_5663 : BitVec 32 := 3#32
  let v8623 : BitVec 32 := Scalar.shrui v8622 c3_i32_5663
  let v8624 : BitVec 32 := Scalar.addi v8448 v8623
  let c0_i32_5667 : BitVec 32 := 0#32
  let v8629 : BitVec 32 := Scalar.subi v8624 c0_i32_5667
  let c56_i32_5669 : BitVec 32 := 56#32
  let v8631 : BitVec 32 := Scalar.minsi v8629 c56_i32_5669
  let v8632 : Index := Scalar.indexCast v8631
  let c0_5670 : Index := 0#32
  let c0_5671 : Index := 0#32
  ![v8632.toNat, 0, 0]

def k0_chk42 (v8429 : BitVec 32) (v8435 : BitVec 32) : Prop :=
  (∀ (r : Fin 8), ∀ a, (k0_off84 v8429 v8435 (BitVec.ofNat 32 r.val)) a + S8x8x256.size a ≤ S64x8x256.size a)
theorem k0_off84_inb : ∀ (v8429 : BitVec 32) (v8435 : BitVec 32) (k0_hw42 : k0_chk42 v8429 v8435), ∀ (r : Fin 8), ∀ a, (k0_off84 v8429 v8435 (BitVec.ofNat 32 r.val)) a + S8x8x256.size a ≤ S64x8x256.size a := fun v8429 v8435 k0_hw42 r => k0_hw42 r

def k0_off85 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5789 : BitVec 32 := 32#32
  let v8846 : BitVec 32 := Scalar.muli v4 c32_i32_5789
  let c21_i32 : BitVec 32 := 21#32
  let v8847 : BitVec 32 := Scalar.addi v8846 c21_i32
  let c4_i32_5790 : BitVec 32 := 4#32
  let v8848 : BitVec 32 := Scalar.muli v8847 c4_i32_5790
  let v8849 : Index := Scalar.indexCast v8848
  ![v8849.toNat]
def k0_off86 (i : grid0.Coords) (c1_i32_5791 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_5789 : BitVec 32 := 32#32
  let v8846 : BitVec 32 := Scalar.muli v4 c32_i32_5789
  let c21_i32 : BitVec 32 := 21#32
  let v8847 : BitVec 32 := Scalar.addi v8846 c21_i32
  let c4_i32_5790 : BitVec 32 := 4#32
  let v8848 : BitVec 32 := Scalar.muli v8847 c4_i32_5790
  let v8851 : BitVec 32 := Scalar.addi v8848 c1_i32_5791
  let v8852 : Index := Scalar.indexCast v8851
  ![v8852.toNat]
def k0_off87 (v8853 : BitVec 32) (v8859 : BitVec 32) (c1_i32_5804 : BitVec 32) (c0_i32_5802 : BitVec 32) : Fin 4 → Nat :=
  let c1_i32_5794 : BitVec 32 := 1#32
  let v8860 : BitVec 32 := Scalar.shrui v8859 c1_i32_5794
  let v8861 : BitVec 32 := Scalar.subi v8853 v8860
  let c0_i32_5795 : BitVec 32 := 0#32
  let v8862 : BitVec 32 := Scalar.maxsi v8861 c0_i32_5795
  let v8863 : BitVec 32 := Scalar.addi v8853 v8860
  let c64_i32_5796 : BitVec 32 := 64#32
  let v8864 : BitVec 1 := Scalar.cmpi .sgt v8863 c64_i32_5796
  let c63_i32_5797 : BitVec 32 := 63#32
  let v8865 : BitVec 32 := Scalar.select v8864 c63_i32_5797 v8863
  let v8866 : BitVec 32 := Scalar.subi v8865 v8862
  let v8877 : BitVec 32 := Scalar.muli c1_i32_5804 v8866
  let c7_i32_5805 : BitVec 32 := 7#32
  let v8878 : BitVec 32 := Scalar.addi v8877 c7_i32_5805
  let c3_i32_5806 : BitVec 32 := 3#32
  let v8879 : BitVec 32 := Scalar.shrui v8878 c3_i32_5806
  let v8880 : BitVec 32 := Scalar.addi v8862 v8879
  let v8874 : BitVec 32 := Scalar.muli c0_i32_5802 v8866
  let c3_i32_5803 : BitVec 32 := 3#32
  let v8875 : BitVec 32 := Scalar.shrui v8874 c3_i32_5803
  let v8876 : BitVec 32 := Scalar.addi v8862 v8875
  let v8881 : BitVec 32 := Scalar.subi v8880 v8876
  let c1_i32_5807 : BitVec 32 := 1#32
  let v8882 : BitVec 32 := Scalar.subi v8881 c1_i32_5807
  let v8883 : Index := Scalar.indexCast v8882
  let v8884 : Index := Scalar.indexCast v8876
  let c0_5808 : Index := 0#32
  let c0_5809 : Index := 0#32
  ![v8883.toNat, v8884.toNat, 0, 0]
def k0_off87_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk43 (v8853 : BitVec 32) (v8859 : BitVec 32) : Prop :=
  (∀ (r : Fin 8), ∀ a, (k0_off87 v8853 v8859 (k0_off87_at r).1 (k0_off87_at r).2) a + S1x1x64x256.size a ≤ S6x64x64x256.size a)
theorem k0_off87_inb : ∀ (v8853 : BitVec 32) (v8859 : BitVec 32) (k0_hw43 : k0_chk43 v8853 v8859), ∀ (r : Fin 8), ∀ a, (k0_off87 v8853 v8859 (k0_off87_at r).1 (k0_off87_at r).2) a + S1x1x64x256.size a ≤ S6x64x64x256.size a := fun v8853 v8859 k0_hw43 r => k0_hw43 r

def k0_off88 (v8850 : BitVec 32) (v8856 : BitVec 32) (c0_i32_5938 : BitVec 32) : Fin 3 → Nat :=
  let c1_i32_5798 : BitVec 32 := 1#32
  let v8867 : BitVec 32 := Scalar.shrui v8856 c1_i32_5798
  let v8868 : BitVec 32 := Scalar.subi v8850 v8867
  let c0_i32_5799 : BitVec 32 := 0#32
  let v8869 : BitVec 32 := Scalar.maxsi v8868 c0_i32_5799
  let v8870 : BitVec 32 := Scalar.addi v8850 v8867
  let c64_i32_5800 : BitVec 32 := 64#32
  let v8871 : BitVec 1 := Scalar.cmpi .sgt v8870 c64_i32_5800
  let c63_i32_5801 : BitVec 32 := 63#32
  let v8872 : BitVec 32 := Scalar.select v8871 c63_i32_5801 v8870
  let v8873 : BitVec 32 := Scalar.subi v8872 v8869
  let v9043 : BitVec 32 := Scalar.muli c0_i32_5938 v8873
  let c3_i32_5939 : BitVec 32 := 3#32
  let v9044 : BitVec 32 := Scalar.shrui v9043 c3_i32_5939
  let v9045 : BitVec 32 := Scalar.addi v8869 v9044
  let c0_i32_5943 : BitVec 32 := 0#32
  let v9050 : BitVec 32 := Scalar.subi v9045 c0_i32_5943
  let c56_i32_5945 : BitVec 32 := 56#32
  let v9052 : BitVec 32 := Scalar.minsi v9050 c56_i32_5945
  let v9053 : Index := Scalar.indexCast v9052
  let c0_5946 : Index := 0#32
  let c0_5947 : Index := 0#32
  ![v9053.toNat, 0, 0]

def k0_chk44 (v8850 : BitVec 32) (v8856 : BitVec 32) : Prop :=
  (∀ (r : Fin 8), ∀ a, (k0_off88 v8850 v8856 (BitVec.ofNat 32 r.val)) a + S8x8x256.size a ≤ S64x8x256.size a)
theorem k0_off88_inb : ∀ (v8850 : BitVec 32) (v8856 : BitVec 32) (k0_hw44 : k0_chk44 v8850 v8856), ∀ (r : Fin 8), ∀ a, (k0_off88 v8850 v8856 (BitVec.ofNat 32 r.val)) a + S8x8x256.size a ≤ S64x8x256.size a := fun v8850 v8856 k0_hw44 r => k0_hw44 r

def k0_off89 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6065 : BitVec 32 := 32#32
  let v9267 : BitVec 32 := Scalar.muli v4 c32_i32_6065
  let c22_i32 : BitVec 32 := 22#32
  let v9268 : BitVec 32 := Scalar.addi v9267 c22_i32
  let c4_i32_6066 : BitVec 32 := 4#32
  let v9269 : BitVec 32 := Scalar.muli v9268 c4_i32_6066
  let v9270 : Index := Scalar.indexCast v9269
  ![v9270.toNat]
def k0_off90 (i : grid0.Coords) (c1_i32_6067 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6065 : BitVec 32 := 32#32
  let v9267 : BitVec 32 := Scalar.muli v4 c32_i32_6065
  let c22_i32 : BitVec 32 := 22#32
  let v9268 : BitVec 32 := Scalar.addi v9267 c22_i32
  let c4_i32_6066 : BitVec 32 := 4#32
  let v9269 : BitVec 32 := Scalar.muli v9268 c4_i32_6066
  let v9272 : BitVec 32 := Scalar.addi v9269 c1_i32_6067
  let v9273 : Index := Scalar.indexCast v9272
  ![v9273.toNat]
def k0_off91 (v9274 : BitVec 32) (v9280 : BitVec 32) (c1_i32_6080 : BitVec 32) (c0_i32_6078 : BitVec 32) : Fin 4 → Nat :=
  let c1_i32_6070 : BitVec 32 := 1#32
  let v9281 : BitVec 32 := Scalar.shrui v9280 c1_i32_6070
  let v9282 : BitVec 32 := Scalar.subi v9274 v9281
  let c0_i32_6071 : BitVec 32 := 0#32
  let v9283 : BitVec 32 := Scalar.maxsi v9282 c0_i32_6071
  let v9284 : BitVec 32 := Scalar.addi v9274 v9281
  let c64_i32_6072 : BitVec 32 := 64#32
  let v9285 : BitVec 1 := Scalar.cmpi .sgt v9284 c64_i32_6072
  let c63_i32_6073 : BitVec 32 := 63#32
  let v9286 : BitVec 32 := Scalar.select v9285 c63_i32_6073 v9284
  let v9287 : BitVec 32 := Scalar.subi v9286 v9283
  let v9298 : BitVec 32 := Scalar.muli c1_i32_6080 v9287
  let c7_i32_6081 : BitVec 32 := 7#32
  let v9299 : BitVec 32 := Scalar.addi v9298 c7_i32_6081
  let c3_i32_6082 : BitVec 32 := 3#32
  let v9300 : BitVec 32 := Scalar.shrui v9299 c3_i32_6082
  let v9301 : BitVec 32 := Scalar.addi v9283 v9300
  let v9295 : BitVec 32 := Scalar.muli c0_i32_6078 v9287
  let c3_i32_6079 : BitVec 32 := 3#32
  let v9296 : BitVec 32 := Scalar.shrui v9295 c3_i32_6079
  let v9297 : BitVec 32 := Scalar.addi v9283 v9296
  let v9302 : BitVec 32 := Scalar.subi v9301 v9297
  let c1_i32_6083 : BitVec 32 := 1#32
  let v9303 : BitVec 32 := Scalar.subi v9302 c1_i32_6083
  let v9304 : Index := Scalar.indexCast v9303
  let v9305 : Index := Scalar.indexCast v9297
  let c0_6084 : Index := 0#32
  let c0_6085 : Index := 0#32
  ![v9304.toNat, v9305.toNat, 0, 0]
def k0_off91_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk45 (v9274 : BitVec 32) (v9280 : BitVec 32) : Prop :=
  (∀ (r : Fin 8), ∀ a, (k0_off91 v9274 v9280 (k0_off91_at r).1 (k0_off91_at r).2) a + S1x1x64x256.size a ≤ S6x64x64x256.size a)
theorem k0_off91_inb : ∀ (v9274 : BitVec 32) (v9280 : BitVec 32) (k0_hw45 : k0_chk45 v9274 v9280), ∀ (r : Fin 8), ∀ a, (k0_off91 v9274 v9280 (k0_off91_at r).1 (k0_off91_at r).2) a + S1x1x64x256.size a ≤ S6x64x64x256.size a := fun v9274 v9280 k0_hw45 r => k0_hw45 r

def k0_off92 (v9271 : BitVec 32) (v9277 : BitVec 32) (c0_i32_6214 : BitVec 32) : Fin 3 → Nat :=
  let c1_i32_6074 : BitVec 32 := 1#32
  let v9288 : BitVec 32 := Scalar.shrui v9277 c1_i32_6074
  let v9289 : BitVec 32 := Scalar.subi v9271 v9288
  let c0_i32_6075 : BitVec 32 := 0#32
  let v9290 : BitVec 32 := Scalar.maxsi v9289 c0_i32_6075
  let v9291 : BitVec 32 := Scalar.addi v9271 v9288
  let c64_i32_6076 : BitVec 32 := 64#32
  let v9292 : BitVec 1 := Scalar.cmpi .sgt v9291 c64_i32_6076
  let c63_i32_6077 : BitVec 32 := 63#32
  let v9293 : BitVec 32 := Scalar.select v9292 c63_i32_6077 v9291
  let v9294 : BitVec 32 := Scalar.subi v9293 v9290
  let v9464 : BitVec 32 := Scalar.muli c0_i32_6214 v9294
  let c3_i32_6215 : BitVec 32 := 3#32
  let v9465 : BitVec 32 := Scalar.shrui v9464 c3_i32_6215
  let v9466 : BitVec 32 := Scalar.addi v9290 v9465
  let c0_i32_6219 : BitVec 32 := 0#32
  let v9471 : BitVec 32 := Scalar.subi v9466 c0_i32_6219
  let c56_i32_6221 : BitVec 32 := 56#32
  let v9473 : BitVec 32 := Scalar.minsi v9471 c56_i32_6221
  let v9474 : Index := Scalar.indexCast v9473
  let c0_6222 : Index := 0#32
  let c0_6223 : Index := 0#32
  ![v9474.toNat, 0, 0]

def k0_chk46 (v9271 : BitVec 32) (v9277 : BitVec 32) : Prop :=
  (∀ (r : Fin 8), ∀ a, (k0_off92 v9271 v9277 (BitVec.ofNat 32 r.val)) a + S8x8x256.size a ≤ S64x8x256.size a)
theorem k0_off92_inb : ∀ (v9271 : BitVec 32) (v9277 : BitVec 32) (k0_hw46 : k0_chk46 v9271 v9277), ∀ (r : Fin 8), ∀ a, (k0_off92 v9271 v9277 (BitVec.ofNat 32 r.val)) a + S8x8x256.size a ≤ S64x8x256.size a := fun v9271 v9277 k0_hw46 r => k0_hw46 r

def k0_off93 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6341 : BitVec 32 := 32#32
  let v9688 : BitVec 32 := Scalar.muli v4 c32_i32_6341
  let c23_i32 : BitVec 32 := 23#32
  let v9689 : BitVec 32 := Scalar.addi v9688 c23_i32
  let c4_i32_6342 : BitVec 32 := 4#32
  let v9690 : BitVec 32 := Scalar.muli v9689 c4_i32_6342
  let v9691 : Index := Scalar.indexCast v9690
  ![v9691.toNat]
def k0_off94 (i : grid0.Coords) (c1_i32_6343 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6341 : BitVec 32 := 32#32
  let v9688 : BitVec 32 := Scalar.muli v4 c32_i32_6341
  let c23_i32 : BitVec 32 := 23#32
  let v9689 : BitVec 32 := Scalar.addi v9688 c23_i32
  let c4_i32_6342 : BitVec 32 := 4#32
  let v9690 : BitVec 32 := Scalar.muli v9689 c4_i32_6342
  let v9693 : BitVec 32 := Scalar.addi v9690 c1_i32_6343
  let v9694 : Index := Scalar.indexCast v9693
  ![v9694.toNat]
def k0_off95 (v9695 : BitVec 32) (v9701 : BitVec 32) (c1_i32_6356 : BitVec 32) (c0_i32_6354 : BitVec 32) : Fin 4 → Nat :=
  let c1_i32_6346 : BitVec 32 := 1#32
  let v9702 : BitVec 32 := Scalar.shrui v9701 c1_i32_6346
  let v9703 : BitVec 32 := Scalar.subi v9695 v9702
  let c0_i32_6347 : BitVec 32 := 0#32
  let v9704 : BitVec 32 := Scalar.maxsi v9703 c0_i32_6347
  let v9705 : BitVec 32 := Scalar.addi v9695 v9702
  let c64_i32_6348 : BitVec 32 := 64#32
  let v9706 : BitVec 1 := Scalar.cmpi .sgt v9705 c64_i32_6348
  let c63_i32_6349 : BitVec 32 := 63#32
  let v9707 : BitVec 32 := Scalar.select v9706 c63_i32_6349 v9705
  let v9708 : BitVec 32 := Scalar.subi v9707 v9704
  let v9719 : BitVec 32 := Scalar.muli c1_i32_6356 v9708
  let c7_i32_6357 : BitVec 32 := 7#32
  let v9720 : BitVec 32 := Scalar.addi v9719 c7_i32_6357
  let c3_i32_6358 : BitVec 32 := 3#32
  let v9721 : BitVec 32 := Scalar.shrui v9720 c3_i32_6358
  let v9722 : BitVec 32 := Scalar.addi v9704 v9721
  let v9716 : BitVec 32 := Scalar.muli c0_i32_6354 v9708
  let c3_i32_6355 : BitVec 32 := 3#32
  let v9717 : BitVec 32 := Scalar.shrui v9716 c3_i32_6355
  let v9718 : BitVec 32 := Scalar.addi v9704 v9717
  let v9723 : BitVec 32 := Scalar.subi v9722 v9718
  let c1_i32_6359 : BitVec 32 := 1#32
  let v9724 : BitVec 32 := Scalar.subi v9723 c1_i32_6359
  let v9725 : Index := Scalar.indexCast v9724
  let v9726 : Index := Scalar.indexCast v9718
  let c0_6360 : Index := 0#32
  let c0_6361 : Index := 0#32
  ![v9725.toNat, v9726.toNat, 0, 0]
def k0_off95_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk47 (v9695 : BitVec 32) (v9701 : BitVec 32) : Prop :=
  (∀ (r : Fin 8), ∀ a, (k0_off95 v9695 v9701 (k0_off95_at r).1 (k0_off95_at r).2) a + S1x1x64x256.size a ≤ S6x64x64x256.size a)
theorem k0_off95_inb : ∀ (v9695 : BitVec 32) (v9701 : BitVec 32) (k0_hw47 : k0_chk47 v9695 v9701), ∀ (r : Fin 8), ∀ a, (k0_off95 v9695 v9701 (k0_off95_at r).1 (k0_off95_at r).2) a + S1x1x64x256.size a ≤ S6x64x64x256.size a := fun v9695 v9701 k0_hw47 r => k0_hw47 r

def k0_off96 (v9692 : BitVec 32) (v9698 : BitVec 32) (c0_i32_6490 : BitVec 32) : Fin 3 → Nat :=
  let c1_i32_6350 : BitVec 32 := 1#32
  let v9709 : BitVec 32 := Scalar.shrui v9698 c1_i32_6350
  let v9710 : BitVec 32 := Scalar.subi v9692 v9709
  let c0_i32_6351 : BitVec 32 := 0#32
  let v9711 : BitVec 32 := Scalar.maxsi v9710 c0_i32_6351
  let v9712 : BitVec 32 := Scalar.addi v9692 v9709
  let c64_i32_6352 : BitVec 32 := 64#32
  let v9713 : BitVec 1 := Scalar.cmpi .sgt v9712 c64_i32_6352
  let c63_i32_6353 : BitVec 32 := 63#32
  let v9714 : BitVec 32 := Scalar.select v9713 c63_i32_6353 v9712
  let v9715 : BitVec 32 := Scalar.subi v9714 v9711
  let v9885 : BitVec 32 := Scalar.muli c0_i32_6490 v9715
  let c3_i32_6491 : BitVec 32 := 3#32
  let v9886 : BitVec 32 := Scalar.shrui v9885 c3_i32_6491
  let v9887 : BitVec 32 := Scalar.addi v9711 v9886
  let c0_i32_6495 : BitVec 32 := 0#32
  let v9892 : BitVec 32 := Scalar.subi v9887 c0_i32_6495
  let c56_i32_6497 : BitVec 32 := 56#32
  let v9894 : BitVec 32 := Scalar.minsi v9892 c56_i32_6497
  let v9895 : Index := Scalar.indexCast v9894
  let c0_6498 : Index := 0#32
  let c0_6499 : Index := 0#32
  ![v9895.toNat, 0, 0]

def k0_chk48 (v9692 : BitVec 32) (v9698 : BitVec 32) : Prop :=
  (∀ (r : Fin 8), ∀ a, (k0_off96 v9692 v9698 (BitVec.ofNat 32 r.val)) a + S8x8x256.size a ≤ S64x8x256.size a)
theorem k0_off96_inb : ∀ (v9692 : BitVec 32) (v9698 : BitVec 32) (k0_hw48 : k0_chk48 v9692 v9698), ∀ (r : Fin 8), ∀ a, (k0_off96 v9692 v9698 (BitVec.ofNat 32 r.val)) a + S8x8x256.size a ≤ S64x8x256.size a := fun v9692 v9698 k0_hw48 r => k0_hw48 r

def k0_off97 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6617 : BitVec 32 := 32#32
  let v10109 : BitVec 32 := Scalar.muli v4 c32_i32_6617
  let c24_i32 : BitVec 32 := 24#32
  let v10110 : BitVec 32 := Scalar.addi v10109 c24_i32
  let c4_i32_6618 : BitVec 32 := 4#32
  let v10111 : BitVec 32 := Scalar.muli v10110 c4_i32_6618
  let v10112 : Index := Scalar.indexCast v10111
  ![v10112.toNat]
def k0_off98 (i : grid0.Coords) (c1_i32_6619 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6617 : BitVec 32 := 32#32
  let v10109 : BitVec 32 := Scalar.muli v4 c32_i32_6617
  let c24_i32 : BitVec 32 := 24#32
  let v10110 : BitVec 32 := Scalar.addi v10109 c24_i32
  let c4_i32_6618 : BitVec 32 := 4#32
  let v10111 : BitVec 32 := Scalar.muli v10110 c4_i32_6618
  let v10114 : BitVec 32 := Scalar.addi v10111 c1_i32_6619
  let v10115 : Index := Scalar.indexCast v10114
  ![v10115.toNat]
def k0_off99 (v10116 : BitVec 32) (v10122 : BitVec 32) (c1_i32_6632 : BitVec 32) (c0_i32_6630 : BitVec 32) : Fin 4 → Nat :=
  let c1_i32_6622 : BitVec 32 := 1#32
  let v10123 : BitVec 32 := Scalar.shrui v10122 c1_i32_6622
  let v10124 : BitVec 32 := Scalar.subi v10116 v10123
  let c0_i32_6623 : BitVec 32 := 0#32
  let v10125 : BitVec 32 := Scalar.maxsi v10124 c0_i32_6623
  let v10126 : BitVec 32 := Scalar.addi v10116 v10123
  let c64_i32_6624 : BitVec 32 := 64#32
  let v10127 : BitVec 1 := Scalar.cmpi .sgt v10126 c64_i32_6624
  let c63_i32_6625 : BitVec 32 := 63#32
  let v10128 : BitVec 32 := Scalar.select v10127 c63_i32_6625 v10126
  let v10129 : BitVec 32 := Scalar.subi v10128 v10125
  let v10140 : BitVec 32 := Scalar.muli c1_i32_6632 v10129
  let c7_i32_6633 : BitVec 32 := 7#32
  let v10141 : BitVec 32 := Scalar.addi v10140 c7_i32_6633
  let c3_i32_6634 : BitVec 32 := 3#32
  let v10142 : BitVec 32 := Scalar.shrui v10141 c3_i32_6634
  let v10143 : BitVec 32 := Scalar.addi v10125 v10142
  let v10137 : BitVec 32 := Scalar.muli c0_i32_6630 v10129
  let c3_i32_6631 : BitVec 32 := 3#32
  let v10138 : BitVec 32 := Scalar.shrui v10137 c3_i32_6631
  let v10139 : BitVec 32 := Scalar.addi v10125 v10138
  let v10144 : BitVec 32 := Scalar.subi v10143 v10139
  let c1_i32_6635 : BitVec 32 := 1#32
  let v10145 : BitVec 32 := Scalar.subi v10144 c1_i32_6635
  let v10146 : Index := Scalar.indexCast v10145
  let v10147 : Index := Scalar.indexCast v10139
  let c0_6636 : Index := 0#32
  let c0_6637 : Index := 0#32
  ![v10146.toNat, v10147.toNat, 0, 0]
def k0_off99_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk49 (v10116 : BitVec 32) (v10122 : BitVec 32) : Prop :=
  (∀ (r : Fin 8), ∀ a, (k0_off99 v10116 v10122 (k0_off99_at r).1 (k0_off99_at r).2) a + S1x1x64x256.size a ≤ S6x64x64x256.size a)
theorem k0_off99_inb : ∀ (v10116 : BitVec 32) (v10122 : BitVec 32) (k0_hw49 : k0_chk49 v10116 v10122), ∀ (r : Fin 8), ∀ a, (k0_off99 v10116 v10122 (k0_off99_at r).1 (k0_off99_at r).2) a + S1x1x64x256.size a ≤ S6x64x64x256.size a := fun v10116 v10122 k0_hw49 r => k0_hw49 r

def k0_off100 (v10113 : BitVec 32) (v10119 : BitVec 32) (c0_i32_6766 : BitVec 32) : Fin 3 → Nat :=
  let c1_i32_6626 : BitVec 32 := 1#32
  let v10130 : BitVec 32 := Scalar.shrui v10119 c1_i32_6626
  let v10131 : BitVec 32 := Scalar.subi v10113 v10130
  let c0_i32_6627 : BitVec 32 := 0#32
  let v10132 : BitVec 32 := Scalar.maxsi v10131 c0_i32_6627
  let v10133 : BitVec 32 := Scalar.addi v10113 v10130
  let c64_i32_6628 : BitVec 32 := 64#32
  let v10134 : BitVec 1 := Scalar.cmpi .sgt v10133 c64_i32_6628
  let c63_i32_6629 : BitVec 32 := 63#32
  let v10135 : BitVec 32 := Scalar.select v10134 c63_i32_6629 v10133
  let v10136 : BitVec 32 := Scalar.subi v10135 v10132
  let v10306 : BitVec 32 := Scalar.muli c0_i32_6766 v10136
  let c3_i32_6767 : BitVec 32 := 3#32
  let v10307 : BitVec 32 := Scalar.shrui v10306 c3_i32_6767
  let v10308 : BitVec 32 := Scalar.addi v10132 v10307
  let c0_i32_6771 : BitVec 32 := 0#32
  let v10313 : BitVec 32 := Scalar.subi v10308 c0_i32_6771
  let c56_i32_6773 : BitVec 32 := 56#32
  let v10315 : BitVec 32 := Scalar.minsi v10313 c56_i32_6773
  let v10316 : Index := Scalar.indexCast v10315
  let c0_6774 : Index := 0#32
  let c0_6775 : Index := 0#32
  ![v10316.toNat, 0, 0]

def k0_chk50 (v10113 : BitVec 32) (v10119 : BitVec 32) : Prop :=
  (∀ (r : Fin 8), ∀ a, (k0_off100 v10113 v10119 (BitVec.ofNat 32 r.val)) a + S8x8x256.size a ≤ S64x8x256.size a)
theorem k0_off100_inb : ∀ (v10113 : BitVec 32) (v10119 : BitVec 32) (k0_hw50 : k0_chk50 v10113 v10119), ∀ (r : Fin 8), ∀ a, (k0_off100 v10113 v10119 (BitVec.ofNat 32 r.val)) a + S8x8x256.size a ≤ S64x8x256.size a := fun v10113 v10119 k0_hw50 r => k0_hw50 r

def k0_off101 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6894 : BitVec 32 := 32#32
  let v10530 : BitVec 32 := Scalar.muli v4 c32_i32_6894
  let c25_i32 : BitVec 32 := 25#32
  let v10531 : BitVec 32 := Scalar.addi v10530 c25_i32
  let c4_i32_6895 : BitVec 32 := 4#32
  let v10532 : BitVec 32 := Scalar.muli v10531 c4_i32_6895
  let v10533 : Index := Scalar.indexCast v10532
  ![v10533.toNat]
def k0_off102 (i : grid0.Coords) (c1_i32_6896 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_6894 : BitVec 32 := 32#32
  let v10530 : BitVec 32 := Scalar.muli v4 c32_i32_6894
  let c25_i32 : BitVec 32 := 25#32
  let v10531 : BitVec 32 := Scalar.addi v10530 c25_i32
  let c4_i32_6895 : BitVec 32 := 4#32
  let v10532 : BitVec 32 := Scalar.muli v10531 c4_i32_6895
  let v10535 : BitVec 32 := Scalar.addi v10532 c1_i32_6896
  let v10536 : Index := Scalar.indexCast v10535
  ![v10536.toNat]
def k0_off103 (v10537 : BitVec 32) (v10543 : BitVec 32) (c1_i32_6909 : BitVec 32) (c0_i32_6907 : BitVec 32) : Fin 4 → Nat :=
  let c1_i32_6899 : BitVec 32 := 1#32
  let v10544 : BitVec 32 := Scalar.shrui v10543 c1_i32_6899
  let v10545 : BitVec 32 := Scalar.subi v10537 v10544
  let c0_i32_6900 : BitVec 32 := 0#32
  let v10546 : BitVec 32 := Scalar.maxsi v10545 c0_i32_6900
  let v10547 : BitVec 32 := Scalar.addi v10537 v10544
  let c64_i32_6901 : BitVec 32 := 64#32
  let v10548 : BitVec 1 := Scalar.cmpi .sgt v10547 c64_i32_6901
  let c63_i32_6902 : BitVec 32 := 63#32
  let v10549 : BitVec 32 := Scalar.select v10548 c63_i32_6902 v10547
  let v10550 : BitVec 32 := Scalar.subi v10549 v10546
  let v10561 : BitVec 32 := Scalar.muli c1_i32_6909 v10550
  let c7_i32_6910 : BitVec 32 := 7#32
  let v10562 : BitVec 32 := Scalar.addi v10561 c7_i32_6910
  let c3_i32_6911 : BitVec 32 := 3#32
  let v10563 : BitVec 32 := Scalar.shrui v10562 c3_i32_6911
  let v10564 : BitVec 32 := Scalar.addi v10546 v10563
  let v10558 : BitVec 32 := Scalar.muli c0_i32_6907 v10550
  let c3_i32_6908 : BitVec 32 := 3#32
  let v10559 : BitVec 32 := Scalar.shrui v10558 c3_i32_6908
  let v10560 : BitVec 32 := Scalar.addi v10546 v10559
  let v10565 : BitVec 32 := Scalar.subi v10564 v10560
  let c1_i32_6912 : BitVec 32 := 1#32
  let v10566 : BitVec 32 := Scalar.subi v10565 c1_i32_6912
  let v10567 : Index := Scalar.indexCast v10566
  let v10568 : Index := Scalar.indexCast v10560
  let c0_6913 : Index := 0#32
  let c0_6914 : Index := 0#32
  ![v10567.toNat, v10568.toNat, 0, 0]
def k0_off103_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk51 (v10537 : BitVec 32) (v10543 : BitVec 32) : Prop :=
  (∀ (r : Fin 8), ∀ a, (k0_off103 v10537 v10543 (k0_off103_at r).1 (k0_off103_at r).2) a + S1x1x64x256.size a ≤ S6x64x64x256.size a)
theorem k0_off103_inb : ∀ (v10537 : BitVec 32) (v10543 : BitVec 32) (k0_hw51 : k0_chk51 v10537 v10543), ∀ (r : Fin 8), ∀ a, (k0_off103 v10537 v10543 (k0_off103_at r).1 (k0_off103_at r).2) a + S1x1x64x256.size a ≤ S6x64x64x256.size a := fun v10537 v10543 k0_hw51 r => k0_hw51 r

def k0_off104 (v10534 : BitVec 32) (v10540 : BitVec 32) (c0_i32_7043 : BitVec 32) : Fin 3 → Nat :=
  let c1_i32_6903 : BitVec 32 := 1#32
  let v10551 : BitVec 32 := Scalar.shrui v10540 c1_i32_6903
  let v10552 : BitVec 32 := Scalar.subi v10534 v10551
  let c0_i32_6904 : BitVec 32 := 0#32
  let v10553 : BitVec 32 := Scalar.maxsi v10552 c0_i32_6904
  let v10554 : BitVec 32 := Scalar.addi v10534 v10551
  let c64_i32_6905 : BitVec 32 := 64#32
  let v10555 : BitVec 1 := Scalar.cmpi .sgt v10554 c64_i32_6905
  let c63_i32_6906 : BitVec 32 := 63#32
  let v10556 : BitVec 32 := Scalar.select v10555 c63_i32_6906 v10554
  let v10557 : BitVec 32 := Scalar.subi v10556 v10553
  let v10727 : BitVec 32 := Scalar.muli c0_i32_7043 v10557
  let c3_i32_7044 : BitVec 32 := 3#32
  let v10728 : BitVec 32 := Scalar.shrui v10727 c3_i32_7044
  let v10729 : BitVec 32 := Scalar.addi v10553 v10728
  let c0_i32_7048 : BitVec 32 := 0#32
  let v10734 : BitVec 32 := Scalar.subi v10729 c0_i32_7048
  let c56_i32_7050 : BitVec 32 := 56#32
  let v10736 : BitVec 32 := Scalar.minsi v10734 c56_i32_7050
  let v10737 : Index := Scalar.indexCast v10736
  let c0_7051 : Index := 0#32
  let c0_7052 : Index := 0#32
  ![v10737.toNat, 0, 0]

def k0_chk52 (v10534 : BitVec 32) (v10540 : BitVec 32) : Prop :=
  (∀ (r : Fin 8), ∀ a, (k0_off104 v10534 v10540 (BitVec.ofNat 32 r.val)) a + S8x8x256.size a ≤ S64x8x256.size a)
theorem k0_off104_inb : ∀ (v10534 : BitVec 32) (v10540 : BitVec 32) (k0_hw52 : k0_chk52 v10534 v10540), ∀ (r : Fin 8), ∀ a, (k0_off104 v10534 v10540 (BitVec.ofNat 32 r.val)) a + S8x8x256.size a ≤ S64x8x256.size a := fun v10534 v10540 k0_hw52 r => k0_hw52 r

def k0_off105 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7170 : BitVec 32 := 32#32
  let v10951 : BitVec 32 := Scalar.muli v4 c32_i32_7170
  let c26_i32 : BitVec 32 := 26#32
  let v10952 : BitVec 32 := Scalar.addi v10951 c26_i32
  let c4_i32_7171 : BitVec 32 := 4#32
  let v10953 : BitVec 32 := Scalar.muli v10952 c4_i32_7171
  let v10954 : Index := Scalar.indexCast v10953
  ![v10954.toNat]
def k0_off106 (i : grid0.Coords) (c1_i32_7172 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7170 : BitVec 32 := 32#32
  let v10951 : BitVec 32 := Scalar.muli v4 c32_i32_7170
  let c26_i32 : BitVec 32 := 26#32
  let v10952 : BitVec 32 := Scalar.addi v10951 c26_i32
  let c4_i32_7171 : BitVec 32 := 4#32
  let v10953 : BitVec 32 := Scalar.muli v10952 c4_i32_7171
  let v10956 : BitVec 32 := Scalar.addi v10953 c1_i32_7172
  let v10957 : Index := Scalar.indexCast v10956
  ![v10957.toNat]
def k0_off107 (v10958 : BitVec 32) (v10964 : BitVec 32) (c1_i32_7185 : BitVec 32) (c0_i32_7183 : BitVec 32) : Fin 4 → Nat :=
  let c1_i32_7175 : BitVec 32 := 1#32
  let v10965 : BitVec 32 := Scalar.shrui v10964 c1_i32_7175
  let v10966 : BitVec 32 := Scalar.subi v10958 v10965
  let c0_i32_7176 : BitVec 32 := 0#32
  let v10967 : BitVec 32 := Scalar.maxsi v10966 c0_i32_7176
  let v10968 : BitVec 32 := Scalar.addi v10958 v10965
  let c64_i32_7177 : BitVec 32 := 64#32
  let v10969 : BitVec 1 := Scalar.cmpi .sgt v10968 c64_i32_7177
  let c63_i32_7178 : BitVec 32 := 63#32
  let v10970 : BitVec 32 := Scalar.select v10969 c63_i32_7178 v10968
  let v10971 : BitVec 32 := Scalar.subi v10970 v10967
  let v10982 : BitVec 32 := Scalar.muli c1_i32_7185 v10971
  let c7_i32_7186 : BitVec 32 := 7#32
  let v10983 : BitVec 32 := Scalar.addi v10982 c7_i32_7186
  let c3_i32_7187 : BitVec 32 := 3#32
  let v10984 : BitVec 32 := Scalar.shrui v10983 c3_i32_7187
  let v10985 : BitVec 32 := Scalar.addi v10967 v10984
  let v10979 : BitVec 32 := Scalar.muli c0_i32_7183 v10971
  let c3_i32_7184 : BitVec 32 := 3#32
  let v10980 : BitVec 32 := Scalar.shrui v10979 c3_i32_7184
  let v10981 : BitVec 32 := Scalar.addi v10967 v10980
  let v10986 : BitVec 32 := Scalar.subi v10985 v10981
  let c1_i32_7188 : BitVec 32 := 1#32
  let v10987 : BitVec 32 := Scalar.subi v10986 c1_i32_7188
  let v10988 : Index := Scalar.indexCast v10987
  let v10989 : Index := Scalar.indexCast v10981
  let c0_7189 : Index := 0#32
  let c0_7190 : Index := 0#32
  ![v10988.toNat, v10989.toNat, 0, 0]
def k0_off107_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk53 (v10958 : BitVec 32) (v10964 : BitVec 32) : Prop :=
  (∀ (r : Fin 8), ∀ a, (k0_off107 v10958 v10964 (k0_off107_at r).1 (k0_off107_at r).2) a + S1x1x64x256.size a ≤ S6x64x64x256.size a)
theorem k0_off107_inb : ∀ (v10958 : BitVec 32) (v10964 : BitVec 32) (k0_hw53 : k0_chk53 v10958 v10964), ∀ (r : Fin 8), ∀ a, (k0_off107 v10958 v10964 (k0_off107_at r).1 (k0_off107_at r).2) a + S1x1x64x256.size a ≤ S6x64x64x256.size a := fun v10958 v10964 k0_hw53 r => k0_hw53 r

def k0_off108 (v10955 : BitVec 32) (v10961 : BitVec 32) (c0_i32_7319 : BitVec 32) : Fin 3 → Nat :=
  let c1_i32_7179 : BitVec 32 := 1#32
  let v10972 : BitVec 32 := Scalar.shrui v10961 c1_i32_7179
  let v10973 : BitVec 32 := Scalar.subi v10955 v10972
  let c0_i32_7180 : BitVec 32 := 0#32
  let v10974 : BitVec 32 := Scalar.maxsi v10973 c0_i32_7180
  let v10975 : BitVec 32 := Scalar.addi v10955 v10972
  let c64_i32_7181 : BitVec 32 := 64#32
  let v10976 : BitVec 1 := Scalar.cmpi .sgt v10975 c64_i32_7181
  let c63_i32_7182 : BitVec 32 := 63#32
  let v10977 : BitVec 32 := Scalar.select v10976 c63_i32_7182 v10975
  let v10978 : BitVec 32 := Scalar.subi v10977 v10974
  let v11148 : BitVec 32 := Scalar.muli c0_i32_7319 v10978
  let c3_i32_7320 : BitVec 32 := 3#32
  let v11149 : BitVec 32 := Scalar.shrui v11148 c3_i32_7320
  let v11150 : BitVec 32 := Scalar.addi v10974 v11149
  let c0_i32_7324 : BitVec 32 := 0#32
  let v11155 : BitVec 32 := Scalar.subi v11150 c0_i32_7324
  let c56_i32_7326 : BitVec 32 := 56#32
  let v11157 : BitVec 32 := Scalar.minsi v11155 c56_i32_7326
  let v11158 : Index := Scalar.indexCast v11157
  let c0_7327 : Index := 0#32
  let c0_7328 : Index := 0#32
  ![v11158.toNat, 0, 0]

def k0_chk54 (v10955 : BitVec 32) (v10961 : BitVec 32) : Prop :=
  (∀ (r : Fin 8), ∀ a, (k0_off108 v10955 v10961 (BitVec.ofNat 32 r.val)) a + S8x8x256.size a ≤ S64x8x256.size a)
theorem k0_off108_inb : ∀ (v10955 : BitVec 32) (v10961 : BitVec 32) (k0_hw54 : k0_chk54 v10955 v10961), ∀ (r : Fin 8), ∀ a, (k0_off108 v10955 v10961 (BitVec.ofNat 32 r.val)) a + S8x8x256.size a ≤ S64x8x256.size a := fun v10955 v10961 k0_hw54 r => k0_hw54 r

def k0_off109 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7446 : BitVec 32 := 32#32
  let v11372 : BitVec 32 := Scalar.muli v4 c32_i32_7446
  let c27_i32 : BitVec 32 := 27#32
  let v11373 : BitVec 32 := Scalar.addi v11372 c27_i32
  let c4_i32_7447 : BitVec 32 := 4#32
  let v11374 : BitVec 32 := Scalar.muli v11373 c4_i32_7447
  let v11375 : Index := Scalar.indexCast v11374
  ![v11375.toNat]
def k0_off110 (i : grid0.Coords) (c1_i32_7448 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7446 : BitVec 32 := 32#32
  let v11372 : BitVec 32 := Scalar.muli v4 c32_i32_7446
  let c27_i32 : BitVec 32 := 27#32
  let v11373 : BitVec 32 := Scalar.addi v11372 c27_i32
  let c4_i32_7447 : BitVec 32 := 4#32
  let v11374 : BitVec 32 := Scalar.muli v11373 c4_i32_7447
  let v11377 : BitVec 32 := Scalar.addi v11374 c1_i32_7448
  let v11378 : Index := Scalar.indexCast v11377
  ![v11378.toNat]
def k0_off111 (v11379 : BitVec 32) (v11385 : BitVec 32) (c1_i32_7461 : BitVec 32) (c0_i32_7459 : BitVec 32) : Fin 4 → Nat :=
  let c1_i32_7451 : BitVec 32 := 1#32
  let v11386 : BitVec 32 := Scalar.shrui v11385 c1_i32_7451
  let v11387 : BitVec 32 := Scalar.subi v11379 v11386
  let c0_i32_7452 : BitVec 32 := 0#32
  let v11388 : BitVec 32 := Scalar.maxsi v11387 c0_i32_7452
  let v11389 : BitVec 32 := Scalar.addi v11379 v11386
  let c64_i32_7453 : BitVec 32 := 64#32
  let v11390 : BitVec 1 := Scalar.cmpi .sgt v11389 c64_i32_7453
  let c63_i32_7454 : BitVec 32 := 63#32
  let v11391 : BitVec 32 := Scalar.select v11390 c63_i32_7454 v11389
  let v11392 : BitVec 32 := Scalar.subi v11391 v11388
  let v11403 : BitVec 32 := Scalar.muli c1_i32_7461 v11392
  let c7_i32_7462 : BitVec 32 := 7#32
  let v11404 : BitVec 32 := Scalar.addi v11403 c7_i32_7462
  let c3_i32_7463 : BitVec 32 := 3#32
  let v11405 : BitVec 32 := Scalar.shrui v11404 c3_i32_7463
  let v11406 : BitVec 32 := Scalar.addi v11388 v11405
  let v11400 : BitVec 32 := Scalar.muli c0_i32_7459 v11392
  let c3_i32_7460 : BitVec 32 := 3#32
  let v11401 : BitVec 32 := Scalar.shrui v11400 c3_i32_7460
  let v11402 : BitVec 32 := Scalar.addi v11388 v11401
  let v11407 : BitVec 32 := Scalar.subi v11406 v11402
  let c1_i32_7464 : BitVec 32 := 1#32
  let v11408 : BitVec 32 := Scalar.subi v11407 c1_i32_7464
  let v11409 : Index := Scalar.indexCast v11408
  let v11410 : Index := Scalar.indexCast v11402
  let c0_7465 : Index := 0#32
  let c0_7466 : Index := 0#32
  ![v11409.toNat, v11410.toNat, 0, 0]
def k0_off111_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk55 (v11379 : BitVec 32) (v11385 : BitVec 32) : Prop :=
  (∀ (r : Fin 8), ∀ a, (k0_off111 v11379 v11385 (k0_off111_at r).1 (k0_off111_at r).2) a + S1x1x64x256.size a ≤ S6x64x64x256.size a)
theorem k0_off111_inb : ∀ (v11379 : BitVec 32) (v11385 : BitVec 32) (k0_hw55 : k0_chk55 v11379 v11385), ∀ (r : Fin 8), ∀ a, (k0_off111 v11379 v11385 (k0_off111_at r).1 (k0_off111_at r).2) a + S1x1x64x256.size a ≤ S6x64x64x256.size a := fun v11379 v11385 k0_hw55 r => k0_hw55 r

def k0_off112 (v11376 : BitVec 32) (v11382 : BitVec 32) (c0_i32_7595 : BitVec 32) : Fin 3 → Nat :=
  let c1_i32_7455 : BitVec 32 := 1#32
  let v11393 : BitVec 32 := Scalar.shrui v11382 c1_i32_7455
  let v11394 : BitVec 32 := Scalar.subi v11376 v11393
  let c0_i32_7456 : BitVec 32 := 0#32
  let v11395 : BitVec 32 := Scalar.maxsi v11394 c0_i32_7456
  let v11396 : BitVec 32 := Scalar.addi v11376 v11393
  let c64_i32_7457 : BitVec 32 := 64#32
  let v11397 : BitVec 1 := Scalar.cmpi .sgt v11396 c64_i32_7457
  let c63_i32_7458 : BitVec 32 := 63#32
  let v11398 : BitVec 32 := Scalar.select v11397 c63_i32_7458 v11396
  let v11399 : BitVec 32 := Scalar.subi v11398 v11395
  let v11569 : BitVec 32 := Scalar.muli c0_i32_7595 v11399
  let c3_i32_7596 : BitVec 32 := 3#32
  let v11570 : BitVec 32 := Scalar.shrui v11569 c3_i32_7596
  let v11571 : BitVec 32 := Scalar.addi v11395 v11570
  let c0_i32_7600 : BitVec 32 := 0#32
  let v11576 : BitVec 32 := Scalar.subi v11571 c0_i32_7600
  let c56_i32_7602 : BitVec 32 := 56#32
  let v11578 : BitVec 32 := Scalar.minsi v11576 c56_i32_7602
  let v11579 : Index := Scalar.indexCast v11578
  let c0_7603 : Index := 0#32
  let c0_7604 : Index := 0#32
  ![v11579.toNat, 0, 0]

def k0_chk56 (v11376 : BitVec 32) (v11382 : BitVec 32) : Prop :=
  (∀ (r : Fin 8), ∀ a, (k0_off112 v11376 v11382 (BitVec.ofNat 32 r.val)) a + S8x8x256.size a ≤ S64x8x256.size a)
theorem k0_off112_inb : ∀ (v11376 : BitVec 32) (v11382 : BitVec 32) (k0_hw56 : k0_chk56 v11376 v11382), ∀ (r : Fin 8), ∀ a, (k0_off112 v11376 v11382 (BitVec.ofNat 32 r.val)) a + S8x8x256.size a ≤ S64x8x256.size a := fun v11376 v11382 k0_hw56 r => k0_hw56 r

def k0_off113 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7722 : BitVec 32 := 32#32
  let v11793 : BitVec 32 := Scalar.muli v4 c32_i32_7722
  let c28_i32 : BitVec 32 := 28#32
  let v11794 : BitVec 32 := Scalar.addi v11793 c28_i32
  let c4_i32_7723 : BitVec 32 := 4#32
  let v11795 : BitVec 32 := Scalar.muli v11794 c4_i32_7723
  let v11796 : Index := Scalar.indexCast v11795
  ![v11796.toNat]
def k0_off114 (i : grid0.Coords) (c1_i32_7724 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7722 : BitVec 32 := 32#32
  let v11793 : BitVec 32 := Scalar.muli v4 c32_i32_7722
  let c28_i32 : BitVec 32 := 28#32
  let v11794 : BitVec 32 := Scalar.addi v11793 c28_i32
  let c4_i32_7723 : BitVec 32 := 4#32
  let v11795 : BitVec 32 := Scalar.muli v11794 c4_i32_7723
  let v11798 : BitVec 32 := Scalar.addi v11795 c1_i32_7724
  let v11799 : Index := Scalar.indexCast v11798
  ![v11799.toNat]
def k0_off115 (v11800 : BitVec 32) (v11806 : BitVec 32) (c1_i32_7737 : BitVec 32) (c0_i32_7735 : BitVec 32) : Fin 4 → Nat :=
  let c1_i32_7727 : BitVec 32 := 1#32
  let v11807 : BitVec 32 := Scalar.shrui v11806 c1_i32_7727
  let v11808 : BitVec 32 := Scalar.subi v11800 v11807
  let c0_i32_7728 : BitVec 32 := 0#32
  let v11809 : BitVec 32 := Scalar.maxsi v11808 c0_i32_7728
  let v11810 : BitVec 32 := Scalar.addi v11800 v11807
  let c64_i32_7729 : BitVec 32 := 64#32
  let v11811 : BitVec 1 := Scalar.cmpi .sgt v11810 c64_i32_7729
  let c63_i32_7730 : BitVec 32 := 63#32
  let v11812 : BitVec 32 := Scalar.select v11811 c63_i32_7730 v11810
  let v11813 : BitVec 32 := Scalar.subi v11812 v11809
  let v11824 : BitVec 32 := Scalar.muli c1_i32_7737 v11813
  let c7_i32_7738 : BitVec 32 := 7#32
  let v11825 : BitVec 32 := Scalar.addi v11824 c7_i32_7738
  let c3_i32_7739 : BitVec 32 := 3#32
  let v11826 : BitVec 32 := Scalar.shrui v11825 c3_i32_7739
  let v11827 : BitVec 32 := Scalar.addi v11809 v11826
  let v11821 : BitVec 32 := Scalar.muli c0_i32_7735 v11813
  let c3_i32_7736 : BitVec 32 := 3#32
  let v11822 : BitVec 32 := Scalar.shrui v11821 c3_i32_7736
  let v11823 : BitVec 32 := Scalar.addi v11809 v11822
  let v11828 : BitVec 32 := Scalar.subi v11827 v11823
  let c1_i32_7740 : BitVec 32 := 1#32
  let v11829 : BitVec 32 := Scalar.subi v11828 c1_i32_7740
  let v11830 : Index := Scalar.indexCast v11829
  let v11831 : Index := Scalar.indexCast v11823
  let c0_7741 : Index := 0#32
  let c0_7742 : Index := 0#32
  ![v11830.toNat, v11831.toNat, 0, 0]
def k0_off115_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk57 (v11800 : BitVec 32) (v11806 : BitVec 32) : Prop :=
  (∀ (r : Fin 8), ∀ a, (k0_off115 v11800 v11806 (k0_off115_at r).1 (k0_off115_at r).2) a + S1x1x64x256.size a ≤ S6x64x64x256.size a)
theorem k0_off115_inb : ∀ (v11800 : BitVec 32) (v11806 : BitVec 32) (k0_hw57 : k0_chk57 v11800 v11806), ∀ (r : Fin 8), ∀ a, (k0_off115 v11800 v11806 (k0_off115_at r).1 (k0_off115_at r).2) a + S1x1x64x256.size a ≤ S6x64x64x256.size a := fun v11800 v11806 k0_hw57 r => k0_hw57 r

def k0_off116 (v11797 : BitVec 32) (v11803 : BitVec 32) (c0_i32_7871 : BitVec 32) : Fin 3 → Nat :=
  let c1_i32_7731 : BitVec 32 := 1#32
  let v11814 : BitVec 32 := Scalar.shrui v11803 c1_i32_7731
  let v11815 : BitVec 32 := Scalar.subi v11797 v11814
  let c0_i32_7732 : BitVec 32 := 0#32
  let v11816 : BitVec 32 := Scalar.maxsi v11815 c0_i32_7732
  let v11817 : BitVec 32 := Scalar.addi v11797 v11814
  let c64_i32_7733 : BitVec 32 := 64#32
  let v11818 : BitVec 1 := Scalar.cmpi .sgt v11817 c64_i32_7733
  let c63_i32_7734 : BitVec 32 := 63#32
  let v11819 : BitVec 32 := Scalar.select v11818 c63_i32_7734 v11817
  let v11820 : BitVec 32 := Scalar.subi v11819 v11816
  let v11990 : BitVec 32 := Scalar.muli c0_i32_7871 v11820
  let c3_i32_7872 : BitVec 32 := 3#32
  let v11991 : BitVec 32 := Scalar.shrui v11990 c3_i32_7872
  let v11992 : BitVec 32 := Scalar.addi v11816 v11991
  let c0_i32_7876 : BitVec 32 := 0#32
  let v11997 : BitVec 32 := Scalar.subi v11992 c0_i32_7876
  let c56_i32_7878 : BitVec 32 := 56#32
  let v11999 : BitVec 32 := Scalar.minsi v11997 c56_i32_7878
  let v12000 : Index := Scalar.indexCast v11999
  let c0_7879 : Index := 0#32
  let c0_7880 : Index := 0#32
  ![v12000.toNat, 0, 0]

def k0_chk58 (v11797 : BitVec 32) (v11803 : BitVec 32) : Prop :=
  (∀ (r : Fin 8), ∀ a, (k0_off116 v11797 v11803 (BitVec.ofNat 32 r.val)) a + S8x8x256.size a ≤ S64x8x256.size a)
theorem k0_off116_inb : ∀ (v11797 : BitVec 32) (v11803 : BitVec 32) (k0_hw58 : k0_chk58 v11797 v11803), ∀ (r : Fin 8), ∀ a, (k0_off116 v11797 v11803 (BitVec.ofNat 32 r.val)) a + S8x8x256.size a ≤ S64x8x256.size a := fun v11797 v11803 k0_hw58 r => k0_hw58 r

def k0_off117 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7998 : BitVec 32 := 32#32
  let v12214 : BitVec 32 := Scalar.muli v4 c32_i32_7998
  let c29_i32 : BitVec 32 := 29#32
  let v12215 : BitVec 32 := Scalar.addi v12214 c29_i32
  let c4_i32_7999 : BitVec 32 := 4#32
  let v12216 : BitVec 32 := Scalar.muli v12215 c4_i32_7999
  let v12217 : Index := Scalar.indexCast v12216
  ![v12217.toNat]
def k0_off118 (i : grid0.Coords) (c1_i32_8000 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_7998 : BitVec 32 := 32#32
  let v12214 : BitVec 32 := Scalar.muli v4 c32_i32_7998
  let c29_i32 : BitVec 32 := 29#32
  let v12215 : BitVec 32 := Scalar.addi v12214 c29_i32
  let c4_i32_7999 : BitVec 32 := 4#32
  let v12216 : BitVec 32 := Scalar.muli v12215 c4_i32_7999
  let v12219 : BitVec 32 := Scalar.addi v12216 c1_i32_8000
  let v12220 : Index := Scalar.indexCast v12219
  ![v12220.toNat]
def k0_off119 (v12221 : BitVec 32) (v12227 : BitVec 32) (c1_i32_8013 : BitVec 32) (c0_i32_8011 : BitVec 32) : Fin 4 → Nat :=
  let c1_i32_8003 : BitVec 32 := 1#32
  let v12228 : BitVec 32 := Scalar.shrui v12227 c1_i32_8003
  let v12229 : BitVec 32 := Scalar.subi v12221 v12228
  let c0_i32_8004 : BitVec 32 := 0#32
  let v12230 : BitVec 32 := Scalar.maxsi v12229 c0_i32_8004
  let v12231 : BitVec 32 := Scalar.addi v12221 v12228
  let c64_i32_8005 : BitVec 32 := 64#32
  let v12232 : BitVec 1 := Scalar.cmpi .sgt v12231 c64_i32_8005
  let c63_i32_8006 : BitVec 32 := 63#32
  let v12233 : BitVec 32 := Scalar.select v12232 c63_i32_8006 v12231
  let v12234 : BitVec 32 := Scalar.subi v12233 v12230
  let v12245 : BitVec 32 := Scalar.muli c1_i32_8013 v12234
  let c7_i32_8014 : BitVec 32 := 7#32
  let v12246 : BitVec 32 := Scalar.addi v12245 c7_i32_8014
  let c3_i32_8015 : BitVec 32 := 3#32
  let v12247 : BitVec 32 := Scalar.shrui v12246 c3_i32_8015
  let v12248 : BitVec 32 := Scalar.addi v12230 v12247
  let v12242 : BitVec 32 := Scalar.muli c0_i32_8011 v12234
  let c3_i32_8012 : BitVec 32 := 3#32
  let v12243 : BitVec 32 := Scalar.shrui v12242 c3_i32_8012
  let v12244 : BitVec 32 := Scalar.addi v12230 v12243
  let v12249 : BitVec 32 := Scalar.subi v12248 v12244
  let c1_i32_8016 : BitVec 32 := 1#32
  let v12250 : BitVec 32 := Scalar.subi v12249 c1_i32_8016
  let v12251 : Index := Scalar.indexCast v12250
  let v12252 : Index := Scalar.indexCast v12244
  let c0_8017 : Index := 0#32
  let c0_8018 : Index := 0#32
  ![v12251.toNat, v12252.toNat, 0, 0]
def k0_off119_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk59 (v12221 : BitVec 32) (v12227 : BitVec 32) : Prop :=
  (∀ (r : Fin 8), ∀ a, (k0_off119 v12221 v12227 (k0_off119_at r).1 (k0_off119_at r).2) a + S1x1x64x256.size a ≤ S6x64x64x256.size a)
theorem k0_off119_inb : ∀ (v12221 : BitVec 32) (v12227 : BitVec 32) (k0_hw59 : k0_chk59 v12221 v12227), ∀ (r : Fin 8), ∀ a, (k0_off119 v12221 v12227 (k0_off119_at r).1 (k0_off119_at r).2) a + S1x1x64x256.size a ≤ S6x64x64x256.size a := fun v12221 v12227 k0_hw59 r => k0_hw59 r

def k0_off120 (v12218 : BitVec 32) (v12224 : BitVec 32) (c0_i32_8147 : BitVec 32) : Fin 3 → Nat :=
  let c1_i32_8007 : BitVec 32 := 1#32
  let v12235 : BitVec 32 := Scalar.shrui v12224 c1_i32_8007
  let v12236 : BitVec 32 := Scalar.subi v12218 v12235
  let c0_i32_8008 : BitVec 32 := 0#32
  let v12237 : BitVec 32 := Scalar.maxsi v12236 c0_i32_8008
  let v12238 : BitVec 32 := Scalar.addi v12218 v12235
  let c64_i32_8009 : BitVec 32 := 64#32
  let v12239 : BitVec 1 := Scalar.cmpi .sgt v12238 c64_i32_8009
  let c63_i32_8010 : BitVec 32 := 63#32
  let v12240 : BitVec 32 := Scalar.select v12239 c63_i32_8010 v12238
  let v12241 : BitVec 32 := Scalar.subi v12240 v12237
  let v12411 : BitVec 32 := Scalar.muli c0_i32_8147 v12241
  let c3_i32_8148 : BitVec 32 := 3#32
  let v12412 : BitVec 32 := Scalar.shrui v12411 c3_i32_8148
  let v12413 : BitVec 32 := Scalar.addi v12237 v12412
  let c0_i32_8152 : BitVec 32 := 0#32
  let v12418 : BitVec 32 := Scalar.subi v12413 c0_i32_8152
  let c56_i32_8154 : BitVec 32 := 56#32
  let v12420 : BitVec 32 := Scalar.minsi v12418 c56_i32_8154
  let v12421 : Index := Scalar.indexCast v12420
  let c0_8155 : Index := 0#32
  let c0_8156 : Index := 0#32
  ![v12421.toNat, 0, 0]

def k0_chk60 (v12218 : BitVec 32) (v12224 : BitVec 32) : Prop :=
  (∀ (r : Fin 8), ∀ a, (k0_off120 v12218 v12224 (BitVec.ofNat 32 r.val)) a + S8x8x256.size a ≤ S64x8x256.size a)
theorem k0_off120_inb : ∀ (v12218 : BitVec 32) (v12224 : BitVec 32) (k0_hw60 : k0_chk60 v12218 v12224), ∀ (r : Fin 8), ∀ a, (k0_off120 v12218 v12224 (BitVec.ofNat 32 r.val)) a + S8x8x256.size a ≤ S64x8x256.size a := fun v12218 v12224 k0_hw60 r => k0_hw60 r

def k0_off121 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_8274 : BitVec 32 := 32#32
  let v12635 : BitVec 32 := Scalar.muli v4 c32_i32_8274
  let c30_i32 : BitVec 32 := 30#32
  let v12636 : BitVec 32 := Scalar.addi v12635 c30_i32
  let c4_i32_8275 : BitVec 32 := 4#32
  let v12637 : BitVec 32 := Scalar.muli v12636 c4_i32_8275
  let v12638 : Index := Scalar.indexCast v12637
  ![v12638.toNat]
def k0_off122 (i : grid0.Coords) (c1_i32_8276 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_8274 : BitVec 32 := 32#32
  let v12635 : BitVec 32 := Scalar.muli v4 c32_i32_8274
  let c30_i32 : BitVec 32 := 30#32
  let v12636 : BitVec 32 := Scalar.addi v12635 c30_i32
  let c4_i32_8275 : BitVec 32 := 4#32
  let v12637 : BitVec 32 := Scalar.muli v12636 c4_i32_8275
  let v12640 : BitVec 32 := Scalar.addi v12637 c1_i32_8276
  let v12641 : Index := Scalar.indexCast v12640
  ![v12641.toNat]
def k0_off123 (v12642 : BitVec 32) (v12648 : BitVec 32) (c1_i32_8289 : BitVec 32) (c0_i32_8287 : BitVec 32) : Fin 4 → Nat :=
  let c1_i32_8279 : BitVec 32 := 1#32
  let v12649 : BitVec 32 := Scalar.shrui v12648 c1_i32_8279
  let v12650 : BitVec 32 := Scalar.subi v12642 v12649
  let c0_i32_8280 : BitVec 32 := 0#32
  let v12651 : BitVec 32 := Scalar.maxsi v12650 c0_i32_8280
  let v12652 : BitVec 32 := Scalar.addi v12642 v12649
  let c64_i32_8281 : BitVec 32 := 64#32
  let v12653 : BitVec 1 := Scalar.cmpi .sgt v12652 c64_i32_8281
  let c63_i32_8282 : BitVec 32 := 63#32
  let v12654 : BitVec 32 := Scalar.select v12653 c63_i32_8282 v12652
  let v12655 : BitVec 32 := Scalar.subi v12654 v12651
  let v12666 : BitVec 32 := Scalar.muli c1_i32_8289 v12655
  let c7_i32_8290 : BitVec 32 := 7#32
  let v12667 : BitVec 32 := Scalar.addi v12666 c7_i32_8290
  let c3_i32_8291 : BitVec 32 := 3#32
  let v12668 : BitVec 32 := Scalar.shrui v12667 c3_i32_8291
  let v12669 : BitVec 32 := Scalar.addi v12651 v12668
  let v12663 : BitVec 32 := Scalar.muli c0_i32_8287 v12655
  let c3_i32_8288 : BitVec 32 := 3#32
  let v12664 : BitVec 32 := Scalar.shrui v12663 c3_i32_8288
  let v12665 : BitVec 32 := Scalar.addi v12651 v12664
  let v12670 : BitVec 32 := Scalar.subi v12669 v12665
  let c1_i32_8292 : BitVec 32 := 1#32
  let v12671 : BitVec 32 := Scalar.subi v12670 c1_i32_8292
  let v12672 : Index := Scalar.indexCast v12671
  let v12673 : Index := Scalar.indexCast v12665
  let c0_8293 : Index := 0#32
  let c0_8294 : Index := 0#32
  ![v12672.toNat, v12673.toNat, 0, 0]
def k0_off123_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk61 (v12642 : BitVec 32) (v12648 : BitVec 32) : Prop :=
  (∀ (r : Fin 8), ∀ a, (k0_off123 v12642 v12648 (k0_off123_at r).1 (k0_off123_at r).2) a + S1x1x64x256.size a ≤ S6x64x64x256.size a)
theorem k0_off123_inb : ∀ (v12642 : BitVec 32) (v12648 : BitVec 32) (k0_hw61 : k0_chk61 v12642 v12648), ∀ (r : Fin 8), ∀ a, (k0_off123 v12642 v12648 (k0_off123_at r).1 (k0_off123_at r).2) a + S1x1x64x256.size a ≤ S6x64x64x256.size a := fun v12642 v12648 k0_hw61 r => k0_hw61 r

def k0_off124 (v12639 : BitVec 32) (v12645 : BitVec 32) (c0_i32_8423 : BitVec 32) : Fin 3 → Nat :=
  let c1_i32_8283 : BitVec 32 := 1#32
  let v12656 : BitVec 32 := Scalar.shrui v12645 c1_i32_8283
  let v12657 : BitVec 32 := Scalar.subi v12639 v12656
  let c0_i32_8284 : BitVec 32 := 0#32
  let v12658 : BitVec 32 := Scalar.maxsi v12657 c0_i32_8284
  let v12659 : BitVec 32 := Scalar.addi v12639 v12656
  let c64_i32_8285 : BitVec 32 := 64#32
  let v12660 : BitVec 1 := Scalar.cmpi .sgt v12659 c64_i32_8285
  let c63_i32_8286 : BitVec 32 := 63#32
  let v12661 : BitVec 32 := Scalar.select v12660 c63_i32_8286 v12659
  let v12662 : BitVec 32 := Scalar.subi v12661 v12658
  let v12832 : BitVec 32 := Scalar.muli c0_i32_8423 v12662
  let c3_i32_8424 : BitVec 32 := 3#32
  let v12833 : BitVec 32 := Scalar.shrui v12832 c3_i32_8424
  let v12834 : BitVec 32 := Scalar.addi v12658 v12833
  let c0_i32_8428 : BitVec 32 := 0#32
  let v12839 : BitVec 32 := Scalar.subi v12834 c0_i32_8428
  let c56_i32_8430 : BitVec 32 := 56#32
  let v12841 : BitVec 32 := Scalar.minsi v12839 c56_i32_8430
  let v12842 : Index := Scalar.indexCast v12841
  let c0_8431 : Index := 0#32
  let c0_8432 : Index := 0#32
  ![v12842.toNat, 0, 0]

def k0_chk62 (v12639 : BitVec 32) (v12645 : BitVec 32) : Prop :=
  (∀ (r : Fin 8), ∀ a, (k0_off124 v12639 v12645 (BitVec.ofNat 32 r.val)) a + S8x8x256.size a ≤ S64x8x256.size a)
theorem k0_off124_inb : ∀ (v12639 : BitVec 32) (v12645 : BitVec 32) (k0_hw62 : k0_chk62 v12639 v12645), ∀ (r : Fin 8), ∀ a, (k0_off124 v12639 v12645 (BitVec.ofNat 32 r.val)) a + S8x8x256.size a ≤ S64x8x256.size a := fun v12639 v12645 k0_hw62 r => k0_hw62 r

def k0_off125 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_8550 : BitVec 32 := 32#32
  let v13056 : BitVec 32 := Scalar.muli v4 c32_i32_8550
  let c31_i32 : BitVec 32 := 31#32
  let v13057 : BitVec 32 := Scalar.addi v13056 c31_i32
  let c4_i32_8551 : BitVec 32 := 4#32
  let v13058 : BitVec 32 := Scalar.muli v13057 c4_i32_8551
  let v13059 : Index := Scalar.indexCast v13058
  ![v13059.toNat]
def k0_off126 (i : grid0.Coords) (c1_i32_8552 : BitVec 32) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_8550 : BitVec 32 := 32#32
  let v13056 : BitVec 32 := Scalar.muli v4 c32_i32_8550
  let c31_i32 : BitVec 32 := 31#32
  let v13057 : BitVec 32 := Scalar.addi v13056 c31_i32
  let c4_i32_8551 : BitVec 32 := 4#32
  let v13058 : BitVec 32 := Scalar.muli v13057 c4_i32_8551
  let v13061 : BitVec 32 := Scalar.addi v13058 c1_i32_8552
  let v13062 : Index := Scalar.indexCast v13061
  ![v13062.toNat]
def k0_off127 (v13063 : BitVec 32) (v13069 : BitVec 32) (c1_i32_8565 : BitVec 32) (c0_i32_8563 : BitVec 32) : Fin 4 → Nat :=
  let c1_i32_8555 : BitVec 32 := 1#32
  let v13070 : BitVec 32 := Scalar.shrui v13069 c1_i32_8555
  let v13071 : BitVec 32 := Scalar.subi v13063 v13070
  let c0_i32_8556 : BitVec 32 := 0#32
  let v13072 : BitVec 32 := Scalar.maxsi v13071 c0_i32_8556
  let v13073 : BitVec 32 := Scalar.addi v13063 v13070
  let c64_i32_8557 : BitVec 32 := 64#32
  let v13074 : BitVec 1 := Scalar.cmpi .sgt v13073 c64_i32_8557
  let c63_i32_8558 : BitVec 32 := 63#32
  let v13075 : BitVec 32 := Scalar.select v13074 c63_i32_8558 v13073
  let v13076 : BitVec 32 := Scalar.subi v13075 v13072
  let v13087 : BitVec 32 := Scalar.muli c1_i32_8565 v13076
  let c7_i32_8566 : BitVec 32 := 7#32
  let v13088 : BitVec 32 := Scalar.addi v13087 c7_i32_8566
  let c3_i32_8567 : BitVec 32 := 3#32
  let v13089 : BitVec 32 := Scalar.shrui v13088 c3_i32_8567
  let v13090 : BitVec 32 := Scalar.addi v13072 v13089
  let v13084 : BitVec 32 := Scalar.muli c0_i32_8563 v13076
  let c3_i32_8564 : BitVec 32 := 3#32
  let v13085 : BitVec 32 := Scalar.shrui v13084 c3_i32_8564
  let v13086 : BitVec 32 := Scalar.addi v13072 v13085
  let v13091 : BitVec 32 := Scalar.subi v13090 v13086
  let c1_i32_8568 : BitVec 32 := 1#32
  let v13092 : BitVec 32 := Scalar.subi v13091 c1_i32_8568
  let v13093 : Index := Scalar.indexCast v13092
  let v13094 : Index := Scalar.indexCast v13086
  let c0_8569 : Index := 0#32
  let c0_8570 : Index := 0#32
  ![v13093.toNat, v13094.toNat, 0, 0]
def k0_off127_at (r : Fin 8) : BitVec 32 × BitVec 32 :=
  if r.val < 4 then
    if r.val < 2 then
      if r.val < 1 then
        (1#32, 0#32)
      else
        (2#32, 1#32)
    else
      if r.val < 3 then
        (3#32, 2#32)
      else
        (4#32, 3#32)
  else
    if r.val < 6 then
      if r.val < 5 then
        (5#32, 4#32)
      else
        (6#32, 5#32)
    else
      if r.val < 7 then
        (7#32, 6#32)
      else
        (8#32, 7#32)

def k0_chk63 (v13063 : BitVec 32) (v13069 : BitVec 32) : Prop :=
  (∀ (r : Fin 8), ∀ a, (k0_off127 v13063 v13069 (k0_off127_at r).1 (k0_off127_at r).2) a + S1x1x64x256.size a ≤ S6x64x64x256.size a)
theorem k0_off127_inb : ∀ (v13063 : BitVec 32) (v13069 : BitVec 32) (k0_hw63 : k0_chk63 v13063 v13069), ∀ (r : Fin 8), ∀ a, (k0_off127 v13063 v13069 (k0_off127_at r).1 (k0_off127_at r).2) a + S1x1x64x256.size a ≤ S6x64x64x256.size a := fun v13063 v13069 k0_hw63 r => k0_hw63 r

def k0_off128 (v13060 : BitVec 32) (v13066 : BitVec 32) (c0_i32_8699 : BitVec 32) : Fin 3 → Nat :=
  let c1_i32_8559 : BitVec 32 := 1#32
  let v13077 : BitVec 32 := Scalar.shrui v13066 c1_i32_8559
  let v13078 : BitVec 32 := Scalar.subi v13060 v13077
  let c0_i32_8560 : BitVec 32 := 0#32
  let v13079 : BitVec 32 := Scalar.maxsi v13078 c0_i32_8560
  let v13080 : BitVec 32 := Scalar.addi v13060 v13077
  let c64_i32_8561 : BitVec 32 := 64#32
  let v13081 : BitVec 1 := Scalar.cmpi .sgt v13080 c64_i32_8561
  let c63_i32_8562 : BitVec 32 := 63#32
  let v13082 : BitVec 32 := Scalar.select v13081 c63_i32_8562 v13080
  let v13083 : BitVec 32 := Scalar.subi v13082 v13079
  let v13253 : BitVec 32 := Scalar.muli c0_i32_8699 v13083
  let c3_i32_8700 : BitVec 32 := 3#32
  let v13254 : BitVec 32 := Scalar.shrui v13253 c3_i32_8700
  let v13255 : BitVec 32 := Scalar.addi v13079 v13254
  let c0_i32_8704 : BitVec 32 := 0#32
  let v13260 : BitVec 32 := Scalar.subi v13255 c0_i32_8704
  let c56_i32_8706 : BitVec 32 := 56#32
  let v13262 : BitVec 32 := Scalar.minsi v13260 c56_i32_8706
  let v13263 : Index := Scalar.indexCast v13262
  let c0_8707 : Index := 0#32
  let c0_8708 : Index := 0#32
  ![v13263.toNat, 0, 0]

def k0_chk64 (v13060 : BitVec 32) (v13066 : BitVec 32) : Prop :=
  (∀ (r : Fin 8), ∀ a, (k0_off128 v13060 v13066 (BitVec.ofNat 32 r.val)) a + S8x8x256.size a ≤ S64x8x256.size a)
theorem k0_off128_inb : ∀ (v13060 : BitVec 32) (v13066 : BitVec 32) (k0_hw64 : k0_chk64 v13060 v13066), ∀ (r : Fin 8), ∀ a, (k0_off128 v13060 v13066 (BitVec.ofNat 32 r.val)) a + S8x8x256.size a ≤ S64x8x256.size a := fun v13060 v13066 k0_hw64 r => k0_hw64 r

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 1 → Memref sig .tc .vmem S64x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S256x64x64 : Shape := ⟨3, ![256, 64, 64]⟩
abbrev S512x4 : Shape := ⟨2, ![512, 4]⟩
abbrev S512x1 : Shape := ⟨2, ![512, 1]⟩
abbrev S512 : Shape := ⟨1, ![512]⟩
abbrev S_ : Shape := ⟨0, ![]⟩
abbrev S8 : Shape := ⟨1, ![8]⟩
abbrev S1x8 : Shape := ⟨2, ![1, 8]⟩
abbrev S512x8 : Shape := ⟨2, ![512, 8]⟩
abbrev S64 : Shape := ⟨1, ![64]⟩
abbrev S1x1x64 : Shape := ⟨3, ![1, 1, 64]⟩
abbrev S512x8x1 : Shape := ⟨3, ![512, 8, 1]⟩
abbrev S512x8x64 : Shape := ⟨3, ![512, 8, 64]⟩
abbrev S512x1x1x8x64 : Shape := ⟨5, ![512, 1, 1, 8, 64]⟩
abbrev S1x256x64x1x64 : Shape := ⟨5, ![1, 256, 64, 1, 64]⟩
abbrev S512x256x64x8x64 : Shape := ⟨5, ![512, 256, 64, 8, 64]⟩
abbrev S512x256x64x8 : Shape := ⟨4, ![512, 256, 64, 8]⟩
abbrev S512x256x8x64 : Shape := ⟨4, ![512, 256, 8, 64]⟩
abbrev S512x1x8x1x64 : Shape := ⟨5, ![512, 1, 8, 1, 64]⟩
abbrev S512x256x1x8x64 : Shape := ⟨5, ![512, 256, 1, 8, 64]⟩
abbrev S512x256x8x8x64 : Shape := ⟨5, ![512, 256, 8, 8, 64]⟩
abbrev S512x256x8x8 : Shape := ⟨4, ![512, 256, 8, 8]⟩

abbrev nBuf : Space → Nat
  | .hbm => 241
  | .vmem => 0
  | .smem => 0
  | _ => 0

abbrev hbmTy0_0 (i : Nat) : BufTy := match i % 128 with
  | 0 => ⟨S256x64x64, .f32⟩
  | 1 => ⟨S512x4, .i32⟩
  | 2 => ⟨S512x1, .i32⟩
  | 3 => ⟨S512, .i32⟩
  | 4 => ⟨S512x1, .i32⟩
  | 5 => ⟨S512, .i32⟩
  | 6 => ⟨S512x1, .i32⟩
  | 7 => ⟨S512, .i32⟩
  | 8 => ⟨S512x1, .i32⟩
  | 9 => ⟨S512, .i32⟩
  | 10 => ⟨S_, .i32⟩
  | 11 => ⟨S_, .i32⟩
  | 12 => ⟨S512, .i32⟩
  | 13 => ⟨S512, .i32⟩
  | 14 => ⟨S512, .i32⟩
  | 15 => ⟨S_, .i32⟩
  | 16 => ⟨S512, .i32⟩
  | 17 => ⟨S512, .i1⟩
  | 18 => ⟨S512, .i32⟩
  | 19 => ⟨S512, .i32⟩
  | 20 => ⟨S_, .i32⟩
  | 21 => ⟨S512, .i32⟩
  | 22 => ⟨S512, .i1⟩
  | 23 => ⟨S512, .i1⟩
  | 24 => ⟨S_, .i32⟩
  | 25 => ⟨S512, .i32⟩
  | 26 => ⟨S512, .i32⟩
  | 27 => ⟨S512, .i32⟩
  | 28 => ⟨S512, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S_, .i32⟩
  | 37 => ⟨S_, .i32⟩
  | 38 => ⟨S512, .i32⟩
  | 39 => ⟨S512, .i32⟩
  | 40 => ⟨S_, .i32⟩
  | 41 => ⟨S_, .i32⟩
  | 42 => ⟨S512, .i32⟩
  | 43 => ⟨S512, .i32⟩
  | 44 => ⟨S512, .i32⟩
  | 45 => ⟨S_, .i32⟩
  | 46 => ⟨S512, .i32⟩
  | 47 => ⟨S512, .i1⟩
  | 48 => ⟨S512, .i32⟩
  | 49 => ⟨S512, .i32⟩
  | 50 => ⟨S_, .i32⟩
  | 51 => ⟨S512, .i32⟩
  | 52 => ⟨S512, .i1⟩
  | 53 => ⟨S512, .i1⟩
  | 54 => ⟨S_, .i32⟩
  | 55 => ⟨S512, .i32⟩
  | 56 => ⟨S512, .i32⟩
  | 57 => ⟨S512, .i32⟩
  | 58 => ⟨S512, .i32⟩
  | 59 => ⟨S_, .i32⟩
  | 60 => ⟨S512, .i32⟩
  | 61 => ⟨S512, .i32⟩
  | 62 => ⟨S512, .i32⟩
  | 63 => ⟨S_, .i32⟩
  | 64 => ⟨S512, .i32⟩
  | 65 => ⟨S512, .i1⟩
  | 66 => ⟨S_, .i32⟩
  | 67 => ⟨S_, .i32⟩
  | 68 => ⟨S512, .i32⟩
  | 69 => ⟨S512, .i32⟩
  | 70 => ⟨S512, .i32⟩
  | 71 => ⟨S8, .i32⟩
  | 72 => ⟨S512x1, .i32⟩
  | 73 => ⟨S1x8, .i32⟩
  | 74 => ⟨S512x1, .i32⟩
  | 75 => ⟨S512x8, .i32⟩
  | 76 => ⟨S512x8, .i32⟩
  | 77 => ⟨S512x8, .i32⟩
  | 78 => ⟨S_, .i32⟩
  | 79 => ⟨S_, .i32⟩
  | 80 => ⟨S512x8, .i32⟩
  | 81 => ⟨S512x8, .i32⟩
  | 82 => ⟨S512x8, .i32⟩
  | 83 => ⟨S_, .i32⟩
  | 84 => ⟨S512x8, .i32⟩
  | 85 => ⟨S512x8, .i1⟩
  | 86 => ⟨S512x8, .i32⟩
  | 87 => ⟨S512x8, .i32⟩
  | 88 => ⟨S_, .i32⟩
  | 89 => ⟨S512x8, .i32⟩
  | 90 => ⟨S512x8, .i1⟩
  | 91 => ⟨S512x8, .i1⟩
  | 92 => ⟨S_, .i32⟩
  | 93 => ⟨S512x8, .i32⟩
  | 94 => ⟨S512x8, .i32⟩
  | 95 => ⟨S512x8, .i32⟩
  | 96 => ⟨S512x8, .i32⟩
  | 97 => ⟨S512x8, .i32⟩
  | 98 => ⟨S512x1, .i32⟩
  | 99 => ⟨S1x8, .i32⟩
  | 100 => ⟨S_, .i32⟩
  | 101 => ⟨S1x8, .i32⟩
  | 102 => ⟨S1x8, .i32⟩
  | 103 => ⟨S512x1, .i32⟩
  | 104 => ⟨S512x8, .i32⟩
  | 105 => ⟨S512x8, .i32⟩
  | 106 => ⟨S512x8, .i32⟩
  | 107 => ⟨S_, .i32⟩
  | 108 => ⟨S512x8, .i32⟩
  | 109 => ⟨S512x8, .i32⟩
  | 110 => ⟨S_, .i32⟩
  | 111 => ⟨S512x8, .i32⟩
  | 112 => ⟨S512x8, .i32⟩
  | 113 => ⟨S_, .i32⟩
  | 114 => ⟨S_, .i32⟩
  | 115 => ⟨S512x8, .i32⟩
  | 116 => ⟨S512x8, .i32⟩
  | 117 => ⟨S512x8, .i32⟩
  | 118 => ⟨S_, .i32⟩
  | 119 => ⟨S512x8, .i32⟩
  | 120 => ⟨S512x8, .i1⟩
  | 121 => ⟨S512x8, .i32⟩
  | 122 => ⟨S512x8, .i32⟩
  | 123 => ⟨S_, .i32⟩
  | 124 => ⟨S512x8, .i32⟩
  | 125 => ⟨S512x8, .i1⟩
  | 126 => ⟨S512x8, .i1⟩
  | 127 => ⟨S_, .i32⟩
  | _ => ⟨S256x64x64, .f32⟩

abbrev hbmTy0_1 (i : Nat) : BufTy := match i % 128 with
  | 0 => ⟨S512x8, .i32⟩
  | 1 => ⟨S512x8, .i32⟩
  | 2 => ⟨S512x8, .i32⟩
  | 3 => ⟨S512x8, .i32⟩
  | 4 => ⟨S512x8, .i32⟩
  | 5 => ⟨S64, .i32⟩
  | 6 => ⟨S1x1x64, .i32⟩
  | 7 => ⟨S512x8x1, .i32⟩
  | 8 => ⟨S512x8x64, .i32⟩
  | 9 => ⟨S512x8x64, .i32⟩
  | 10 => ⟨S512x8x64, .i1⟩
  | 11 => ⟨S1x1x64, .i32⟩
  | 12 => ⟨S512x8x1, .i32⟩
  | 13 => ⟨S512x8x64, .i32⟩
  | 14 => ⟨S512x8x64, .i32⟩
  | 15 => ⟨S512x8x64, .i1⟩
  | 16 => ⟨S512x8x64, .i1⟩
  | 17 => ⟨S512, .i32⟩
  | 18 => ⟨S8, .i32⟩
  | 19 => ⟨S512x1, .i32⟩
  | 20 => ⟨S1x8, .i32⟩
  | 21 => ⟨S512x1, .i32⟩
  | 22 => ⟨S512x8, .i32⟩
  | 23 => ⟨S512x8, .i32⟩
  | 24 => ⟨S512x8, .i32⟩
  | 25 => ⟨S_, .i32⟩
  | 26 => ⟨S_, .i32⟩
  | 27 => ⟨S512x8, .i32⟩
  | 28 => ⟨S512x8, .i32⟩
  | 29 => ⟨S512x8, .i32⟩
  | 30 => ⟨S_, .i32⟩
  | 31 => ⟨S512x8, .i32⟩
  | 32 => ⟨S512x8, .i1⟩
  | 33 => ⟨S512x8, .i32⟩
  | 34 => ⟨S512x8, .i32⟩
  | 35 => ⟨S_, .i32⟩
  | 36 => ⟨S512x8, .i32⟩
  | 37 => ⟨S512x8, .i1⟩
  | 38 => ⟨S512x8, .i1⟩
  | 39 => ⟨S_, .i32⟩
  | 40 => ⟨S512x8, .i32⟩
  | 41 => ⟨S512x8, .i32⟩
  | 42 => ⟨S512x8, .i32⟩
  | 43 => ⟨S512x8, .i32⟩
  | 44 => ⟨S512x8, .i32⟩
  | 45 => ⟨S512x1, .i32⟩
  | 46 => ⟨S1x8, .i32⟩
  | 47 => ⟨S_, .i32⟩
  | 48 => ⟨S1x8, .i32⟩
  | 49 => ⟨S1x8, .i32⟩
  | 50 => ⟨S512x1, .i32⟩
  | 51 => ⟨S512x8, .i32⟩
  | 52 => ⟨S512x8, .i32⟩
  | 53 => ⟨S512x8, .i32⟩
  | 54 => ⟨S_, .i32⟩
  | 55 => ⟨S512x8, .i32⟩
  | 56 => ⟨S512x8, .i32⟩
  | 57 => ⟨S_, .i32⟩
  | 58 => ⟨S512x8, .i32⟩
  | 59 => ⟨S512x8, .i32⟩
  | 60 => ⟨S_, .i32⟩
  | 61 => ⟨S_, .i32⟩
  | 62 => ⟨S512x8, .i32⟩
  | 63 => ⟨S512x8, .i32⟩
  | 64 => ⟨S512x8, .i32⟩
  | 65 => ⟨S_, .i32⟩
  | 66 => ⟨S512x8, .i32⟩
  | 67 => ⟨S512x8, .i1⟩
  | 68 => ⟨S512x8, .i32⟩
  | 69 => ⟨S512x8, .i32⟩
  | 70 => ⟨S_, .i32⟩
  | 71 => ⟨S512x8, .i32⟩
  | 72 => ⟨S512x8, .i1⟩
  | 73 => ⟨S512x8, .i1⟩
  | 74 => ⟨S_, .i32⟩
  | 75 => ⟨S512x8, .i32⟩
  | 76 => ⟨S512x8, .i32⟩
  | 77 => ⟨S512x8, .i32⟩
  | 78 => ⟨S512x8, .i32⟩
  | 79 => ⟨S512x8, .i32⟩
  | 80 => ⟨S64, .i32⟩
  | 81 => ⟨S1x1x64, .i32⟩
  | 82 => ⟨S512x8x1, .i32⟩
  | 83 => ⟨S512x8x64, .i32⟩
  | 84 => ⟨S512x8x64, .i32⟩
  | 85 => ⟨S512x8x64, .i1⟩
  | 86 => ⟨S1x1x64, .i32⟩
  | 87 => ⟨S512x8x1, .i32⟩
  | 88 => ⟨S512x8x64, .i32⟩
  | 89 => ⟨S512x8x64, .i32⟩
  | 90 => ⟨S512x8x64, .i1⟩
  | 91 => ⟨S512x8x64, .i1⟩
  | 92 => ⟨S512x1x1x8x64, .i1⟩
  | 93 => ⟨S1x256x64x1x64, .f32⟩
  | 94 => ⟨S_, .f32⟩
  | 95 => ⟨S_, .f32⟩
  | 96 => ⟨S512x256x64x8x64, .i1⟩
  | 97 => ⟨S512x256x64x8x64, .f32⟩
  | 98 => ⟨S512x256x64x8x64, .f32⟩
  | 99 => ⟨S512x256x64x8x64, .f32⟩
  | 100 => ⟨S_, .f32⟩
  | 101 => ⟨S512x256x64x8, .f32⟩
  | 102 => ⟨S512x256x8x64, .f32⟩
  | 103 => ⟨S512x1x8x1x64, .i1⟩
  | 104 => ⟨S512x256x1x8x64, .f32⟩
  | 105 => ⟨S_, .f32⟩
  | 106 => ⟨S_, .f32⟩
  | 107 => ⟨S512x256x8x8x64, .i1⟩
  | 108 => ⟨S512x256x8x8x64, .f32⟩
  | 109 => ⟨S512x256x8x8x64, .f32⟩
  | 110 => ⟨S512x256x8x8x64, .f32⟩
  | 111 => ⟨S_, .f32⟩
  | 112 => ⟨S512x256x8x8, .f32⟩
  | _ => ⟨S256x64x64, .f32⟩

abbrev hbmTy (i : Nat) : BufTy := match i / 128 with
  | 0 => hbmTy0_0 i
  | 1 => hbmTy0_1 i
  | _ => ⟨S256x64x64, .f32⟩

abbrev bufTy : (tb : Table) → Fin (tcTables nBuf tb) → BufTy
  | .hbm, ⟨i, _⟩ => hbmTy i
  | _, _ => ⟨S256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_v15 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v16 : Ref sig .tc := ⟨.hbm, 57, rfl⟩
abbrev main_v17 : Ref sig .tc := ⟨.hbm, 58, rfl⟩
abbrev main_c_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_5 : Ref sig .tc := ⟨.hbm, 63, rfl⟩
abbrev main_v21 : Ref sig .tc := ⟨.hbm, 64, rfl⟩
abbrev main_v22 : Ref sig .tc := ⟨.hbm, 65, rfl⟩
abbrev main_c_6 : Ref sig .tc := ⟨.hbm, 66, rfl⟩
abbrev main_call3_v0 : Ref sig .tc := ⟨.hbm, 67, rfl⟩
abbrev main_call3_v1 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_7 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_v7 : Ref sig .tc := ⟨.hbm, 86, rfl⟩
abbrev main_call4_v8 : Ref sig .tc := ⟨.hbm, 87, rfl⟩
abbrev main_call4_c : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_0 : Ref sig .tc := ⟨.hbm, 92, rfl⟩
abbrev main_call4_v12 : Ref sig .tc := ⟨.hbm, 93, rfl⟩
abbrev main_call4_v13 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_8 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_c_9 : Ref sig .tc := ⟨.hbm, 107, rfl⟩
abbrev main_v43 : Ref sig .tc := ⟨.hbm, 108, rfl⟩
abbrev main_v44 : Ref sig .tc := ⟨.hbm, 109, rfl⟩
abbrev main_c_10 : Ref sig .tc := ⟨.hbm, 110, rfl⟩
abbrev main_v45 : Ref sig .tc := ⟨.hbm, 111, rfl⟩
abbrev main_v46 : Ref sig .tc := ⟨.hbm, 112, rfl⟩
abbrev main_c_11 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_v6 : Ref sig .tc := ⟨.hbm, 120, rfl⟩
abbrev main_call5_v7 : Ref sig .tc := ⟨.hbm, 121, rfl⟩
abbrev main_call5_v8 : Ref sig .tc := ⟨.hbm, 122, rfl⟩
abbrev main_call5_c : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_c_0 : Ref sig .tc := ⟨.hbm, 127, rfl⟩
abbrev main_call5_v12 : Ref sig .tc := ⟨.hbm, 128, rfl⟩
abbrev main_call5_v13 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_c_12 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_c : Ref sig .tc := ⟨.hbm, 163, rfl⟩
abbrev main_call6_v9 : Ref sig .tc := ⟨.hbm, 164, rfl⟩
abbrev main_call6_v10 : Ref sig .tc := ⟨.hbm, 165, rfl⟩
abbrev main_call6_v11 : Ref sig .tc := ⟨.hbm, 166, rfl⟩
abbrev main_call6_c_0 : Ref sig .tc := ⟨.hbm, 167, rfl⟩
abbrev main_call6_v12 : Ref sig .tc := ⟨.hbm, 168, rfl⟩
abbrev main_call6_v13 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_c_13 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_c_14 : Ref sig .tc := ⟨.hbm, 182, rfl⟩
abbrev main_v81 : Ref sig .tc := ⟨.hbm, 183, rfl⟩
abbrev main_v82 : Ref sig .tc := ⟨.hbm, 184, rfl⟩
abbrev main_c_15 : Ref sig .tc := ⟨.hbm, 185, rfl⟩
abbrev main_v83 : Ref sig .tc := ⟨.hbm, 186, rfl⟩
abbrev main_v84 : Ref sig .tc := ⟨.hbm, 187, rfl⟩
abbrev main_c_16 : Ref sig .tc := ⟨.hbm, 188, rfl⟩
abbrev main_call7_v0 : Ref sig .tc := ⟨.hbm, 189, rfl⟩
abbrev main_call7_v1 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_c : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_0 : Ref sig .tc := ⟨.hbm, 202, rfl⟩
abbrev main_call7_v12 : Ref sig .tc := ⟨.hbm, 203, rfl⟩
abbrev main_call7_v13 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_cst : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_v102 : Ref sig .tc := ⟨.hbm, 227, rfl⟩
abbrev main_cst_17 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_cst_18 : Ref sig .tc := ⟨.hbm, 233, rfl⟩
abbrev main_call9_v0 : Ref sig .tc := ⟨.hbm, 234, rfl⟩
abbrev main_call9_v1 : Ref sig .tc := ⟨.hbm, 235, rfl⟩
abbrev main_call9_v2 : Ref sig .tc := ⟨.hbm, 236, rfl⟩
abbrev main_call9_v3 : Ref sig .tc := ⟨.hbm, 237, rfl⟩
abbrev main_v107 : Ref sig .tc := ⟨.hbm, 238, rfl⟩
abbrev main_cst_19 : Ref sig .tc := ⟨.hbm, 239, rfl⟩
abbrev main_v108 : Ref sig .tc := ⟨.hbm, 240, rfl⟩

abbrev nD : Nat := 1
abbrev τ : Topo := Topo.v7x

variable {F : FTy → Type} [FloatOps F]
-- ==== Proof.KernelSteps.lean ====
/-
  The kernel body as a sequence of steps.

  The printed body of `cc0_roi_pool` is 23212 statements: the table of running maxima, built at the
  first point of a row of the grid, then 32 regions, each of which goes through the same steps. Here
  each step is written once, over the number that the unrolled loops count with and over the program
  that follows it (`K`).
-/
module

public import proofs.«01_k».proof.Kernel
public import Idealize.ShloMosaic.Lib.VecWindow

@[expose] public section

namespace Cert.Kernel

open Idealize.ShloMosaic Idealize.SL.Sem

variable {F : FTy → Type} [FloatOps F]
variable [Facts]
open Facts₀ Facts

/-- The programs of the kernel's body, and of its parts, which return some of what they computed. -/
abbrev Body (F : FTy → Type) [FloatOps F] (α : Type) : Type 1 := Prog (TpuEff nD τ sig (Elt F) Λ₀ .tc) α

/-- `n` columns of the feature map, as one plane of the table. -/
abbrev Sp (n : Nat) : Shape := ⟨4, ![1, n, 64, 256]⟩
/-- `n` columns of the feature map. -/
abbrev Sc (n : Nat) : Shape := ⟨3, ![n, 64, 256]⟩

/-! ## Evidence -/

theorem inb_tab {d w n : Nat} (hd : d < 6) (hw : w + n ≤ 64) :
    ∀ a, (![d, w, 0, 0] : Fin 4 → Nat) a + (Sp n).size a ≤ S6x64x64x256.size a := by
  intro a; fin_cases a <;> simp <;> omega

theorem inb_map {w n : Nat} (hw : w + n ≤ 64) :
    ∀ a, (![w, 0, 0] : Fin 3 → Nat) a + (Sc n).size a ≤ S64x64x256.size a := by
  intro a; fin_cases a <;> simp <;> omega

theorem inb_col {j : Nat} (hj : j < 8) :
    ∀ a, (![j, 0, 0] : Fin 3 → Nat) a + S1x64x256.size a ≤ S8x64x256.size a := by
  intro a; fin_cases a <;> simp <;> omega

theorem inb_blk {t : Nat} (ht : t < 8) :
    ∀ a, (![0, 8 * t, 0] : Fin 3 → Nat) a + S8x8x256.size a ≤ S8x64x256.size a := by
  intro a; fin_cases a <;> simp <;> omega

theorem inb_blkt {t : Nat} (ht : t < 8) :
    ∀ a, (![8 * t, 0, 0] : Fin 3 → Nat) a + S8x8x256.size a ≤ S64x8x256.size a := by
  intro a; fin_cases a <;> simp <;> omega

theorem inb_out {b k : Nat} (hb : b < 32) (hk : k < 8) :
    ∀ a, (![b, k, 0, 0] : Fin 4 → Nat) a + S1x1x8x256.size a ≤ S32x8x8x256.size a := by
  intro a; fin_cases a <;> simp <;> omega

theorem numel_Sp {n : Nat} : (Sp n).numel = n * 16384 := by
  simp [Shape.numel, Fin.prod_univ_four]; omega

theorem numel_Sc {n : Nat} : (Sc n).numel = n * 16384 := by
  simp [Shape.numel, Fin.prod_univ_three]; omega

theorem pos_Sp {n : Nat} (hn : 0 < n) : 0 < (Sp n).numel := by rw [numel_Sp]; omega
theorem pos_Sc {n : Nat} (hn : 0 < n) : 0 < (Sc n).numel := by rw [numel_Sc]; omega

theorem casts_plane {n : Nat} : (Sp n).ShapeCasts (Sc n) := by
  show (Sc n).numel = (Sp n).numel
  rw [numel_Sp, numel_Sc]
theorem casts_cols {n : Nat} : (Sc n).ShapeCasts (Sp n) := by
  show (Sp n).numel = (Sc n).numel
  rw [numel_Sp, numel_Sc]
theorem casts_same {n : Nat} : (Sc n).ShapeCasts (Sc n) := rfl

theorem packed_tab {d w n : Nat} (hd : d < 6) (hw : w + n ≤ 64) :
    (Rect.unit (s := S6x64x64x256) ![d, w, 0, 0] (Sp n).size (inb_tab hd hw)).PackedRows (EltTy.packing .bf16) :=
  .inr ⟨by decide, rfl, .inr ⟨rfl, rfl, rfl, rfl, rfl⟩⟩

theorem packed_col {j : Nat} (hj : j < 8) :
    (Rect.unit (s := S8x64x256) ![j, 0, 0] S1x64x256.size (inb_col hj)).PackedRows (EltTy.packing .bf16) :=
  .inr ⟨by decide, rfl, .inr ⟨rfl, rfl, rfl, rfl, rfl⟩⟩

theorem packed_blkt {t : Nat} (ht : t < 8) :
    (Rect.unit (s := S64x8x256) ![8 * t, 0, 0] S8x8x256.size (inb_blkt ht)).PackedRows (EltTy.packing .bf16) :=
  .inr ⟨by decide, rfl, .inr ⟨rfl, rfl, rfl, rfl, rfl⟩⟩

theorem off3_at_eq : ∀ j : Fin 8, k0_off3_at j = (BitVec.ofNat 32 (j.val + 1), BitVec.ofNat 32 j.val) := by decide

theorem inb_off3 (x rw : BitVec 32) (hc : k0_chk1 x rw) {j : Nat} (hj : j < 8) :
    ∀ a, k0_off3 x rw (BitVec.ofNat 32 (j + 1)) (BitVec.ofNat 32 j) a + S1x1x64x256.size a ≤ S6x64x64x256.size a := by
  have h := hc ⟨j, hj⟩
  rw [off3_at_eq] at h
  exact h

/-! ## The steps -/

section steps

variable {α : Type}

variable (i : grid0.Coords)
variable (arg2 : Memref sig .tc .smem S2048 .i32) (harg2 : arg2.IsWhole)
variable (arg3 : Memref sig .tc .vmem S64x64x256 .bf16) (harg3 : arg3.IsWhole)
variable (arg4 : Memref sig .tc .vmem S32x8x8x256 .f32) (harg4 : arg4.IsWhole)
variable (arg5 : Memref sig .tc .vmem S6x64x64x256 .bf16) (harg5 : arg5.IsWhole)
variable (arg6 : Memref sig .tc .vmem S8x64x256 .bf16) (harg6 : arg6.IsWhole)
variable (arg7 : Memref sig .tc .vmem S64x8x256 .bf16) (harg7 : arg7.IsWhole)

/-- A rectangle of `n` columns of plane `d` of the table. -/
abbrev tabRect (d w n : Nat) (hd : d < 6) (hw : w + n ≤ 64) : Rect S6x64x64x256 :=
  Rect.unit (s := S6x64x64x256) ![d, w, 0, 0] (Sp n).size (inb_tab hd hw)

/-- A rectangle of `n` columns of the feature map. -/
abbrev mapRect (w n : Nat) (hw : w + n ≤ 64) : Rect S64x64x256 :=
  Rect.unit (s := S64x64x256) ![w, 0, 0] (Sc n).size (inb_map hw)

/-- The table's plane 0 is the feature map: eight columns of it. -/
noncomputable def copyStep (w : Nat) (hw : w + 8 ≤ 64) (K : Body F α) : Body F α :=
  .op (.load arg3 (mapRect w 8 hw).toLoadRect (View.loadsAt_vmem (pos_Sc (by decide)))) fun x =>
  .op (.load arg5 (tabRect 0 w 8 (by decide) hw).toLoadRect (View.loadsAt_vmem (pos_Sp (by decide)))) fun _ =>
  .op (.store arg5 (tabRect 0 w 8 (by decide) hw)
    (shapeCast (Sp 8) (shapeCast (Sc 8) x casts_same : FVec F (Sc 8) .bf16) casts_cols) Finset.univ
    (View.stores_vmem (pos_Sp (by decide)) (harg5.storeExact_slice rfl _ (packed_tab (by decide) hw)) (fun _ => rfl)) (.inl rfl)) fun _ => K

/-- `n` columns of plane `d + 1` of the table: the maximum of plane `d` and of the column `d + 1` further on. -/
noncomputable def maxStep (d w n : Nat) (hd : d + 1 < 6) (hw : w + n ≤ 64) (hm : w + (d + 1) + n ≤ 64) (hn : 0 < n) (K : Body F α) : Body F α :=
  .op (.load arg5 (tabRect d w n (by omega) hw).toLoadRect (View.loadsAt_vmem (pos_Sp hn))) fun x =>
  .op (.load arg3 (mapRect (w + (d + 1)) n hm).toLoadRect (View.loadsAt_vmem (pos_Sc hn))) fun y =>
  .op (.load arg5 (tabRect (d + 1) w n hd hw).toLoadRect (View.loadsAt_vmem (pos_Sp hn))) fun _ =>
  .op (.store arg5 (tabRect (d + 1) w n hd hw)
    (shapeCast (Sp n) (maximumf (shapeCast (Sc n) x casts_plane : FVec F (Sc n) .bf16) (shapeCast (Sc n) y casts_same)) casts_cols) Finset.univ
    (View.stores_vmem (pos_Sp hn) (harg5.storeExact_slice rfl _ (packed_tab hd hw)) (fun _ => rfl)) (.inl rfl)) fun _ => K

/-- `n` columns of plane `d + 1` of the table taken over from plane `d`, where the map has no column `d + 1` further on. -/
noncomputable def keepStep (d w n : Nat) (hd : d + 1 < 6) (hw : w + n ≤ 64) (hn : 0 < n) (K : Body F α) : Body F α :=
  .op (.load arg5 (tabRect d w n (by omega) hw).toLoadRect (View.loadsAt_vmem (pos_Sp hn))) fun x =>
  .op (.load arg5 (tabRect (d + 1) w n hd hw).toLoadRect (View.loadsAt_vmem (pos_Sp hn))) fun _ =>
  .op (.store arg5 (tabRect (d + 1) w n hd hw)
    (shapeCast (Sp n) (shapeCast (Sc n) x casts_plane : FVec F (Sc n) .bf16) casts_cols) Finset.univ
    (View.stores_vmem (pos_Sp hn) (harg5.storeExact_slice rfl _ (packed_tab hd hw)) (fun _ => rfl)) (.inl rfl)) fun _ => K

/-- Plane `d + 1` of the table from plane `d`. -/
noncomputable def planeSteps (d : Nat) (hd : d + 1 < 6) (K : Body F α) : Body F α :=
  maxStep arg3 arg5 harg5 d 0 8 hd (by omega) (by omega) (by omega) <|
  maxStep arg3 arg5 harg5 d 8 8 hd (by omega) (by omega) (by omega) <|
  maxStep arg3 arg5 harg5 d 16 8 hd (by omega) (by omega) (by omega) <|
  maxStep arg3 arg5 harg5 d 24 8 hd (by omega) (by omega) (by omega) <|
  maxStep arg3 arg5 harg5 d 32 8 hd (by omega) (by omega) (by omega) <|
  maxStep arg3 arg5 harg5 d 40 8 hd (by omega) (by omega) (by omega) <|
  maxStep arg3 arg5 harg5 d 48 8 hd (by omega) (by omega) (by omega) <|
  maxStep arg3 arg5 harg5 d 56 (7 - d) hd (by omega) (by omega) (by omega) <|
  keepStep arg5 harg5 d (63 - d) (d + 1) hd (by omega) (by omega) K

/-- The table. -/
noncomputable def tableSteps (K : Body F α) : Body F α :=
  copyStep arg3 arg5 harg5 0 (by omega) <| copyStep arg3 arg5 harg5 8 (by omega) <|
  copyStep arg3 arg5 harg5 16 (by omega) <| copyStep arg3 arg5 harg5 24 (by omega) <|
  copyStep arg3 arg5 harg5 32 (by omega) <| copyStep arg3 arg5 harg5 40 (by omega) <|
  copyStep arg3 arg5 harg5 48 (by omega) <| copyStep arg3 arg5 harg5 56 (by omega) <|
  planeSteps arg3 arg5 harg5 0 (by omega) <| planeSteps arg3 arg5 harg5 1 (by omega) <|
  planeSteps arg3 arg5 harg5 2 (by omega) <| planeSteps arg3 arg5 harg5 3 (by omega) <|
  planeSteps arg3 arg5 harg5 4 (by omega) K

/-- The first entry of region `b`'s row of the table of regions. -/
def base (i : grid0.Coords) (b : Nat) : BitVec 32 :=
  Scalar.muli (Scalar.addi (Scalar.muli (Scalar.addi (Scalar.muli (BitVec.ofNat 32 (i 0).val) 8#32) (BitVec.ofNat 32 (i 1).val)) 32#32) (BitVec.ofNat 32 b)) 4#32

/-- Where region `b`'s first word lies. -/
def offFst (i : grid0.Coords) (b : Nat) : Fin 1 → Nat := ![(Scalar.indexCast (base i b)).toNat]
/-- Where region `b`'s word `k` lies. -/
def offWord (i : grid0.Coords) (b k : Nat) : Fin 1 → Nat := ![(Scalar.indexCast (Scalar.addi (base i b) (BitVec.ofNat 32 k))).toNat]

/-- Bin `j` of the columns: one plane of column maxima, from the table at the bin's width and start. -/
noncomputable def colStep (j : Nat) (hj : j < 8) (x rw : BitVec 32) (hc : k0_chk1 x rw) (K : Body F α) : Body F α :=
  .op (.load arg5 (Rect.unit (s := S6x64x64x256) (k0_off3 x rw (BitVec.ofNat 32 (j + 1)) (BitVec.ofNat 32 j)) S1x1x64x256.size
    (inb_off3 x rw hc hj)).toLoadRect (View.loadsAt_vmem h_S1x1x64x256)) fun v =>
  .op (.load arg6 (Rect.unit (s := S8x64x256) ![j, 0, 0] S1x64x256.size (inb_col hj)).toLoadRect (View.loadsAt_vmem h_S1x64x256)) fun _ =>
  .op (.store arg6 (Rect.unit (s := S8x64x256) ![j, 0, 0] S1x64x256.size (inb_col hj))
    (shapeCast S1x64x256 (shapeCast S1x64x256 v shapeCasts_S1x1x64x256_S1x64x256 : FVec F S1x64x256 .bf16) shapeCasts_S1x64x256_S1x64x256) Finset.univ
    (View.stores_vmem h_S1x64x256 (harg6.storeExact_slice rfl _ (packed_col hj)) (fun _ => rfl)) (.inl rfl)) fun _ => K

/-- Eight rows of the column maxima, with the bins and the rows exchanged. -/
noncomputable def turnStep (t : Nat) (ht : t < 8) (K : Body F α) : Body F α :=
  .op (.load arg6 (Rect.unit (s := S8x64x256) ![0, 8 * t, 0] S8x8x256.size (inb_blk ht)).toLoadRect (View.loadsAt_vmem h_S8x8x256)) fun v =>
  .op (.load arg7 (Rect.unit (s := S64x8x256) ![8 * t, 0, 0] S8x8x256.size (inb_blkt ht)).toLoadRect (View.loadsAt_vmem h_S8x8x256)) fun _ =>
  .op (.store arg7 (Rect.unit (s := S64x8x256) ![8 * t, 0, 0] S8x8x256.size (inb_blkt ht))
    (shapeCast S8x8x256 (transpose S8x8x256 [1, 0, 2] v transposes_S8x8x256_p1_0_2_S8x8x256 : FVec F S8x8x256 .bf16) shapeCasts_S8x8x256_S8x8x256) Finset.univ
    (View.stores_vmem h_S8x8x256 (harg7.storeExact_slice rfl _ (packed_blkt ht)) (fun _ => rfl)) (.inl rfl)) fun _ => K

/-- The first row of the rows a region covers. -/
def rowMin (y rh : BitVec 32) : BitVec 32 := Scalar.maxsi (Scalar.subi y (Scalar.shrui rh 1#32)) 0#32
/-- The number of rows a region covers. -/
def rowLen (y rh : BitVec 32) : BitVec 32 :=
  Scalar.subi (Scalar.select (Scalar.cmpi .sgt (Scalar.addi y (Scalar.shrui rh 1#32)) 64#32) 63#32 (Scalar.addi y (Scalar.shrui rh 1#32))) (rowMin y rh)
/-- Where bin `k` of the rows starts. -/
def rowLo (y rh : BitVec 32) (k : Nat) : BitVec 32 :=
  Scalar.subi (Scalar.addi (rowMin y rh) (Scalar.shrui (Scalar.muli (BitVec.ofNat 32 k) (rowLen y rh)) 3#32)) 0#32
/-- Where bin `k` of the rows ends. -/
def rowHi (y rh : BitVec 32) (k : Nat) : BitVec 32 :=
  Scalar.subi (Scalar.addi (rowMin y rh) (Scalar.shrui (Scalar.addi (Scalar.muli (BitVec.ofNat 32 (k + 1)) (rowLen y rh)) 7#32) 3#32)) 0#32
/-- The row that the eight rows loaded for bin `k` start at. -/
def rowWin (y rh : BitVec 32) (k : Nat) : BitVec 32 := Scalar.minsi (rowLo y rh k) 56#32

/-- The numbers of the eight rows loaded for bin `k`. -/
def rowPos (y rh : BitVec 32) (k : Nat) : IVec S8x1x1 32 :=
  addi (iota .tc S8x1x1 32 [0] iota_S8x1x1_d0_w32) (broadcast S8x1x1 (rowWin y rh k))

/-- Which of them are the bin's. -/
def rowMask (y rh : BitVec 32) (k : Nat) : IVec S8x1x1 1 :=
  andi (cmpi .sge (rowPos y rh k) (broadcast S8x1x1 (rowLo y rh k))) (cmpi .slt (rowPos y rh k) (broadcast S8x1x1 (rowHi y rh k)))

/-- The maximum of the bin's rows, for all bins of columns. -/
noncomputable def rowVal (y rh : BitVec 32) (k : Nat) (v : Vec F S8x8x256 .bf16) : FVec F S8x256 .f32 :=
  extf .f32 (multiReduction .maximumf [0] S8x256
    (select (broadcastTo S8x8x256 (shapeCast S8x1x1 (rowMask y rh k) shapeCasts_S8x1x1_S8x1x1 : IVec S8x1x1 1) broadcasts_S8x1x1_S8x8x256) v
      (broadcast S8x8x256 (Scalar.ofBits .bf16 0xFF80#16 : F .bf16)) : FVec F S8x8x256 .bf16)
    0xFF80#16 reduces_S8x8x256_S8x256 (.inr rfl) rfl : FVec F S8x256 .bf16) bitsLt_bf16_f32

/-- Bin `k` of the rows. -/
noncomputable def rowStep (b k : Nat) (hb : b < 32) (hk : k < 8) (y rh : BitVec 32) (hc : k0_chk2 y rh) (K : Body F α) : Body F α :=
  .op (.load arg7 (Rect.unit (s := S64x8x256) (k0_off4 y rh (BitVec.ofNat 32 k)) S8x8x256.size (k0_off4_inb y rh hc ⟨k, hk⟩)).toLoadRect
    (View.loadsAt_vmem h_S8x8x256)) fun v =>
  .op (.load arg4 (Rect.unit (s := S32x8x8x256) ![b, k, 0, 0] S1x1x8x256.size (inb_out hb hk)).toLoadRect (View.loadsAt_vmem h_S1x1x8x256)) fun _ =>
  .op (.store arg4 (Rect.unit (s := S32x8x8x256) ![b, k, 0, 0] S1x1x8x256.size (inb_out hb hk))
    (shapeCast S1x1x8x256 (rowVal y rh k v) shapeCasts_S8x256_S1x1x8x256) Finset.univ
    (View.stores_vmem_bits_univ h_S1x1x8x256 rfl) (.inl rfl)) fun _ => K

/-- The bins of one region, its four words read. -/
noncomputable def binSteps (b : Nat) (hb : b < 32) (y x rh rw : BitVec 32) (h2 : k0_chk2 y rh) (h1 : k0_chk1 x rw) (K : Body F α) : Body F α :=
  colStep arg5 arg6 harg6 0 (by omega) x rw h1 <| colStep arg5 arg6 harg6 1 (by omega) x rw h1 <|
  colStep arg5 arg6 harg6 2 (by omega) x rw h1 <| colStep arg5 arg6 harg6 3 (by omega) x rw h1 <|
  colStep arg5 arg6 harg6 4 (by omega) x rw h1 <| colStep arg5 arg6 harg6 5 (by omega) x rw h1 <|
  colStep arg5 arg6 harg6 6 (by omega) x rw h1 <| colStep arg5 arg6 harg6 7 (by omega) x rw h1 <|
  turnStep arg6 arg7 harg7 0 (by omega) <| turnStep arg6 arg7 harg7 1 (by omega) <|
  turnStep arg6 arg7 harg7 2 (by omega) <| turnStep arg6 arg7 harg7 3 (by omega) <|
  turnStep arg6 arg7 harg7 4 (by omega) <| turnStep arg6 arg7 harg7 5 (by omega) <|
  turnStep arg6 arg7 harg7 6 (by omega) <| turnStep arg6 arg7 harg7 7 (by omega) <|
  rowStep arg4 arg7 b 0 hb (by omega) y rh h2 <| rowStep arg4 arg7 b 1 hb (by omega) y rh h2 <|
  rowStep arg4 arg7 b 2 hb (by omega) y rh h2 <| rowStep arg4 arg7 b 3 hb (by omega) y rh h2 <|
  rowStep arg4 arg7 b 4 hb (by omega) y rh h2 <| rowStep arg4 arg7 b 5 hb (by omega) y rh h2 <|
  rowStep arg4 arg7 b 6 hb (by omega) y rh h2 <| rowStep arg4 arg7 b 7 hb (by omega) y rh h2 K

/-- A word of the table of regions. -/
noncomputable def word (off : Fin 1 → Nat) (h : ∀ a, off a + S1.size a ≤ S2048.size a) (K : BitVec 32 → Body F α) : Body F α :=
  smemLoadElt arg2 (Rect.unit (s := S2048) off S1.size h) (View.loads_smem_one rfl numel1_S1) (Shape.Idx.first (numel1_S1.symm ▸ Nat.one_pos)) K

/-- One region's four words and the two checks on them. -/
noncomputable def regionWords (b : Nat) (hf : ∀ a, offFst i b a + S1.size a ≤ S2048.size a)
    (hw : ∀ k, k < 4 → ∀ a, offWord i b k a + S1.size a ≤ S2048.size a)
    (K : (y x rh rw : BitVec 32) → k0_chk2 y rh → k0_chk1 x rw → Body F α) : Body F α :=
  word arg2 (offFst i b) hf fun y =>
  word arg2 (offWord i b 1) (hw 1 (by decide)) fun x =>
  word arg2 (offWord i b 2) (hw 2 (by decide)) fun rh =>
  .op (.assume (k0_chk2 y rh) (k0_chk2.dec y rh)) fun h2 =>
  word arg2 (offWord i b 3) (hw 3 (by decide)) fun rw =>
  .op (.assume (k0_chk1 x rw) (k0_chk1.dec x rw)) fun h1 => K y x rh rw h2.down h1.down

/-- One region: its four words, the two checks, its bins. -/
noncomputable def region (b : Nat) (hb : b < 32) (hf : ∀ a, offFst i b a + S1.size a ≤ S2048.size a)
    (hw : ∀ k, k < 4 → ∀ a, offWord i b k a + S1.size a ≤ S2048.size a) (K : Body F α) : Body F α :=
  regionWords i arg2 b hf hw fun y x rh rw h2 h1 =>
  binSteps arg4 arg5 arg6 harg6 arg7 harg7 b hb y x rh rw h2 h1 K

/-- The last `n` of the 32 regions of a point of the grid, in order. -/
noncomputable def regions (hf : ∀ b, b < 32 → ∀ a, offFst i b a + S1.size a ≤ S2048.size a)
    (hw : ∀ b, b < 32 → ∀ k, k < 4 → ∀ a, offWord i b k a + S1.size a ≤ S2048.size a) : (n : Nat) → n ≤ 32 → Body F α → Body F α
  | 0, _, K => K
  | n + 1, h, K => region i arg2 arg4 arg5 arg6 harg6 arg7 harg7 (31 - n) (by omega) (hf _ (by omega)) (hw _ (by omega))
      (regions hf hw n (by omega) K)

/-- The first point of a row of the grid: its second coordinate is zero. -/
def atFirst (i : grid0.Coords) : BitVec 1 :=
  Scalar.cmpi .ne (Scalar.extui (Scalar.cmpi .eq (BitVec.ofNat 32 (i 1).val) 0#32) : BitVec 32) 0#32

end steps

end Cert.Kernel
-- ==== Proof.OwnRules.lean ====
/-
  Loads and stores over the contents of a memref.

  A core that owns a memref reads a window of its contents by a load at a unit-stride rectangle, and an
  unmasked store there puts the stored vector over that window. These are the two rules every step of the
  kernel is proved by, with the rule for one word of a table in scalar memory.
-/
module

public import Idealize.ShloMosaic.Lib.VecWindow
public import Idealize.ShloMosaic.Lib.Tactic
public import Idealize.ShloMosaic.Lib.ValueIdxCore
public import Idealize.ShloMosaic.Lib.Pipeline.Value

@[expose] public section

noncomputable section

namespace Cert.OwnRules

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.VecWindow

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a unit-stride rectangle reads a window of the contents. -/
theorem wp_load_owns {cs : CoreSpace} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    {q : PosShare TreeShare} (X : s.Idx → Val e) :
    (owns c m q X : sProp (MT nD τ sig Ix Val Name U Lvl))
      ⊢ iprop((owns c m q X -∗ wp frame (wpE defs 𝒱 c bd) E (k (window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (r := (Rect.unit off size inb).toLoadRect) (View.setOn_subset_set _ _)) $$ H
  iintro H
  iapply Hk
  iexists f
  isplitr
  · ipureintro; rfl
  iexact H

/-- An unmasked store at a unit-stride rectangle puts the stored vector over that window. -/
theorem wp_store_owns {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} (X : s.Idx → Val e) :
    (owns c m fullShare X : sProp (MT nD τ sig Ix Val Name U Lvl))
      ⊢ iprop((owns c m fullShare (put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store 𝒱 c bd E (m := m) (r := Rect.unit off size inb) (View.set_slice_subset _ _)) $$ H
  iintro H
  iapply Hk
  iexists _
  isplitr
  swap
  · iexact H
  ipureintro
  exact View.read_writes_cons_put m.view f inb w [] rfl

/-- A word of a table in scalar memory. -/
theorem wp_word_owns {m : Memref sig c.2.kind .smem s e} {r : Rect s} {hw : (m.access r).Loads} {x : r.shape.Idx}
    {k : Val e → Prog (TpuEff nD τ sig Val Λ c.2) α} {q : PosShare TreeShare} (X : s.Idx → Val e) :
    (owns c m q X : sProp (MT nD τ sig Ix Val Name U Lvl))
      ⊢ iprop((owns c m q X -∗ wp frame (wpE defs 𝒱 c bd) E (k (X (r.emb x))) Q)
        -∗ wp frame (wpE defs 𝒱 c bd) E (smemLoadElt m r hw x k) Q) := by
  unfold owns
  iintro ⟨%f, %hf, H⟩ Hk
  subst hf
  iapply (wp_smemLoadElt 𝒱 c bd E (m := m) (r := r) (x := x) (View.set_slice_subset _ _)) $$ H
  iintro H
  iapply Hk
  iexists f
  isplitr
  · ipureintro; rfl
  iexact H

end Cert.OwnRules
-- ==== Proof.KernelTable.lean ====
/-
  The table of running maxima.

  Plane `d` of the table holds at column `w` the maximum of the map's columns `w`, …, `w + d`, as far as the
  map has them (`tab`). The planes are filled from the first column of the first plane on: `Upto V T p` says
  that the first `p` columns, counted through the planes in order, are filled. Each step of the table fills
  the columns that come next, whatever the scratch held before.
-/
module

public import proofs.«01_k».proof.Proof.KernelSteps
public import proofs.«01_k».proof.Proof.OwnRules

@[expose] public section

noncomputable section

namespace Cert.Kernel

open Idealize.ShloMosaic Idealize.ShloMosaic.ValueIdx Idealize.ShloMosaic.VecWindow
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.OwnRules

variable {F : FTy → Type} [FloatOps F]
variable [Facts]

/-! ## The values -/

/-- The map at column `w` (at the last one, past it). -/
def mapAt (V : Vec F S64x64x256 .bf16) (w : Nat) (h : Fin 64) (c : Fin 256) : F .bf16 :=
  V (ix3 (⟨min w 63, by omega⟩ : Fin 64) h c)

/-- The maximum of the columns `w`, …, `w + d` of the map, as far as the map has them. -/
def tab (V : Vec F S64x64x256 .bf16) : Nat → Nat → Fin 64 → Fin 256 → F .bf16
  | 0, w, h, c => mapAt V w h c
  | d + 1, w, h, c =>
    if w + (d + 1) < 64 then FloatOps.maximumf (tab V d w h c) (mapAt V (w + (d + 1)) h c) else tab V d w h c

/-- The first `p` columns of the table, counted through its planes, hold what they should. -/
def Upto (V : Vec F S64x64x256 .bf16) (T : Vec F S6x64x64x256 .bf16) (p : Nat) : Prop :=
  ∀ (d : Fin 6) (w : Fin 64) (h : Fin 64) (c : Fin 256), 64 * d.val + w.val < p → T (ix4 d w h c) = tab V d.val w.val h c

/-- A put over `n` columns of a plane, read at an index. -/
theorem put_plane (T : Vec F S6x64x64x256 .bf16) {d w n : Nat} (P : Vec F (Sp n) .bf16) (d' : Fin 6) (w' : Fin 64) (h : Fin 64) (c : Fin 256) :
    put T ![d, w, 0, 0] (Sp n).size P (ix4 d' w' h c)
      = if hh : d'.val = d ∧ w ≤ w'.val ∧ w'.val < w + n then P (ix4 (0 : Fin 1) (⟨w'.val - w, by omega⟩ : Fin n) h c)
        else T (ix4 d' w' h c) := by
  by_cases hh : d'.val = d ∧ w ≤ w'.val ∧ w'.val < w + n
  · rw [dif_pos hh]
    have hin : ∀ a, (![d, w, 0, 0] : Fin 4 → Nat) a ≤ (ix4 d' w' h c a).val
        ∧ (ix4 d' w' h c a).val < (![d, w, 0, 0] : Fin 4 → Nat) a + (Sp n).size a := by
      intro a
      match a with
      | ⟨0, _⟩ => exact ⟨Nat.le_of_eq hh.1.symm, by show d'.val < d + 1; omega⟩
      | ⟨1, _⟩ => exact ⟨hh.2.1, hh.2.2⟩
      | ⟨2, _⟩ => exact ⟨Nat.zero_le _, by show h.val < 0 + 64; omega⟩
      | ⟨3, _⟩ => exact ⟨Nat.zero_le _, by show c.val < 0 + 256; omega⟩
    refine (dif_pos hin).trans (congrArg P (funext fun a => Fin.ext ?_))
    match a with
    | ⟨0, _⟩ => show d'.val - d = 0; omega
    | ⟨1, _⟩ => rfl
    | ⟨2, _⟩ => rfl
    | ⟨3, _⟩ => rfl
  · rw [dif_neg hh]
    refine dif_neg fun hin => hh ?_
    have h0 := hin 0
    have h1 := hin 1
    have e0 : d ≤ d'.val ∧ d'.val < d + 1 := h0
    have e1 : w ≤ w'.val ∧ w'.val < w + n := h1
    omega

/-- Filling the columns that come next. -/
theorem Upto.put {V : Vec F S64x64x256 .bf16} {T : Vec F S6x64x64x256 .bf16} {d w n : Nat} (hT : Upto V T (64 * d + w))
    (hw : w + n ≤ 64) (P : Vec F (Sp n) .bf16)
    (hP : ∀ (x : Fin n) (h : Fin 64) (c : Fin 256), P (ix4 (0 : Fin 1) x h c) = tab V d (w + x.val) h c) :
    Upto V (VecWindow.put T ![d, w, 0, 0] (Sp n).size P) (64 * d + w + n) := by
  intro d' w' h c hlt
  rw [put_plane]
  by_cases hh : d'.val = d ∧ w ≤ w'.val ∧ w'.val < w + n
  · rw [dif_pos hh, hP, hh.1]
    congr 1
    show w + (w'.val - w) = w'.val
    omega
  · rw [dif_neg hh]
    refine hT d' w' h c ?_
    have := w'.isLt
    by_cases hd : d'.val = d
    · omega
    · have : d'.val < d := by omega
      omega

/-- A window of a plane, read at an index. -/
theorem window_plane (T : Vec F S6x64x64x256 .bf16) {d w n : Nat} (hd : d < 6) (hw : w + n ≤ 64) (x : Fin n) (h : Fin 64) (c : Fin 256) :
    shapeCast (Sc n) (window T ![d, w, 0, 0] (Sp n).size (inb_tab hd hw)) casts_plane (ix3 x h c)
      = T (ix4 (⟨d, hd⟩ : Fin 6) (⟨w + x.val, by omega⟩ : Fin 64) h c) := by
  refine (shapeCast_dropUnit_apply (![n, 64, 256] : Fin 3 → Nat) (window T ![d, w, 0, 0] (Sp n).size (inb_tab hd hw)) casts_plane (ix3 x h c)).trans ?_
  refine congrArg T (funext fun a => Fin.ext ?_)
  match a with
  | ⟨0, _⟩ => rfl
  | ⟨1, _⟩ => show w + 1 * x.val = w + x.val; omega
  | ⟨2, _⟩ => show 0 + 1 * h.val = h.val; omega
  | ⟨3, _⟩ => show 0 + 1 * c.val = c.val; omega

/-- A window of the map, read at an index. -/
theorem window_map (V : Vec F S64x64x256 .bf16) {w n : Nat} (hw : w + n ≤ 64) (x : Fin n) (h : Fin 64) (c : Fin 256) :
    shapeCast (Sc n) (window V ![w, 0, 0] (Sc n).size (inb_map hw)) casts_same (ix3 x h c) = mapAt V (w + x.val) h c := by
  refine (congrFun (shapeCast_self (s := Sc n) (window V ![w, 0, 0] (Sc n).size (inb_map hw)) casts_same) (ix3 x h c)).trans ?_
  refine congrArg V (funext fun a => Fin.ext ?_)
  match a with
  | ⟨0, _⟩ => show w + 1 * x.val = min (w + x.val) 63; have := x.isLt; omega
  | ⟨1, _⟩ => show 0 + 1 * h.val = h.val; omega
  | ⟨2, _⟩ => show 0 + 1 * c.val = c.val; omega

/-- Columns stored as a plane's, read at an index. -/
theorem cols_plane {n : Nat} (y : Vec F (Sc n) .bf16) (x : Fin n) (h : Fin 64) (c : Fin 256) :
    (shapeCast (Sp n) y casts_cols : Vec F (Sp n) .bf16) (ix4 (0 : Fin 1) x h c) = y (ix3 x h c) := by
  refine (shapeCast_addUnit_apply (![n, 64, 256] : Fin 3 → Nat) y casts_cols (ix4 (0 : Fin 1) x h c)).trans ?_
  refine congrArg y (funext fun a => ?_)
  match a with
  | ⟨0, _⟩ => rfl
  | ⟨1, _⟩ => rfl
  | ⟨2, _⟩ => rfl

/-! ## The steps -/

section triples

variable {U : Type} [URA U]

local notation "𝕄" => MT nD τ sig Unit (Elt F) ℕ U ℕ

variable {defs : Defs nD τ sig (Elt F) Λ₀} (𝒱 : Variants) (dev : Dev nD) (bd : Option 𝒱.V) (E : Set ℕ)
variable {α : Type} {K : Body F α}
variable (arg3 : Memref sig .tc .vmem S64x64x256 .bf16)
variable (arg5 : Memref sig .tc .vmem S6x64x64x256 .bf16) (harg5 : arg5.IsWhole)
variable (q3 : PosShare TreeShare) (V : Vec F S64x64x256 .bf16)

/-- The map held at `V` and the table held with its first `p` columns filled. -/
def TabHeld (p : Nat) : sProp 𝕄 :=
  iprop(owns (dev : Thread nD τ) arg3 q3 V ∗ ∃ T, ⌜Upto V T p⌝ ∗ owns (dev : Thread nD τ) arg5 fullShare T)

/-- `K` runs from the map, the table filled up to `p`, and `R`. -/
def RunsFrom (R : sProp 𝕄) (K : Body F α) (Q : α → sProp 𝕄) (p : Nat) : Prop :=
  iprop(TabHeld dev arg3 arg5 q3 V p ∗ R) ⊢ wp frame (wpE defs 𝒱 (dev : Thread nD τ) bd) E K Q

theorem runs_copyStep {R : sProp 𝕄} {Q : α → sProp 𝕄} {w : Nat} (hw : w + 8 ≤ 64)
    (hK : RunsFrom (U := U) (defs := defs) 𝒱 dev bd E arg3 arg5 q3 V R K Q (w + 8)) :
    RunsFrom (U := U) (defs := defs) 𝒱 dev bd E arg3 arg5 q3 V R (copyStep arg3 arg5 harg5 w hw K) Q w := by
  unfold RunsFrom TabHeld at *
  unfold copyStep
  iintro ⟨⟨H3, ⟨%T, %hT, H5⟩⟩, HR⟩
  iapply (wp_load_owns (Q := Q) 𝒱 (dev : Thread nD τ) bd E V) $$ H3
  iintro H3
  iapply (wp_load_owns (Q := Q) 𝒱 (dev : Thread nD τ) bd E T) $$ H5
  iintro H5
  iapply (wp_store_owns (Q := Q) 𝒱 (dev : Thread nD τ) bd E T) $$ H5
  iintro H5
  iapply hK
  isplitr [HR]
  swap
  · iexact HR
  isplitl [H3]
  · iexact H3
  iexists _
  isplitr
  swap
  · iexact H5
  ipureintro
  have h := Upto.put (d := 0) (w := w) (n := 8) (by simpa using hT) hw
    (shapeCast (Sp 8) (shapeCast (Sc 8) (window V ![w, 0, 0] (Sc 8).size (inb_map hw)) casts_same : FVec F (Sc 8) .bf16) casts_cols)
    (fun x h c => (cols_plane _ x h c).trans (window_map V hw x h c))
  simpa using h

theorem runs_maxStep {R : sProp 𝕄} {Q : α → sProp 𝕄} {d w n : Nat} (hd : d + 1 < 6) (hw : w + n ≤ 64) (hm : w + (d + 1) + n ≤ 64) (hn : 0 < n)
    (hK : RunsFrom (U := U) (defs := defs) 𝒱 dev bd E arg3 arg5 q3 V R K Q (64 * (d + 1) + w + n)) :
    RunsFrom (U := U) (defs := defs) 𝒱 dev bd E arg3 arg5 q3 V R (maxStep arg3 arg5 harg5 d w n hd hw hm hn K) Q (64 * (d + 1) + w) := by
  unfold RunsFrom TabHeld at *
  unfold maxStep
  iintro ⟨⟨H3, ⟨%T, %hT, H5⟩⟩, HR⟩
  iapply (wp_load_owns (Q := Q) 𝒱 (dev : Thread nD τ) bd E T) $$ H5
  iintro H5
  iapply (wp_load_owns (Q := Q) 𝒱 (dev : Thread nD τ) bd E V) $$ H3
  iintro H3
  iapply (wp_load_owns (Q := Q) 𝒱 (dev : Thread nD τ) bd E T) $$ H5
  iintro H5
  iapply (wp_store_owns (Q := Q) 𝒱 (dev : Thread nD τ) bd E T) $$ H5
  iintro H5
  iapply hK
  isplitr [HR]
  swap
  · iexact HR
  isplitl [H3]
  · iexact H3
  iexists _
  isplitr
  swap
  · iexact H5
  ipureintro
  refine Upto.put hT hw _ fun x h c => (cols_plane _ x h c).trans ?_
  show FloatOps.maximumf (shapeCast (Sc n) _ casts_plane (ix3 x h c)) (shapeCast (Sc n) _ casts_same (ix3 x h c)) = _
  rw [window_plane T (by omega) hw, window_map V hm, hT _ _ _ _ (by show 64 * d + (w + x.val) < _; have := x.isLt; omega)]
  show _ = tab V (d + 1) (w + x.val) h c
  rw [tab, if_pos (by have := x.isLt; omega)]
  rw [show w + (d + 1) + x.val = w + x.val + (d + 1) from by omega]

theorem runs_keepStep {R : sProp 𝕄} {Q : α → sProp 𝕄} {d w n : Nat} (hd : d + 1 < 6) (hw : w + n ≤ 64) (hn : 0 < n) (hl : 64 ≤ w + (d + 1))
    (hK : RunsFrom (U := U) (defs := defs) 𝒱 dev bd E arg3 arg5 q3 V R K Q (64 * (d + 1) + w + n)) :
    RunsFrom (U := U) (defs := defs) 𝒱 dev bd E arg3 arg5 q3 V R (keepStep arg5 harg5 d w n hd hw hn K) Q (64 * (d + 1) + w) := by
  unfold RunsFrom TabHeld at *
  unfold keepStep
  iintro ⟨⟨H3, ⟨%T, %hT, H5⟩⟩, HR⟩
  iapply (wp_load_owns (Q := Q) 𝒱 (dev : Thread nD τ) bd E T) $$ H5
  iintro H5
  iapply (wp_load_owns (Q := Q) 𝒱 (dev : Thread nD τ) bd E T) $$ H5
  iintro H5
  iapply (wp_store_owns (Q := Q) 𝒱 (dev : Thread nD τ) bd E T) $$ H5
  iintro H5
  iapply hK
  isplitr [HR]
  swap
  · iexact HR
  isplitl [H3]
  · iexact H3
  iexists _
  isplitr
  swap
  · iexact H5
  ipureintro
  refine Upto.put hT hw _ fun x h c => (cols_plane _ x h c).trans ?_
  rw [window_plane T (by omega) hw, hT _ _ _ _ (by show 64 * d + (w + x.val) < _; have := x.isLt; omega)]
  show _ = tab V (d + 1) (w + x.val) h c
  rw [tab, if_neg (by omega)]

/-- One plane from the one before it. -/
theorem runs_planeSteps {R : sProp 𝕄} {Q : α → sProp 𝕄} {d : Nat} (hd : d + 1 < 6)
    (hK : RunsFrom (U := U) (defs := defs) 𝒱 dev bd E arg3 arg5 q3 V R K Q (64 * (d + 1) + 64)) :
    RunsFrom (U := U) (defs := defs) 𝒱 dev bd E arg3 arg5 q3 V R (planeSteps arg3 arg5 harg5 d hd K) Q (64 * (d + 1)) := by
  unfold planeSteps
  refine runs_maxStep 𝒱 dev bd E arg3 arg5 harg5 q3 V (w := 0) hd (by omega) (by omega) (by omega) ?_
  refine runs_maxStep 𝒱 dev bd E arg3 arg5 harg5 q3 V (w := 8) hd (by omega) (by omega) (by omega) ?_
  refine runs_maxStep 𝒱 dev bd E arg3 arg5 harg5 q3 V (w := 16) hd (by omega) (by omega) (by omega) ?_
  refine runs_maxStep 𝒱 dev bd E arg3 arg5 harg5 q3 V (w := 24) hd (by omega) (by omega) (by omega) ?_
  refine runs_maxStep 𝒱 dev bd E arg3 arg5 harg5 q3 V (w := 32) hd (by omega) (by omega) (by omega) ?_
  refine runs_maxStep 𝒱 dev bd E arg3 arg5 harg5 q3 V (w := 40) hd (by omega) (by omega) (by omega) ?_
  refine runs_maxStep 𝒱 dev bd E arg3 arg5 harg5 q3 V (w := 48) hd (by omega) (by omega) (by omega) ?_
  refine runs_maxStep 𝒱 dev bd E arg3 arg5 harg5 q3 V (w := 56) hd (by omega) (by omega) (by omega) ?_
  have h := runs_keepStep (K := K) (Q := Q) (R := R) (defs := defs) 𝒱 dev bd E arg3 arg5 harg5 q3 V (w := 63 - d) (n := d + 1) hd (by omega) (by omega) (by omega)
    (by rw [show 64 * (d + 1) + (63 - d) + (d + 1) = 64 * (d + 1) + 64 from by omega]; exact hK)
  rwa [show 64 * (d + 1) + (63 - d) = 64 * (d + 1) + 56 + (7 - d) from by omega] at h

/-- The whole table, whatever the scratch held. -/
theorem runs_tableSteps {R : sProp 𝕄} {Q : α → sProp 𝕄} (hK : RunsFrom (U := U) (defs := defs) 𝒱 dev bd E arg3 arg5 q3 V R K Q 384) :
    RunsFrom (U := U) (defs := defs) 𝒱 dev bd E arg3 arg5 q3 V R (tableSteps arg3 arg5 harg5 K) Q 0 := by
  unfold tableSteps
  refine runs_copyStep 𝒱 dev bd E arg3 arg5 harg5 q3 V (w := 0) (by omega) ?_
  refine runs_copyStep 𝒱 dev bd E arg3 arg5 harg5 q3 V (w := 8) (by omega) ?_
  refine runs_copyStep 𝒱 dev bd E arg3 arg5 harg5 q3 V (w := 16) (by omega) ?_
  refine runs_copyStep 𝒱 dev bd E arg3 arg5 harg5 q3 V (w := 24) (by omega) ?_
  refine runs_copyStep 𝒱 dev bd E arg3 arg5 harg5 q3 V (w := 32) (by omega) ?_
  refine runs_copyStep 𝒱 dev bd E arg3 arg5 harg5 q3 V (w := 40) (by omega) ?_
  refine runs_copyStep 𝒱 dev bd E arg3 arg5 harg5 q3 V (w := 48) (by omega) ?_
  refine runs_copyStep 𝒱 dev bd E arg3 arg5 harg5 q3 V (w := 56) (by omega) ?_
  refine runs_planeSteps 𝒱 dev bd E arg3 arg5 harg5 q3 V (d := 0) (by omega) ?_
  refine runs_planeSteps 𝒱 dev bd E arg3 arg5 harg5 q3 V (d := 1) (by omega) ?_
  refine runs_planeSteps 𝒱 dev bd E arg3 arg5 harg5 q3 V (d := 2) (by omega) ?_
  refine runs_planeSteps 𝒱 dev bd E arg3 arg5 harg5 q3 V (d := 3) (by omega) ?_
  refine runs_planeSteps 𝒱 dev bd E arg3 arg5 harg5 q3 V (d := 4) (by omega) ?_
  exact hK

end triples

end Cert.Kernel
-- ==== Proof.KernelRegion.lean ====
/-
  One region.

  From a filled table, the steps of a region leave its bins in the region's part of the output. The column
  maxima are filled plane by plane, turned eight rows at a time and reduced over the rows of each bin; the
  output block is filled region by region, bin by bin. As for the table, what each scratch held before does
  not matter.
-/
module

public import proofs.«01_k».proof.Proof.KernelTable

@[expose] public section

noncomputable section

namespace Cert.Kernel

open Idealize.ShloMosaic Idealize.ShloMosaic.ValueIdx Idealize.ShloMosaic.VecWindow
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.OwnRules

variable {F : FTy → Type} [FloatOps F]
variable [Facts]
open Facts₀ Facts

/-! ## The values -/

/-- The maximum over the columns of bin `j`, at row `h`: the table at the bin's width less one and at its start. -/
def colVal (V : Vec F S64x64x256 .bf16) (x rw : BitVec 32) (j : Nat) (h : Fin 64) (c : Fin 256) : F .bf16 :=
  tab V (k0_off3 x rw (BitVec.ofNat 32 (j + 1)) (BitVec.ofNat 32 j) 0) (k0_off3 x rw (BitVec.ofNat 32 (j + 1)) (BitVec.ofNat 32 j) 1) h c

/-- The eight rows of the column maxima that bin `k` of the rows is reduced from. -/
def rowsAt (V : Vec F S64x64x256 .bf16) (y x rh rw : BitVec 32) (k : Nat) : Vec F S8x8x256 .bf16 :=
  fun z => colVal V x rw (z 1).val (⟨min (k0_off4 y rh (BitVec.ofNat 32 k) 0 + (z 0).val) 63, by omega⟩ : Fin 64) (z 2)

/-- Bin `k` of the rows of the region with the words `y`, `x`, `rh`, `rw`, for all bins of columns and all channels. -/
def binVal (V : Vec F S64x64x256 .bf16) (y x rh rw : BitVec 32) (k : Nat) : FVec F S8x256 .f32 :=
  rowVal y rh k (rowsAt V y x rh rw k)

/-- The column maxima of the first `p` bins are filled. -/
def ColUpto (V : Vec F S64x64x256 .bf16) (x rw : BitVec 32) (C : Vec F S8x64x256 .bf16) (p : Nat) : Prop :=
  ∀ (j : Fin 8) (h : Fin 64) (c : Fin 256), j.val < p → C (ix3 j h c) = colVal V x rw j.val h c

/-- The first `p` rows of the turned column maxima are filled. -/
def TurnUpto (V : Vec F S64x64x256 .bf16) (x rw : BitVec 32) (D : Vec F S64x8x256 .bf16) (p : Nat) : Prop :=
  ∀ (h : Fin 64) (j : Fin 8) (c : Fin 256), h.val < p → D (ix3 h j c) = colVal V x rw j.val h c

/-- The first `p` rows of bins of the output block, counted through the regions, are filled as `G` says. -/
def OutUpto (G : Nat → Nat → FVec F S8x256 .f32) (O : Vec F S32x8x8x256 .f32) (p : Nat) : Prop :=
  ∀ (b : Fin 32) (k j : Fin 8) (c : Fin 256), 8 * b.val + k.val < p → O (ix4 b k j c) = G b.val k.val (ix2 j c)

theorem put_col (C : Vec F S8x64x256 .bf16) {j : Nat} (P : Vec F S1x64x256 .bf16) (j' : Fin 8) (h : Fin 64) (c : Fin 256) :
    put C ![j, 0, 0] S1x64x256.size P (ix3 j' h c) = if j'.val = j then P (ix3 (0 : Fin 1) h c) else C (ix3 j' h c) := by
  by_cases hh : j'.val = j
  · rw [if_pos hh]
    have hin : ∀ a, (![j, 0, 0] : Fin 3 → Nat) a ≤ (ix3 j' h c a).val
        ∧ (ix3 j' h c a).val < (![j, 0, 0] : Fin 3 → Nat) a + S1x64x256.size a := by
      intro a
      match a with
      | ⟨0, _⟩ => exact ⟨Nat.le_of_eq hh.symm, by show j'.val < j + 1; omega⟩
      | ⟨1, _⟩ => exact ⟨Nat.zero_le _, by show h.val < 0 + 64; omega⟩
      | ⟨2, _⟩ => exact ⟨Nat.zero_le _, by show c.val < 0 + 256; omega⟩
    refine (dif_pos hin).trans (congrArg P (funext fun a => Fin.ext ?_))
    match a with
    | ⟨0, _⟩ => show j'.val - j = 0; omega
    | ⟨1, _⟩ => rfl
    | ⟨2, _⟩ => rfl
  · rw [if_neg hh]
    refine dif_neg fun hin => hh ?_
    have h0 := hin 0
    have e0 : j ≤ j'.val ∧ j'.val < j + 1 := h0
    omega

theorem put_turn (D : Vec F S64x8x256 .bf16) {o : Nat} (P : Vec F S8x8x256 .bf16) (h : Fin 64) (j : Fin 8) (c : Fin 256) :
    put D ![o, 0, 0] S8x8x256.size P (ix3 h j c)
      = if hh : o ≤ h.val ∧ h.val < o + 8 then P (ix3 (⟨h.val - o, by omega⟩ : Fin 8) j c) else D (ix3 h j c) := by
  by_cases hh : o ≤ h.val ∧ h.val < o + 8
  · rw [dif_pos hh]
    have hin : ∀ a, (![o, 0, 0] : Fin 3 → Nat) a ≤ (ix3 h j c a).val
        ∧ (ix3 h j c a).val < (![o, 0, 0] : Fin 3 → Nat) a + S8x8x256.size a := by
      intro a
      match a with
      | ⟨0, _⟩ => exact hh
      | ⟨1, _⟩ => exact ⟨Nat.zero_le _, by show j.val < 0 + 8; omega⟩
      | ⟨2, _⟩ => exact ⟨Nat.zero_le _, by show c.val < 0 + 256; omega⟩
    refine (dif_pos hin).trans (congrArg P (funext fun a => Fin.ext ?_))
    match a with
    | ⟨0, _⟩ => rfl
    | ⟨1, _⟩ => rfl
    | ⟨2, _⟩ => rfl
  · rw [dif_neg hh]
    exact dif_neg fun hin => hh (hin 0)

theorem put_out (O : Vec F S32x8x8x256 .f32) {b k : Nat} (P : Vec F S1x1x8x256 .f32) (b' : Fin 32) (k' j : Fin 8) (c : Fin 256) :
    put O ![b, k, 0, 0] S1x1x8x256.size P (ix4 b' k' j c)
      = if b'.val = b ∧ k'.val = k then P (ix4 (0 : Fin 1) (0 : Fin 1) j c) else O (ix4 b' k' j c) := by
  by_cases hh : b'.val = b ∧ k'.val = k
  · rw [if_pos hh]
    have hin : ∀ a, (![b, k, 0, 0] : Fin 4 → Nat) a ≤ (ix4 b' k' j c a).val
        ∧ (ix4 b' k' j c a).val < (![b, k, 0, 0] : Fin 4 → Nat) a + S1x1x8x256.size a := by
      intro a
      match a with
      | ⟨0, _⟩ => exact ⟨Nat.le_of_eq hh.1.symm, by show b'.val < b + 1; omega⟩
      | ⟨1, _⟩ => exact ⟨Nat.le_of_eq hh.2.symm, by show k'.val < k + 1; omega⟩
      | ⟨2, _⟩ => exact ⟨Nat.zero_le _, by show j.val < 0 + 8; omega⟩
      | ⟨3, _⟩ => exact ⟨Nat.zero_le _, by show c.val < 0 + 256; omega⟩
    refine (dif_pos hin).trans (congrArg P (funext fun a => Fin.ext ?_))
    match a with
    | ⟨0, _⟩ => show b'.val - b = 0; omega
    | ⟨1, _⟩ => show k'.val - k = 0; omega
    | ⟨2, _⟩ => rfl
    | ⟨3, _⟩ => rfl
  · rw [if_neg hh]
    refine dif_neg fun hin => hh ?_
    have h0 := hin 0
    have h1 := hin 1
    have e0 : b ≤ b'.val ∧ b'.val < b + 1 := h0
    have e1 : k ≤ k'.val ∧ k'.val < k + 1 := h1
    omega

/-- One column of the filled table, read at an index. -/
theorem window_tab {V : Vec F S64x64x256 .bf16} {T : Vec F S6x64x64x256 .bf16} (hT : Upto V T 384) {off : Fin 4 → Nat}
    (inb : ∀ a, off a + S1x1x64x256.size a ≤ S6x64x64x256.size a) (h : Fin 64) (c : Fin 256) :
    window T off S1x1x64x256.size inb (ix4 (0 : Fin 1) (0 : Fin 1) h c) = tab V (off 0) (off 1) h c := by
  have h0 : off 0 + 1 ≤ 6 := inb 0
  have h1 : off 1 + 1 ≤ 64 := inb 1
  have h2 : off 2 + 64 ≤ 64 := inb 2
  have h3 : off 3 + 256 ≤ 256 := inb 3
  refine Eq.trans ?_ (hT (⟨off 0, by omega⟩ : Fin 6) (⟨off 1, by omega⟩ : Fin 64) h c (by show 64 * off 0 + off 1 < 384; omega))
  refine congrArg T (funext fun a => Fin.ext ?_)
  match a with
  | ⟨0, _⟩ => show off 0 + 1 * 0 = off 0; omega
  | ⟨1, _⟩ => show off 1 + 1 * 0 = off 1; omega
  | ⟨2, _⟩ => show off 2 + 1 * h.val = h.val; omega
  | ⟨3, _⟩ => show off 3 + 1 * c.val = c.val; omega

theorem ColUpto.put {V : Vec F S64x64x256 .bf16} {x rw : BitVec 32} {C : Vec F S8x64x256 .bf16} {j : Nat}
    (hC : ColUpto V x rw C j) {T : Vec F S6x64x64x256 .bf16} (hT : Upto V T 384) (hc : k0_chk1 x rw) (hj : j < 8) :
    ColUpto V x rw (VecWindow.put C ![j, 0, 0] S1x64x256.size
      (shapeCast S1x64x256 (shapeCast S1x64x256 (window T (k0_off3 x rw (BitVec.ofNat 32 (j + 1)) (BitVec.ofNat 32 j)) S1x1x64x256.size
        (inb_off3 x rw hc hj)) shapeCasts_S1x1x64x256_S1x64x256 : FVec F S1x64x256 .bf16) shapeCasts_S1x64x256_S1x64x256)) (j + 1) := by
  intro j' h c hlt
  rw [put_col]
  by_cases hh : j'.val = j
  · rw [if_pos hh, hh]
    refine (congrFun (shapeCast_self (s := S1x64x256) _ _) _).trans ?_
    refine (shapeCast_dropUnit_apply (![1, 64, 256] : Fin 3 → Nat) _ shapeCasts_S1x1x64x256_S1x64x256 (ix3 (0 : Fin 1) h c)).trans ?_
    refine Eq.trans ?_ (window_tab hT (inb_off3 x rw hc hj) h c)
    refine congrArg _ (funext fun a => ?_)
    match a with
    | ⟨0, _⟩ => rfl
    | ⟨1, _⟩ => rfl
    | ⟨2, _⟩ => rfl
    | ⟨3, _⟩ => rfl
  · rw [if_neg hh]
    exact hC j' h c (by omega)

theorem TurnUpto.put {V : Vec F S64x64x256 .bf16} {x rw : BitVec 32} {D : Vec F S64x8x256 .bf16} {t : Nat}
    (hD : TurnUpto V x rw D (8 * t)) {C : Vec F S8x64x256 .bf16} (hC : ColUpto V x rw C 8) (ht : t < 8) :
    TurnUpto V x rw (VecWindow.put D ![8 * t, 0, 0] S8x8x256.size
      (shapeCast S8x8x256 (transpose S8x8x256 [1, 0, 2] (window C ![0, 8 * t, 0] S8x8x256.size (inb_blk ht))
        transposes_S8x8x256_p1_0_2_S8x8x256 : FVec F S8x8x256 .bf16) shapeCasts_S8x8x256_S8x8x256)) (8 * (t + 1)) := by
  intro h j c hlt
  rw [put_turn]
  by_cases hh : 8 * t ≤ h.val ∧ h.val < 8 * t + 8
  · rw [dif_pos hh]
    refine (congrFun (shapeCast_self (s := S8x8x256) _ _) _).trans ?_
    refine (transpose_apply _ _ transposes_S8x8x256_p1_0_2_S8x8x256 _ (ix3 j (⟨h.val - 8 * t, by omega⟩ : Fin 8) c) ?_).trans ?_
    · intro b
      match b with
      | ⟨0, _⟩ => rfl
      | ⟨1, _⟩ => rfl
      | ⟨2, _⟩ => rfl
    refine Eq.trans ?_ (hC j h c j.isLt)
    refine congrArg C (funext fun a => Fin.ext ?_)
    match a with
    | ⟨0, _⟩ => show 0 + 1 * j.val = j.val; omega
    | ⟨1, _⟩ => show 8 * t + 1 * (h.val - 8 * t) = h.val; omega
    | ⟨2, _⟩ => show 0 + 1 * c.val = c.val; omega
  · rw [dif_neg hh]
    exact hD h j c (by omega)

/-- The rows loaded for a bin, once all are turned. -/
theorem window_rows {V : Vec F S64x64x256 .bf16} {y x rh rw : BitVec 32} {D : Vec F S64x8x256 .bf16} (hD : TurnUpto V x rw D 64)
    {k : Nat} (inb : ∀ a, k0_off4 y rh (BitVec.ofNat 32 k) a + S8x8x256.size a ≤ S64x8x256.size a) :
    window D (k0_off4 y rh (BitVec.ofNat 32 k)) S8x8x256.size inb = rowsAt V y x rh rw k := by
  funext z
  have h0 : k0_off4 y rh (BitVec.ofNat 32 k) 0 + 8 ≤ 64 := inb 0
  have h1 : k0_off4 y rh (BitVec.ofNat 32 k) 1 + 8 ≤ 8 := inb 1
  have h2 : k0_off4 y rh (BitVec.ofNat 32 k) 2 + 256 ≤ 256 := inb 2
  have z0 : (z 0).val < 8 := (z 0).isLt
  refine Eq.trans ?_ (hD (⟨min (k0_off4 y rh (BitVec.ofNat 32 k) 0 + (z 0).val) 63, by omega⟩ : Fin 64) (z 1) (z 2) (by show min _ _ < 64; omega))
  refine congrArg D (funext fun a => Fin.ext ?_)
  match a with
  | ⟨0, _⟩ => show k0_off4 y rh (BitVec.ofNat 32 k) 0 + 1 * (z 0).val = min (k0_off4 y rh (BitVec.ofNat 32 k) 0 + (z 0).val) 63; omega
  | ⟨1, _⟩ => show k0_off4 y rh (BitVec.ofNat 32 k) 1 + 1 * (z 1).val = (z 1).val; omega
  | ⟨2, _⟩ => show k0_off4 y rh (BitVec.ofNat 32 k) 2 + 1 * (z 2).val = (z 2).val; omega

theorem OutUpto.put {G : Nat → Nat → FVec F S8x256 .f32} {O : Vec F S32x8x8x256 .f32} {b k : Nat} (hO : OutUpto G O (8 * b + k))
    (hb : b < 32) (hk : k < 8) (P : FVec F S8x256 .f32) (hP : P = G b k) :
    OutUpto G (VecWindow.put O ![b, k, 0, 0] S1x1x8x256.size (shapeCast S1x1x8x256 P shapeCasts_S8x256_S1x1x8x256 : FVec F S1x1x8x256 .f32)) (8 * b + k + 1) := by
  subst hP
  intro b' k' j c hlt
  rw [put_out]
  by_cases hh : b'.val = b ∧ k'.val = k
  · rw [if_pos hh, hh.1, hh.2]
    refine shapeCast_apply _ shapeCasts_S8x256_S1x1x8x256 _ (ix2 j c) ?_
    rw [Shape.rowMajor_val_two, Shape.rowMajor_val_four]
    show j.val * 256 + c.val = ((0 * 1 + 0) * 8 + j.val) * 256 + c.val
    omega
  · rw [if_neg hh]
    exact hO b' k' j c (by omega)

/-! ## The steps -/

section triples

variable {U : Type} [URA U]

local notation "𝕄" => MT nD τ sig Unit (Elt F) ℕ U ℕ

variable {defs : Defs nD τ sig (Elt F) Λ₀} (𝒱 : Variants) (dev : Dev nD) (bd : Option 𝒱.V) (E : Set ℕ)
variable {α : Type} {K : Body F α}
variable (i : grid0.Coords)
variable (arg2 : Memref sig .tc .smem S2048 .i32)
variable (arg4 : Memref sig .tc .vmem S32x8x8x256 .f32)
variable (arg5 : Memref sig .tc .vmem S6x64x64x256 .bf16)
variable (arg6 : Memref sig .tc .vmem S8x64x256 .bf16) (harg6 : arg6.IsWhole)
variable (arg7 : Memref sig .tc .vmem S64x8x256 .bf16) (harg7 : arg7.IsWhole)
variable (V : Vec F S64x64x256 .bf16) (G : Nat → Nat → FVec F S8x256 .f32)

/-- The table filled, the column maxima filled up to `pc`, turned up to `pd`, the output up to `po`. -/
def RegHeld (x rw : BitVec 32) (pc pd po : Nat) : sProp 𝕄 :=
  iprop((∃ T, ⌜Upto V T 384⌝ ∗ owns (dev : Thread nD τ) arg5 fullShare T)
    ∗ (∃ C, ⌜ColUpto V x rw C pc⌝ ∗ owns (dev : Thread nD τ) arg6 fullShare C)
    ∗ (∃ D, ⌜TurnUpto V x rw D pd⌝ ∗ owns (dev : Thread nD τ) arg7 fullShare D)
    ∗ (∃ O, ⌜OutUpto G O po⌝ ∗ owns (dev : Thread nD τ) arg4 fullShare O))

/-- `K` runs from that and `R`. -/
def RunsReg (R : sProp 𝕄) (K : Body F α) (Q : α → sProp 𝕄) (x rw : BitVec 32) (pc pd po : Nat) : Prop :=
  iprop(RegHeld dev arg4 arg5 arg6 arg7 V G x rw pc pd po ∗ R) ⊢ wp frame (wpE defs 𝒱 (dev : Thread nD τ) bd) E K Q

theorem reg_colStep {R : sProp 𝕄} {Q : α → sProp 𝕄} {j : Nat} (hj : j < 8) {x rw : BitVec 32} (hc : k0_chk1 x rw) {pd po : Nat}
    (hK : RunsReg (U := U) (defs := defs) 𝒱 dev bd E arg4 arg5 arg6 arg7 V G R K Q x rw (j + 1) pd po) :
    RunsReg (U := U) (defs := defs) 𝒱 dev bd E arg4 arg5 arg6 arg7 V G R (colStep arg5 arg6 harg6 j hj x rw hc K) Q x rw j pd po := by
  unfold RunsReg RegHeld at *
  unfold colStep
  iintro ⟨⟨⟨%T, %hT, H5⟩, ⟨%C, %hC, H6⟩, HD, HO⟩, HR⟩
  iapply (wp_load_owns (Q := Q) 𝒱 (dev : Thread nD τ) bd E T) $$ H5
  iintro H5
  iapply (wp_load_owns (Q := Q) 𝒱 (dev : Thread nD τ) bd E C) $$ H6
  iintro H6
  iapply (wp_store_owns (Q := Q) 𝒱 (dev : Thread nD τ) bd E C) $$ H6
  iintro H6
  iapply hK
  isplitr [HR]
  swap
  · iexact HR
  isplitl [H5]
  · iexists T
    isplitr
    · ipureintro; exact hT
    iexact H5
  isplitl [H6]
  · iexists _
    isplitr
    swap
    · iexact H6
    ipureintro
    exact hC.put hT hc hj
  isplitl [HD]
  · iexact HD
  iexact HO

theorem reg_turnStep {R : sProp 𝕄} {Q : α → sProp 𝕄} {t : Nat} (ht : t < 8) {x rw : BitVec 32} {po : Nat}
    (hK : RunsReg (U := U) (defs := defs) 𝒱 dev bd E arg4 arg5 arg6 arg7 V G R K Q x rw 8 (8 * (t + 1)) po) :
    RunsReg (U := U) (defs := defs) 𝒱 dev bd E arg4 arg5 arg6 arg7 V G R (turnStep arg6 arg7 harg7 t ht K) Q x rw 8 (8 * t) po := by
  unfold RunsReg RegHeld at *
  unfold turnStep
  iintro ⟨⟨HT, ⟨%C, %hC, H6⟩, ⟨%D, %hD, H7⟩, HO⟩, HR⟩
  iapply (wp_load_owns (Q := Q) 𝒱 (dev : Thread nD τ) bd E C) $$ H6
  iintro H6
  iapply (wp_load_owns (Q := Q) 𝒱 (dev : Thread nD τ) bd E D) $$ H7
  iintro H7
  iapply (wp_store_owns (Q := Q) 𝒱 (dev : Thread nD τ) bd E D) $$ H7
  iintro H7
  iapply hK
  isplitr [HR]
  swap
  · iexact HR
  isplitl [HT]
  · iexact HT
  isplitl [H6]
  · iexists C
    isplitr
    · ipureintro; exact hC
    iexact H6
  isplitl [H7]
  · iexists _
    isplitr
    swap
    · iexact H7
    ipureintro
    exact hD.put hC ht
  iexact HO

theorem reg_rowStep {R : sProp 𝕄} {Q : α → sProp 𝕄} {b k : Nat} (hb : b < 32) (hk : k < 8) {y x rh rw : BitVec 32} (hc : k0_chk2 y rh)
    (hG : binVal V y x rh rw k = G b k)
    (hK : RunsReg (U := U) (defs := defs) 𝒱 dev bd E arg4 arg5 arg6 arg7 V G R K Q x rw 8 64 (8 * b + k + 1)) :
    RunsReg (U := U) (defs := defs) 𝒱 dev bd E arg4 arg5 arg6 arg7 V G R (rowStep arg4 arg7 b k hb hk y rh hc K) Q x rw 8 64 (8 * b + k) := by
  unfold RunsReg RegHeld at *
  unfold rowStep
  iintro ⟨⟨HT, HC, ⟨%D, %hD, H7⟩, ⟨%O, %hO, H4⟩⟩, HR⟩
  iapply (wp_load_owns (Q := Q) 𝒱 (dev : Thread nD τ) bd E D) $$ H7
  iintro H7
  iapply (wp_load_owns (Q := Q) 𝒱 (dev : Thread nD τ) bd E O) $$ H4
  iintro H4
  iapply (wp_store_owns (Q := Q) 𝒱 (dev : Thread nD τ) bd E O) $$ H4
  iintro H4
  iapply hK
  isplitr [HR]
  swap
  · iexact HR
  isplitl [HT]
  · iexact HT
  isplitl [HC]
  · iexact HC
  isplitl [H7]
  · iexists D
    isplitr
    · ipureintro; exact hD
    iexact H7
  iexists _
  isplitr
  swap
  · iexact H4
  ipureintro
  refine hO.put hb hk _ (Eq.trans ?_ hG)
  exact congrArg (rowVal y rh k) (window_rows hD (k0_off4_inb y rh hc ⟨k, hk⟩))

/-- What the scratch of the column maxima held before does not matter. -/
theorem reg_forget (x rw x' rw' : BitVec 32) (pc pd po : Nat) :
    (RegHeld dev arg4 arg5 arg6 arg7 V G x rw pc pd po : sProp 𝕄) ⊢ RegHeld dev arg4 arg5 arg6 arg7 V G x' rw' 0 0 po := by
  unfold RegHeld
  iintro ⟨HT, ⟨%C, %hC, H6⟩, ⟨%D, %hD, H7⟩, HO⟩
  isplitl [HT]
  · iexact HT
  isplitl [H6]
  · iexists C
    isplitr
    · ipureintro; exact fun _ _ _ h => absurd h (Nat.not_lt_zero _)
    iexact H6
  isplitl [H7]
  · iexists D
    isplitr
    · ipureintro; exact fun _ _ _ h => absurd h (Nat.not_lt_zero _)
    iexact H7
  iexact HO

/-- The bins of one region. -/
theorem reg_binSteps {R : sProp 𝕄} {Q : α → sProp 𝕄} {b : Nat} (hb : b < 32) {y x rh rw : BitVec 32} (h2 : k0_chk2 y rh) (h1 : k0_chk1 x rw)
    (hG : ∀ k, k < 8 → binVal V y x rh rw k = G b k)
    (hK : RunsReg (U := U) (defs := defs) 𝒱 dev bd E arg4 arg5 arg6 arg7 V G R K Q x rw 8 64 (8 * (b + 1))) :
    RunsReg (U := U) (defs := defs) 𝒱 dev bd E arg4 arg5 arg6 arg7 V G R
      (binSteps arg4 arg5 arg6 harg6 arg7 harg7 b hb y x rh rw h2 h1 K) Q x rw 0 0 (8 * b) := by
  unfold binSteps
  refine reg_colStep 𝒱 dev bd E arg4 arg5 arg6 harg6 arg7 V G (j := 0) (by omega) h1 ?_
  refine reg_colStep 𝒱 dev bd E arg4 arg5 arg6 harg6 arg7 V G (j := 1) (by omega) h1 ?_
  refine reg_colStep 𝒱 dev bd E arg4 arg5 arg6 harg6 arg7 V G (j := 2) (by omega) h1 ?_
  refine reg_colStep 𝒱 dev bd E arg4 arg5 arg6 harg6 arg7 V G (j := 3) (by omega) h1 ?_
  refine reg_colStep 𝒱 dev bd E arg4 arg5 arg6 harg6 arg7 V G (j := 4) (by omega) h1 ?_
  refine reg_colStep 𝒱 dev bd E arg4 arg5 arg6 harg6 arg7 V G (j := 5) (by omega) h1 ?_
  refine reg_colStep 𝒱 dev bd E arg4 arg5 arg6 harg6 arg7 V G (j := 6) (by omega) h1 ?_
  refine reg_colStep 𝒱 dev bd E arg4 arg5 arg6 harg6 arg7 V G (j := 7) (by omega) h1 ?_
  refine reg_turnStep 𝒱 dev bd E arg4 arg5 arg6 arg7 harg7 V G (t := 0) (by omega) ?_
  refine reg_turnStep 𝒱 dev bd E arg4 arg5 arg6 arg7 harg7 V G (t := 1) (by omega) ?_
  refine reg_turnStep 𝒱 dev bd E arg4 arg5 arg6 arg7 harg7 V G (t := 2) (by omega) ?_
  refine reg_turnStep 𝒱 dev bd E arg4 arg5 arg6 arg7 harg7 V G (t := 3) (by omega) ?_
  refine reg_turnStep 𝒱 dev bd E arg4 arg5 arg6 arg7 harg7 V G (t := 4) (by omega) ?_
  refine reg_turnStep 𝒱 dev bd E arg4 arg5 arg6 arg7 harg7 V G (t := 5) (by omega) ?_
  refine reg_turnStep 𝒱 dev bd E arg4 arg5 arg6 arg7 harg7 V G (t := 6) (by omega) ?_
  refine reg_turnStep 𝒱 dev bd E arg4 arg5 arg6 arg7 harg7 V G (t := 7) (by omega) ?_
  refine reg_rowStep 𝒱 dev bd E arg4 arg5 arg6 arg7 V G (k := 0) hb (by omega) h2 (hG _ (by omega)) ?_
  refine reg_rowStep 𝒱 dev bd E arg4 arg5 arg6 arg7 V G (k := 1) hb (by omega) h2 (hG _ (by omega)) ?_
  refine reg_rowStep 𝒱 dev bd E arg4 arg5 arg6 arg7 V G (k := 2) hb (by omega) h2 (hG _ (by omega)) ?_
  refine reg_rowStep 𝒱 dev bd E arg4 arg5 arg6 arg7 V G (k := 3) hb (by omega) h2 (hG _ (by omega)) ?_
  refine reg_rowStep 𝒱 dev bd E arg4 arg5 arg6 arg7 V G (k := 4) hb (by omega) h2 (hG _ (by omega)) ?_
  refine reg_rowStep 𝒱 dev bd E arg4 arg5 arg6 arg7 V G (k := 5) hb (by omega) h2 (hG _ (by omega)) ?_
  refine reg_rowStep 𝒱 dev bd E arg4 arg5 arg6 arg7 V G (k := 6) hb (by omega) h2 (hG _ (by omega)) ?_
  refine reg_rowStep 𝒱 dev bd E arg4 arg5 arg6 arg7 V G (k := 7) hb (by omega) h2 (hG _ (by omega)) ?_
  rw [show 8 * b + 7 + 1 = 8 * (b + 1) from by omega]
  exact hK

/-! ## The words of a region, and the regions of a point -/

/-- The word of the table of regions at an offset (at the last one, past it). -/
def wordAt (W : Vec F S2048 .i32) (off : Fin 1 → Nat) : BitVec 32 := W (ix1 (⟨min (off 0) 2047, by omega⟩ : Fin 2048))

/-- A word read from the table. -/
theorem runs_word {R : sProp 𝕄} {Q : α → sProp 𝕄} {q2 : PosShare TreeShare} {W : Vec F S2048 .i32} {off : Fin 1 → Nat}
    (h : ∀ a, off a + S1.size a ≤ S2048.size a) {k : BitVec 32 → Body F α}
    (hk : iprop(R ∗ owns (dev : Thread nD τ) arg2 q2 W) ⊢ wp frame (wpE defs 𝒱 (dev : Thread nD τ) bd) E (k (wordAt W off)) Q) :
    iprop(R ∗ owns (dev : Thread nD τ) arg2 q2 W) ⊢ wp frame (wpE defs 𝒱 (dev : Thread nD τ) bd) E (word arg2 off h k) Q := by
  unfold word
  iintro ⟨HR, H2⟩
  iapply (wp_word_owns (Q := Q) 𝒱 (dev : Thread nD τ) bd E W) $$ H2
  iintro H2
  have he : W ((Rect.unit (s := S2048) off S1.size h).emb (Shape.Idx.first (numel1_S1.symm ▸ Nat.one_pos))) = wordAt W off := by
    refine congrArg W (funext fun a => Fin.ext ?_)
    have h0 : off 0 + 1 ≤ 2048 := h 0
    have hl : ∀ z : S1.Idx, (z 0).val = 0 := fun z => by
      have hz : (z 0).val < 1 := (z 0).isLt
      omega
    match a with
    | ⟨0, _⟩ =>
      show off 0 + 1 * (Shape.Idx.first (s := S1) (numel1_S1.symm ▸ Nat.one_pos) 0).val = min (off 0) 2047
      rw [hl]
      omega
  rw [he]
  iapply hk
  isplitl [HR]
  · iexact HR
  iexact H2

/-- The four words of region `b` of point `i`. -/
def roiY (W : Vec F S2048 .i32) (i : grid0.Coords) (b : Nat) : BitVec 32 := wordAt W (offFst i b)
def roiX (W : Vec F S2048 .i32) (i : grid0.Coords) (b : Nat) : BitVec 32 := wordAt W (offWord i b 1)
def roiH (W : Vec F S2048 .i32) (i : grid0.Coords) (b : Nat) : BitVec 32 := wordAt W (offWord i b 2)
def roiW (W : Vec F S2048 .i32) (i : grid0.Coords) (b : Nat) : BitVec 32 := wordAt W (offWord i b 3)

/-- What point `i` leaves in its output block: bin `k` of the rows of region `b`. -/
def pointVal (V : Vec F S64x64x256 .bf16) (W : Vec F S2048 .i32) (i : grid0.Coords) (b k : Nat) : FVec F S8x256 .f32 :=
  binVal V (roiY W i b) (roiX W i b) (roiH W i b) (roiW W i b) k

/-- One region. -/
theorem runs_region {R : sProp 𝕄} {Q : α → sProp 𝕄} {q2 : PosShare TreeShare} {W : Vec F S2048 .i32} {b : Nat} (hb : b < 32)
    (hf : ∀ a, offFst i b a + S1.size a ≤ S2048.size a) (hw : ∀ k, k < 4 → ∀ a, offWord i b k a + S1.size a ≤ S2048.size a)
    (h2 : k0_chk2 (roiY W i b) (roiH W i b)) (h1 : k0_chk1 (roiX W i b) (roiW W i b)) {x rw : BitVec 32} {pc pd : Nat}
    (hK : ∀ x rw, RunsReg (U := U) (defs := defs) 𝒱 dev bd E arg4 arg5 arg6 arg7 V (pointVal V W i)
      iprop(R ∗ owns (dev : Thread nD τ) arg2 q2 W) K Q x rw 8 64 (8 * (b + 1))) :
    RunsReg (U := U) (defs := defs) 𝒱 dev bd E arg4 arg5 arg6 arg7 V (pointVal V W i)
      iprop(R ∗ owns (dev : Thread nD τ) arg2 q2 W) (region i arg2 arg4 arg5 arg6 harg6 arg7 harg7 b hb hf hw K) Q x rw pc pd (8 * b) := by
  have hbins := reg_binSteps (R := iprop(R ∗ owns (dev : Thread nD τ) arg2 q2 W)) (Q := Q) (K := K) (defs := defs) 𝒱 dev bd E
    arg4 arg5 arg6 harg6 arg7 harg7 V (pointVal V W i) hb h2 h1 (fun _ _ => rfl) (hK _ _)
  unfold RunsReg at *
  unfold region regionWords
  have hgo : iprop(RegHeld dev arg4 arg5 arg6 arg7 V (pointVal V W i) x rw pc pd (8 * b) ∗ iprop(R ∗ owns (dev : Thread nD τ) arg2 q2 W))
      ⊢ iprop(iprop(RegHeld dev arg4 arg5 arg6 arg7 V (pointVal V W i) x rw pc pd (8 * b) ∗ R) ∗ owns (dev : Thread nD τ) arg2 q2 W) := by
    iintro ⟨H, HR, HW⟩
    isplitr [HW]
    · isplitl [H]
      · iexact H
      iexact HR
    iexact HW
  have hpre : iprop(iprop(RegHeld dev arg4 arg5 arg6 arg7 V (pointVal V W i) x rw pc pd (8 * b) ∗ R) ∗ owns (dev : Thread nD τ) arg2 q2 W)
      ⊢ iprop(RegHeld dev arg4 arg5 arg6 arg7 V (pointVal V W i) (roiX W i b) (roiW W i b) 0 0 (8 * b) ∗ iprop(R ∗ owns (dev : Thread nD τ) arg2 q2 W)) := by
    iintro ⟨⟨H, HR⟩, HW⟩
    isplitl [H]
    · iapply (reg_forget dev arg4 arg5 arg6 arg7 V (pointVal V W i) x rw _ _ pc pd (8 * b))
      iexact H
    isplitl [HR]
    · iexact HR
    iexact HW
  refine hgo.trans ?_
  refine runs_word 𝒱 dev bd E arg2 hf ?_
  refine runs_word 𝒱 dev bd E arg2 (hw 1 (by decide)) ?_
  refine runs_word 𝒱 dev bd E arg2 (hw 2 (by decide)) ?_
  refine BI.Entails.trans ?_ (wp_assume (Q := Q) 𝒱 (dev : Thread nD τ) bd E h2)
  refine runs_word 𝒱 dev bd E arg2 (hw 3 (by decide)) ?_
  refine BI.Entails.trans ?_ (wp_assume (Q := Q) 𝒱 (dev : Thread nD τ) bd E h1)
  exact BI.Entails.trans hpre hbins

/-- The last `n` regions of a point. -/
theorem runs_regions {R : sProp 𝕄} {Q : α → sProp 𝕄} {q2 : PosShare TreeShare} {W : Vec F S2048 .i32}
    (hf : ∀ b, b < 32 → ∀ a, offFst i b a + S1.size a ≤ S2048.size a)
    (hw : ∀ b, b < 32 → ∀ k, k < 4 → ∀ a, offWord i b k a + S1.size a ≤ S2048.size a)
    (h2 : ∀ b, b < 32 → k0_chk2 (roiY W i b) (roiH W i b)) (h1 : ∀ b, b < 32 → k0_chk1 (roiX W i b) (roiW W i b))
    (hK : ∀ x rw pc pd, RunsReg (U := U) (defs := defs) 𝒱 dev bd E arg4 arg5 arg6 arg7 V (pointVal V W i)
      iprop(R ∗ owns (dev : Thread nD τ) arg2 q2 W) K Q x rw pc pd 256) :
    ∀ (n : Nat) (hn : n ≤ 32) (x rw : BitVec 32) (pc pd : Nat),
    RunsReg (U := U) (defs := defs) 𝒱 dev bd E arg4 arg5 arg6 arg7 V (pointVal V W i)
      iprop(R ∗ owns (dev : Thread nD τ) arg2 q2 W) (regions i arg2 arg4 arg5 arg6 harg6 arg7 harg7 hf hw n hn K) Q x rw pc pd (8 * (32 - n)) := by
  intro n
  induction n with
  | zero => intro hn x rw pc pd; exact hK x rw pc pd
  | succ n ih =>
    intro hn x rw pc pd
    have h := runs_region (R := R) (Q := Q) (defs := defs) (q2 := q2) (W := W) 𝒱 dev bd E i arg2 arg4 arg5 arg6 harg6 arg7 harg7 V (b := 31 - n) (by omega) (hf _ (by omega)) (hw _ (by omega))
      (h2 _ (by omega)) (h1 _ (by omega)) (x := x) (rw := rw) (pc := pc) (pd := pd)
      (fun x rw => by rw [show 31 - n + 1 = 32 - n from by omega]; exact ih (by omega) x rw 8 64)
    rw [show 32 - (n + 1) = 31 - n from by omega]
    exact h

end triples

end Cert.Kernel
-- ==== Proof.KernelBody.lean ====
/-
  The printed body is the sequence of steps.
-/
module

public import proofs.«01_k».proof.Proof.KernelSteps
public import Idealize.ShloMosaic.Lib.Tactic

@[expose] public section

namespace Cert.Kernel

open Idealize.ShloMosaic Idealize.SL.Sem

variable {F : FTy → Type} [FloatOps F]
variable [Facts]
open Facts₀ Facts

section steps

variable (i : grid0.Coords)
variable (arg2 : Memref sig .tc .smem S2048 .i32) (harg2 : arg2.IsWhole)
variable (arg3 : Memref sig .tc .vmem S64x64x256 .bf16) (harg3 : arg3.IsWhole)
variable (arg4 : Memref sig .tc .vmem S32x8x8x256 .f32) (harg4 : arg4.IsWhole)
variable (arg5 : Memref sig .tc .vmem S6x64x64x256 .bf16) (harg5 : arg5.IsWhole)
variable (arg6 : Memref sig .tc .vmem S8x64x256 .bf16) (harg6 : arg6.IsWhole)
variable (arg7 : Memref sig .tc .vmem S64x8x256 .bf16) (harg7 : arg7.IsWhole)

/-- The first column of the columns a region covers. -/
def colMin (x rw : BitVec 32) : BitVec 32 := rowMin x rw
/-- The number of columns a region covers. -/
def colLen (x rw : BitVec 32) : BitVec 32 := rowLen x rw

/-- What the body's first window leaves to the rest of the first region. -/
abbrev Head : Type := Σ' (v4 : BitVec 32) (v9 : BitVec 32) (v12 : BitVec 32) (v15 : BitVec 32) (_ : k0_chk2 v9 v15) (v18 : BitVec 32)
  (_ : k0_chk1 v12 v18) (v21 : BitVec 32) (v25 : BitVec 32) (v28 : BitVec 32) (v32 : BitVec 32), BitVec 32

/-- The words of the first region, and what the first window computes from them. -/
noncomputable def headSteps (hf : ∀ a, offFst i 0 a + S1.size a ≤ S2048.size a)
    (hw : ∀ k, k < 4 → ∀ a, offWord i 0 k a + S1.size a ≤ S2048.size a) : Body F Head :=
  regionWords i arg2 0 hf hw fun y x rh rw h2 h1 =>
    .ret ⟨Scalar.addi (Scalar.muli (BitVec.ofNat 32 (i 0).val) 8#32) (BitVec.ofNat 32 (i 1).val), y, x, rh, h2, rw, h1,
      colMin x rw, colLen x rw, rowMin y rh, rowLen y rh,
      Scalar.addi (colMin x rw) (Scalar.shrui (Scalar.muli 0#32 (colLen x rw)) 3#32)⟩

set_option maxRecDepth 100000 in
/-- The body's first window: the table under its condition, then the words. -/
theorem window_eq (hf : ∀ a, offFst i 0 a + S1.size a ≤ S2048.size a)
    (hw : ∀ k, k < 4 → ∀ a, offWord i 0 k a + S1.size a ≤ S2048.size a) :
    (k0_part17 i arg2 harg2 arg3 harg3 arg4 harg4 arg5 harg5 arg6 harg6 arg7 harg7 : Body F Head)
      = dite (atFirst i = 1#1) (fun _ => tableSteps arg3 arg5 harg5 (headSteps i arg2 hf hw)) (fun _ => headSteps i arg2 hf hw) := by
  sl_kernel_rfl

set_option maxRecDepth 100000 in
/-- The body at the first point of a row of the grid: the table, then the point's regions. -/
theorem body_first (hf : ∀ b, b < 32 → ∀ a, offFst i b a + S1.size a ≤ S2048.size a)
    (hw : ∀ b, b < 32 → ∀ k, k < 4 → ∀ a, offWord i b k a + S1.size a ≤ S2048.size a) (h : atFirst i = 1#1) :
    (cc0_roi_pool i arg2 harg2 arg3 harg3 arg4 harg4 arg5 harg5 arg6 harg6 arg7 harg7 : Body F PUnit)
      = tableSteps arg3 arg5 harg5 (regions i arg2 arg4 arg5 arg6 harg6 arg7 harg7 hf hw 32 (by omega) (.ret ⟨⟩)) := by
  unfold cc0_roi_pool k0_part403
  rewrite [window_eq i arg2 harg2 arg3 harg3 arg4 harg4 arg5 harg5 arg6 harg6 arg7 harg7 (hf 0 (by omega)) (hw 0 (by omega)), dif_pos h]
  sl_kernel_rfl

set_option maxRecDepth 100000 in
/-- The body at the other points: the point's regions. -/
theorem body_later (hf : ∀ b, b < 32 → ∀ a, offFst i b a + S1.size a ≤ S2048.size a)
    (hw : ∀ b, b < 32 → ∀ k, k < 4 → ∀ a, offWord i b k a + S1.size a ≤ S2048.size a) (h : ¬ atFirst i = 1#1) :
    (cc0_roi_pool i arg2 harg2 arg3 harg3 arg4 harg4 arg5 harg5 arg6 harg6 arg7 harg7 : Body F PUnit)
      = regions i arg2 arg4 arg5 arg6 harg6 arg7 harg7 hf hw 32 (by omega) (.ret ⟨⟩) := by
  unfold cc0_roi_pool k0_part403
  rewrite [window_eq i arg2 harg2 arg3 harg3 arg4 harg4 arg5 harg5 arg6 harg6 arg7 harg7 (hf 0 (by omega)) (hw 0 (by omega)), dif_neg h]
  sl_kernel_rfl

end steps
end Cert.Kernel
-- ==== Proof.Spans.lean ====
/-
  The span of a region along one axis, and its eight bins.

  A region is given along each axis by a position and an extent. It covers the coordinates from `lo` up to
  `hi`, cut at the borders of the map, and bin `k` those from `fst` up to `lst`, an eighth of the span
  rounded outwards. The words the programs compute are these numbers whenever the position lies in the map
  and the extent is that of a region (`InMap`).
-/
module

public import Idealize.ShloMosaic.Lib.StableHlo
public import Idealize.ShloMosaic.PureOps

@[expose] public section

namespace Cert.Spans

open Idealize.ShloMosaic

/-- The first coordinate covered. -/
def lo (p r : Nat) : Nat := p - r / 2
/-- The end of the coordinates covered. -/
def hi (p r : Nat) : Nat := if 64 < p + r / 2 then 63 else p + r / 2
/-- How many are covered. -/
def len (p r : Nat) : Nat := hi p r - lo p r
/-- The first coordinate of bin `k`. -/
def fst (p r k : Nat) : Nat := lo p r + k * len p r / 8
/-- The end of bin `k`. -/
def lst (p r k : Nat) : Nat := lo p r + ((k + 1) * len p r + 7) / 8

/-- The position lies in the map and the extent is that of a region. -/
def InMap (p r : Nat) : Prop := p < 64 ∧ 4 ≤ r ∧ r < 41

section numbers
variable {p r : Nat} (h : InMap p r)
include h

theorem lo_le_hi : lo p r + 2 ≤ hi p r := by
  obtain ⟨h1, h2, h3⟩ := h; unfold lo hi; split <;> omega

theorem hi_le : hi p r ≤ 64 := by
  obtain ⟨h1, h2, h3⟩ := h; unfold hi; split <;> omega

theorem len_le : len p r ≤ 40 := by
  obtain ⟨h1, h2, h3⟩ := h; unfold len lo hi; split <;> omega

theorem lo_lt : lo p r < 64 := by
  obtain ⟨h1, h2, h3⟩ := h; unfold lo; omega

theorem lo_add_len : lo p r + len p r = hi p r := by
  have := lo_le_hi h; unfold len; omega

/-- No bin is empty, each is at most six wide and ends within the map. -/
theorem bin_bounds {k : Nat} (hk : k < 8) : fst p r k < lst p r k ∧ lst p r k ≤ fst p r k + 6 ∧ lst p r k ≤ 64 := by
  have h1 := lo_add_len h
  have h2 := hi_le h
  have h3 := len_le h
  have h4 := lo_le_hi h
  unfold fst lst
  generalize len p r = n at *
  generalize lo p r = a at *
  have : k = 0 ∨ k = 1 ∨ k = 2 ∨ k = 3 ∨ k = 4 ∨ k = 5 ∨ k = 6 ∨ k = 7 := by omega
  rcases this with rfl | rfl | rfl | rfl | rfl | rfl | rfl | rfl <;> omega

end numbers

/-! ## The words -/

theorem slt_iff {x y : BitVec 32} (hx : x.toNat < 2 ^ 31) (hy : y.toNat < 2 ^ 31) : x.slt y = true ↔ x.toNat < y.toNat := by
  rw [BitVec.slt_iff_toInt_lt, BitVec.toInt_eq_toNat_cond, BitVec.toInt_eq_toNat_cond]
  split <;> split <;> omega

theorem shr_toNat (x y : BitVec 32) (hy : y.toNat < 32) : (Scalar.shrui x y).toNat = x.toNat / 2 ^ y.toNat := by
  unfold Scalar.shrui IntOp.shrui
  rw [if_pos hy, BitVec.ushiftRight_eq', BitVec.toNat_ushiftRight, Nat.shiftRight_eq_div_pow]

theorem add_toNat {x y : BitVec 32} (h : x.toNat + y.toNat < 2 ^ 32) : (Scalar.addi x y).toNat = x.toNat + y.toNat := by
  show (x + y).toNat = _
  rw [BitVec.toNat_add]; omega

theorem sub_toNat {x y : BitVec 32} (h : y.toNat ≤ x.toNat) : (Scalar.subi x y).toNat = x.toNat - y.toNat := by
  show (x - y).toNat = _
  have := x.isLt; have := y.isLt
  rw [BitVec.toNat_sub]; omega

theorem mul_toNat {x y : BitVec 32} (h : x.toNat * y.toNat < 2 ^ 32) : (Scalar.muli x y).toNat = x.toNat * y.toNat := by
  show (x * y).toNat = _
  rw [BitVec.toNat_mul, Nat.mod_eq_of_lt h]

/-- The first coordinate covered, as a word. -/
def loW (p r : BitVec 32) : BitVec 32 := Scalar.maxsi (Scalar.subi p (Scalar.shrui r 1#32)) 0#32
/-- How many are covered, as a word. -/
def lenW (p r : BitVec 32) : BitVec 32 :=
  Scalar.subi (Scalar.select (Scalar.cmpi .sgt (Scalar.addi p (Scalar.shrui r 1#32)) 64#32) 63#32 (Scalar.addi p (Scalar.shrui r 1#32))) (loW p r)

section words
variable {p r : BitVec 32} (h : InMap p.toNat r.toNat)
include h

theorem half_toNat : (Scalar.shrui r 1#32).toNat = r.toNat / 2 := by
  rw [shr_toNat r 1#32 (by decide)]; rfl

theorem loW_toNat : (loW p r).toNat = lo p.toNat r.toNat := by
  have hh := half_toNat h
  obtain ⟨h1, h2, h3⟩ := h
  unfold loW lo
  generalize Scalar.shrui r 1#32 = s at *
  show (if (0#32).slt (Scalar.subi p s) then Scalar.subi p s else 0#32).toNat = _
  by_cases hc : s.toNat ≤ p.toNat
  · have e := sub_toNat hc
    by_cases h0 : (0#32).slt (Scalar.subi p s) = true
    · rw [if_pos h0, e, hh]
    · rw [if_neg h0]
      rw [slt_iff (by decide) (by omega)] at h0
      simp only [BitVec.toNat_ofNat, Nat.zero_mod] at *
      omega
  · have hz : p.toNat - r.toNat / 2 = 0 := by omega
    rw [if_neg, hz]
    · rfl
    · rw [BitVec.slt_iff_toInt_lt]
      have e : (Scalar.subi p s).toNat = 2 ^ 32 + p.toNat - s.toNat := by
        show (p - s).toNat = _
        rw [BitVec.toNat_sub]; omega
      rw [BitVec.toInt_eq_toNat_cond, BitVec.toInt_eq_toNat_cond, e, show (0#32 : BitVec 32).toNat = 0 from rfl]
      split <;> split <;> omega

theorem hiW_toNat : (Scalar.select (Scalar.cmpi .sgt (Scalar.addi p (Scalar.shrui r 1#32)) 64#32) 63#32 (Scalar.addi p (Scalar.shrui r 1#32)) : BitVec 32).toNat
    = hi p.toNat r.toNat := by
  have hh := half_toNat h
  obtain ⟨h1, h2, h3⟩ := h
  unfold hi
  generalize Scalar.shrui r 1#32 = s at *
  have e := add_toNat (x := p) (y := s) (by omega)
  rw [← hh, ← e]
  generalize Scalar.addi p s = q at *
  show (if BitVec.ofBool ((64#32).slt q) = 1#1 then (63#32 : BitVec 32) else q).toNat = _
  have hs := slt_iff (x := 64#32) (y := q) (by decide) (by omega)
  by_cases hc : (64#32).slt q = true
  · have : 64 < q.toNat := by simpa using hs.mp hc
    rw [if_pos this, hc]; rfl
  · have hn : ¬ 64 < q.toNat := fun h' => hc (hs.mpr (by simpa using h'))
    rw [if_neg hn]
    simp only [Bool.not_eq_true] at hc
    rw [hc]; rfl

theorem lenW_toNat : (lenW p r).toNat = len p.toNat r.toNat := by
  have e1 := loW_toNat h
  have e2 := hiW_toNat h
  have := lo_le_hi h
  unfold lenW len
  rw [sub_toNat (by omega), e1, e2]

/-- The first coordinate of bin `k`, as a word. -/
theorem fstW_toNat {k : Nat} (hk : k < 9) :
    (Scalar.addi (loW p r) (Scalar.shrui (Scalar.muli (BitVec.ofNat 32 k) (lenW p r)) 3#32)).toNat = fst p.toNat r.toNat k := by
  have e1 := loW_toNat h
  have e2 := lenW_toNat h
  have h3 := len_le h
  have h4 := lo_lt h
  have ek : (BitVec.ofNat 32 k).toNat = k := by rw [BitVec.toNat_ofNat]; omega
  have hm : k * len p.toNat r.toNat ≤ 8 * 40 := Nat.mul_le_mul (by omega) h3
  have em : (Scalar.muli (BitVec.ofNat 32 k) (lenW p r)).toNat = k * len p.toNat r.toNat := by
    rw [mul_toNat (by rw [ek, e2]; omega), ek, e2]
  have es : (Scalar.shrui (Scalar.muli (BitVec.ofNat 32 k) (lenW p r)) 3#32).toNat = k * len p.toNat r.toNat / 8 := by
    rw [shr_toNat _ _ (by decide), em]; rfl
  unfold fst
  rw [add_toNat (by rw [e1, es]; omega), e1, es]

/-- The end of bin `k`, as a word. -/
theorem lstW_toNat {k : Nat} (hk : k < 8) :
    (Scalar.addi (loW p r) (Scalar.shrui (Scalar.addi (Scalar.muli (BitVec.ofNat 32 (k + 1)) (lenW p r)) 7#32) 3#32)).toNat = lst p.toNat r.toNat k := by
  have e1 := loW_toNat h
  have e2 := lenW_toNat h
  have h3 := len_le h
  have h4 := lo_lt h
  have ek : (BitVec.ofNat 32 (k + 1)).toNat = k + 1 := by rw [BitVec.toNat_ofNat]; omega
  have hm : (k + 1) * len p.toNat r.toNat ≤ 8 * 40 := Nat.mul_le_mul (by omega) h3
  have em : (Scalar.muli (BitVec.ofNat 32 (k + 1)) (lenW p r)).toNat = (k + 1) * len p.toNat r.toNat := by
    rw [mul_toNat (by rw [ek, e2]; omega), ek, e2]
  have ea : (Scalar.addi (Scalar.muli (BitVec.ofNat 32 (k + 1)) (lenW p r)) 7#32).toNat = (k + 1) * len p.toNat r.toNat + 7 := by
    rw [add_toNat (by rw [em]; show _ + 7 < _; omega), em]; rfl
  have es : (Scalar.shrui (Scalar.addi (Scalar.muli (BitVec.ofNat 32 (k + 1)) (lenW p r)) 7#32) 3#32).toNat = ((k + 1) * len p.toNat r.toNat + 7) / 8 := by
    rw [shr_toNat _ _ (by decide), ea]; rfl
  unfold lst
  rw [add_toNat (by rw [e1, es]; omega), e1, es]

end words

end Cert.Spans
-- ==== Proof.KernelPoint.lean ====
/-
  One point of the grid.

  Under regions whose words lie in range, the body of a point passes its checks and leaves the bins of its
  32 regions in the output block. At the first point of a row of the grid it fills the table first; at the
  others it finds it filled.
-/
module

public import proofs.«01_k».proof.Proof.KernelRegion
public import proofs.«01_k».proof.Proof.KernelBody
public import proofs.«01_k».proof.Proof.Spans

@[expose] public section

noncomputable section

namespace Cert.Kernel

open Idealize.ShloMosaic Idealize.ShloMosaic.ValueIdx Idealize.ShloMosaic.VecWindow
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.OwnRules Cert.Spans

variable {F : FTy → Type} [FloatOps F]
variable [Facts]
open Facts₀ Facts

/-! ## Where the words lie -/

/-- The number of region `b` of a point. -/
def roi (i : grid0.Coords) (b : Nat) : Nat := ((i 0).val * 8 + (i 1).val) * 32 + b

theorem roi_lt (i : grid0.Coords) {b : Nat} (hb : b < 32) : roi i b < 512 := by
  have h0 : (i 0).val < 2 := (i 0).isLt
  have h1 : (i 1).val < 8 := (i 1).isLt
  unfold roi; omega

theorem base_toNat (i : grid0.Coords) {b : Nat} (hb : b < 32) : (base i b).toNat = roi i b * 4 := by
  have h0 : (i 0).val < 2 := (i 0).isLt
  have h1 : (i 1).val < 8 := (i 1).isLt
  unfold base roi
  have e0 : (BitVec.ofNat 32 (i 0).val).toNat = (i 0).val := by rw [BitVec.toNat_ofNat]; omega
  have e1 : (BitVec.ofNat 32 (i 1).val).toNat = (i 1).val := by rw [BitVec.toNat_ofNat]; omega
  have eb : (BitVec.ofNat 32 b).toNat = b := by rw [BitVec.toNat_ofNat]; omega
  have m0 := mul_toNat (x := BitVec.ofNat 32 (i 0).val) (y := 8#32) (by rw [e0]; show _ * 8 < _; omega)
  rw [e0, show (8#32 : BitVec 32).toNat = 8 from rfl] at m0
  have a0 := add_toNat (x := Scalar.muli (BitVec.ofNat 32 (i 0).val) 8#32) (y := BitVec.ofNat 32 (i 1).val) (by rw [m0, e1]; omega)
  rw [m0, e1] at a0
  have m1 := mul_toNat (x := Scalar.addi (Scalar.muli (BitVec.ofNat 32 (i 0).val) 8#32) (BitVec.ofNat 32 (i 1).val)) (y := 32#32)
    (by rw [a0]; show _ * 32 < _; omega)
  rw [a0, show (32#32 : BitVec 32).toNat = 32 from rfl] at m1
  have a1 := add_toNat (x := Scalar.muli (Scalar.addi (Scalar.muli (BitVec.ofNat 32 (i 0).val) 8#32) (BitVec.ofNat 32 (i 1).val)) 32#32)
    (y := BitVec.ofNat 32 b) (by rw [m1, eb]; omega)
  rw [m1, eb] at a1
  rw [mul_toNat (by rw [a1]; show _ * 4 < _; omega), a1]; rfl

theorem offFst_eq (i : grid0.Coords) {b : Nat} (hb : b < 32) : offFst i b 0 = roi i b * 4 := base_toNat i hb

theorem offWord_eq (i : grid0.Coords) {b k : Nat} (hb : b < 32) (hk : k < 4) : offWord i b k 0 = roi i b * 4 + k := by
  have e := base_toNat i hb
  have hr := roi_lt i hb
  have ek : (BitVec.ofNat 32 k).toNat = k := by rw [BitVec.toNat_ofNat]; omega
  show (Scalar.addi (base i b) (BitVec.ofNat 32 k)).toNat = _
  rw [add_toNat (by rw [e, ek]; omega), e, ek]

theorem inb_fst (i : grid0.Coords) : ∀ b, b < 32 → ∀ a, offFst i b a + S1.size a ≤ S2048.size a := fun b hb a => by
  obtain rfl : a = 0 := Subsingleton.elim _ _
  have := roi_lt i hb
  rw [offFst_eq i hb]; show roi i b * 4 + 1 ≤ 2048; omega

theorem inb_word (i : grid0.Coords) : ∀ b, b < 32 → ∀ k, k < 4 → ∀ a, offWord i b k a + S1.size a ≤ S2048.size a := fun b hb k hk a => by
  obtain rfl : a = 0 := Subsingleton.elim _ _
  have := roi_lt i hb
  rw [offWord_eq i hb hk]; show roi i b * 4 + k + 1 ≤ 2048; omega

/-! ## The checks -/

/-- Every region of the table of words lies in range. -/
def WordsIn (W : Vec F S2048 .i32) : Prop := ∀ r : Fin 512,
  InMap (W (ix1 (⟨r.val * 4, by omega⟩ : Fin 2048)) : BitVec 32).toNat (W (ix1 (⟨r.val * 4 + 2, by omega⟩ : Fin 2048)) : BitVec 32).toNat
  ∧ InMap (W (ix1 (⟨r.val * 4 + 1, by omega⟩ : Fin 2048)) : BitVec 32).toNat (W (ix1 (⟨r.val * 4 + 3, by omega⟩ : Fin 2048)) : BitVec 32).toNat

theorem wordAt_eq (W : Vec F S2048 .i32) (off : Fin 1 → Nat) {n : Nat} (h : off 0 = n) (hn : n < 2048) :
    wordAt W off = W (ix1 (⟨n, hn⟩ : Fin 2048)) := by
  unfold wordAt
  exact congrArg (fun z : Fin 2048 => W (ix1 z)) (Fin.ext (by show min (off 0) 2047 = n; omega))

section words
variable (W : Vec F S2048 .i32) (i : grid0.Coords) {b : Nat} (hb : b < 32)
include hb

theorem roiY_eq : roiY W i b = W (ix1 (⟨roi i b * 4, by have := roi_lt i hb; omega⟩ : Fin 2048)) :=
  wordAt_eq W _ (offFst_eq i hb) _
theorem roiX_eq : roiX W i b = W (ix1 (⟨roi i b * 4 + 1, by have := roi_lt i hb; omega⟩ : Fin 2048)) :=
  wordAt_eq W _ (offWord_eq i hb (by omega)) _
theorem roiH_eq : roiH W i b = W (ix1 (⟨roi i b * 4 + 2, by have := roi_lt i hb; omega⟩ : Fin 2048)) :=
  wordAt_eq W _ (offWord_eq i hb (by omega)) _
theorem roiW_eq : roiW W i b = W (ix1 (⟨roi i b * 4 + 3, by have := roi_lt i hb; omega⟩ : Fin 2048)) :=
  wordAt_eq W _ (offWord_eq i hb (by omega)) _

theorem roi_rows (h : WordsIn W) : InMap (roiY W i b).toNat (roiH W i b).toNat := by
  rw [roiY_eq W i hb, roiH_eq W i hb]; exact (h ⟨roi i b, roi_lt i hb⟩).1
theorem roi_cols (h : WordsIn W) : InMap (roiX W i b).toNat (roiW W i b).toNat := by
  rw [roiX_eq W i hb, roiW_eq W i hb]; exact (h ⟨roi i b, roi_lt i hb⟩).2

end words

section checks
variable {p r : BitVec 32} (h : InMap p.toNat r.toNat)
include h

/-- A bin of the columns is read at its width less one. -/
theorem off3_fst {j : Nat} (hj : j < 8) : k0_off3 p r (BitVec.ofNat 32 (j + 1)) (BitVec.ofNat 32 j) 0
    = lst p.toNat r.toNat j - fst p.toNat r.toNat j - 1 := by
  have e1 := fstW_toNat h (k := j) (by omega)
  have e2 := lstW_toNat h hj
  have hb := bin_bounds h hj
  show (Scalar.subi (Scalar.subi (Scalar.addi (loW p r) (Scalar.shrui (Scalar.addi (Scalar.muli (BitVec.ofNat 32 (j + 1)) (lenW p r)) 7#32) 3#32))
    (Scalar.addi (loW p r) (Scalar.shrui (Scalar.muli (BitVec.ofNat 32 j) (lenW p r)) 3#32))) 1#32).toNat = _
  have e3 := sub_toNat (x := Scalar.addi (loW p r) (Scalar.shrui (Scalar.addi (Scalar.muli (BitVec.ofNat 32 (j + 1)) (lenW p r)) 7#32) 3#32))
    (y := Scalar.addi (loW p r) (Scalar.shrui (Scalar.muli (BitVec.ofNat 32 j) (lenW p r)) 3#32)) (by rw [e1, e2]; omega)
  rw [e1, e2] at e3
  rw [sub_toNat (by rw [e3]; show 1 ≤ _; omega), e3]; rfl

/-- And at its start. -/
theorem off3_snd {j : Nat} (hj : j < 8) : k0_off3 p r (BitVec.ofNat 32 (j + 1)) (BitVec.ofNat 32 j) 1 = fst p.toNat r.toNat j :=
  fstW_toNat h (k := j) (by omega)

theorem chk1 : k0_chk1 p r := by
  intro j a
  rw [off3_at_eq j]
  have hb := bin_bounds h j.isLt
  match a with
  | ⟨0, _⟩ => show k0_off3 p r _ _ 0 + 1 ≤ 6; rw [off3_fst h j.isLt]; omega
  | ⟨1, _⟩ => show k0_off3 p r _ _ 1 + 1 ≤ 64; rw [off3_snd h j.isLt]; omega
  | ⟨2, _⟩ => exact Nat.le_refl 64
  | ⟨3, _⟩ => exact Nat.le_refl 256

theorem rowLo_toNat {k : Nat} (hk : k < 8) : (rowLo p r k).toNat = fst p.toNat r.toNat k := by
  show (Scalar.subi (Scalar.addi (loW p r) (Scalar.shrui (Scalar.muli (BitVec.ofNat 32 k) (lenW p r)) 3#32)) 0#32).toNat = _
  rw [sub_toNat (by show 0 ≤ _; omega), fstW_toNat h (by omega)]; rfl

theorem rowHi_toNat {k : Nat} (hk : k < 8) : (rowHi p r k).toNat = lst p.toNat r.toNat k := by
  show (Scalar.subi (Scalar.addi (loW p r) (Scalar.shrui (Scalar.addi (Scalar.muli (BitVec.ofNat 32 (k + 1)) (lenW p r)) 7#32) 3#32)) 0#32).toNat = _
  rw [sub_toNat (by show 0 ≤ _; omega), lstW_toNat h hk]; rfl

theorem rowWin_toNat {k : Nat} (hk : k < 8) : (rowWin p r k).toNat = min (fst p.toNat r.toNat k) 56 := by
  have e := rowLo_toNat h hk
  have hb := bin_bounds h hk
  show (if (rowLo p r k).slt 56#32 then rowLo p r k else 56#32).toNat = _
  have hs := slt_iff (x := rowLo p r k) (y := 56#32) (by omega) (by decide)
  rw [e, show (56#32 : BitVec 32).toNat = 56 from rfl] at hs
  by_cases hc : (rowLo p r k).slt 56#32 = true
  · rw [if_pos hc, e]; have := hs.mp hc; omega
  · rw [if_neg hc]; show 56 = _; have : ¬ fst p.toNat r.toNat k < 56 := fun h' => hc (hs.mpr h'); omega

/-- The rows of a bin are read at its start, or as near to it as eight rows fit. -/
theorem off4_fst {k : Nat} (hk : k < 8) : k0_off4 p r (BitVec.ofNat 32 k) 0 = min (fst p.toNat r.toNat k) 56 :=
  rowWin_toNat h hk

theorem chk2 : k0_chk2 p r := by
  intro k a
  match a with
  | ⟨0, _⟩ => show k0_off4 p r _ 0 + 8 ≤ 64; rw [off4_fst h k.isLt]; omega
  | ⟨1, _⟩ => exact Nat.le_refl 8
  | ⟨2, _⟩ => exact Nat.le_refl 256

end checks

/-! ## The point -/

section triples

variable {U : Type} [URA U]

local notation "𝕄" => MT nD τ sig Unit (Elt F) ℕ U ℕ

variable {defs : Defs nD τ sig (Elt F) Λ₀} (𝒱 : Variants) (dev : Dev nD) (bd : Option 𝒱.V) (E : Set ℕ)
variable (i : grid0.Coords)
variable (arg2 : Memref sig .tc .smem S2048 .i32) (harg2 : arg2.IsWhole)
variable (arg3 : Memref sig .tc .vmem S64x64x256 .bf16) (harg3 : arg3.IsWhole)
variable (arg4 : Memref sig .tc .vmem S32x8x8x256 .f32) (harg4 : arg4.IsWhole)
variable (arg5 : Memref sig .tc .vmem S6x64x64x256 .bf16) (harg5 : arg5.IsWhole)
variable (arg6 : Memref sig .tc .vmem S8x64x256 .bf16) (harg6 : arg6.IsWhole)
variable (arg7 : Memref sig .tc .vmem S64x8x256 .bf16) (harg7 : arg7.IsWhole)
variable (q2 : PosShare TreeShare) (W : Vec F S2048 .i32) (V : Vec F S64x64x256 .bf16)

/-- The output block a point leaves: entry `(b, k, j, c)` is bin `(k, j)` of its region `b` at channel `c`. -/
def block (V : Vec F S64x64x256 .bf16) (W : Vec F S2048 .i32) (i : grid0.Coords) : Vec F S32x8x8x256 .f32 :=
  fun z => pointVal V W i (z 0).val (z 1).val (ix2 (z 2 : Fin 8) (z 3 : Fin 256))

theorem OutUpto.all {O : Vec F S32x8x8x256 .f32} (h : OutUpto (pointVal V W i) O 256) : O = block V W i := by
  funext z
  obtain ⟨b, k, j, c, rfl⟩ : ∃ (b : Fin 32) (k j : Fin 8) (c : Fin 256), z = ix4 b k j c := ⟨z 0, z 1, z 2, z 3, eq_ix4 z⟩
  exact h b k j c (by omega)

/-- Before a point: the table of words and the map, the output block and the scratch at anything; the table of
    maxima filled up to `p`. -/
def PointHeld (p : Nat) : sProp 𝕄 :=
  iprop(owns (dev : Thread nD τ) arg2 q2 W ∗ owns (dev : Thread nD τ) arg3 fullShare V
    ∗ (∃ O, owns (dev : Thread nD τ) arg4 fullShare O) ∗ (∃ T, ⌜Upto V T p⌝ ∗ owns (dev : Thread nD τ) arg5 fullShare T)
    ∗ (∃ C, owns (dev : Thread nD τ) arg6 fullShare C) ∗ (∃ D, owns (dev : Thread nD τ) arg7 fullShare D))

/-- After it: the table of maxima filled and the output block computed. -/
def PointLeft : sProp 𝕄 :=
  iprop(owns (dev : Thread nD τ) arg2 q2 W ∗ owns (dev : Thread nD τ) arg3 fullShare V
    ∗ owns (dev : Thread nD τ) arg4 fullShare (block V W i) ∗ (∃ T, ⌜Upto V T 384⌝ ∗ owns (dev : Thread nD τ) arg5 fullShare T)
    ∗ (∃ C, owns (dev : Thread nD τ) arg6 fullShare C) ∗ (∃ D, owns (dev : Thread nD τ) arg7 fullShare D))

/-- The regions of a point, from a filled table. -/
theorem runs_point (n : Nat) (hn : n ≤ 32) (hall : n = 32) (hin : WordsIn W) {R : sProp 𝕄} {Q : PUnit → sProp 𝕄}
    (hQ : iprop(PointLeft dev i arg2 arg3 arg4 arg5 arg6 arg7 q2 W V ∗ R) ⊢ |={E}=> Q ⟨⟩) :
    iprop(PointHeld dev arg2 arg3 arg4 arg5 arg6 arg7 q2 W V 384 ∗ R) ⊢ wp frame (wpE defs 𝒱 (dev : Thread nD τ) bd) E
      (regions i arg2 arg4 arg5 arg6 harg6 arg7 harg7 (inb_fst i) (inb_word i) n hn (.ret ⟨⟩)) Q := by
  have hrun := runs_regions (R := iprop(owns (dev : Thread nD τ) arg3 fullShare V ∗ R)) (Q := Q) (defs := defs) (q2 := q2) (W := W) (K := .ret ⟨⟩)
    𝒱 dev bd E i arg2 arg4 arg5 arg6 harg6 arg7 harg7 V (inb_fst i) (inb_word i)
    (fun b hb => chk2 (roi_rows W i hb hin)) (fun b hb => chk1 (roi_cols W i hb hin))
    (fun x rw pc pd => by
      unfold RunsReg RegHeld
      iintro ⟨⟨HT, ⟨%C, -, HC⟩, ⟨%D, -, HD⟩, ⟨%O, %hO, HO⟩⟩, ⟨⟨HV, HR⟩, HW⟩⟩
      rw [OutUpto.all i W V hO, wp_ret]
      iapply hQ
      unfold PointLeft
      isplitr [HR]
      · isplitl [HW]; · iexact HW
        isplitl [HV]; · iexact HV
        isplitl [HO]; · iexact HO
        isplitl [HT]; · iexact HT
        isplitl [HC]; · iexists C; iexact HC
        iexists D; iexact HD
      iexact HR) n hn 0#32 0#32 0 0
  rw [show 8 * (32 - n) = 0 by omega] at hrun
  unfold RunsReg at hrun
  refine BIBase.Entails.trans ?_ hrun
  unfold RegHeld PointHeld
  iintro ⟨⟨HW, HV, ⟨%O, HO⟩, HT, ⟨%C, HC⟩, ⟨%D, HD⟩⟩, HR⟩
  isplitr [HW HV HR]
  · isplitl [HT]; · iexact HT
    isplitl [HC]; · iexists C; isplitr; · ipureintro; exact fun _ _ _ h => absurd h (by omega)
                    iexact HC
    isplitl [HD]; · iexists D; isplitr; · ipureintro; exact fun _ _ _ h => absurd h (by omega)
                    iexact HD
    iexists O; isplitr; · ipureintro; exact fun _ _ _ _ h => absurd h (by omega)
    iexact HO
  isplitr [HW]
  · isplitl [HV]; · iexact HV
    iexact HR
  iexact HW

/-- The same of any program equal to the regions of a point. -/
theorem runs_eq (prog : Body F PUnit) (hp : prog = regions i arg2 arg4 arg5 arg6 harg6 arg7 harg7 (inb_fst i) (inb_word i) 32 (by omega) (.ret ⟨⟩))
    (hin : WordsIn W) {R : sProp 𝕄} {Q : PUnit → sProp 𝕄}
    (hQ : iprop(PointLeft dev i arg2 arg3 arg4 arg5 arg6 arg7 q2 W V ∗ R) ⊢ |={E}=> Q ⟨⟩) :
    iprop(PointHeld dev arg2 arg3 arg4 arg5 arg6 arg7 q2 W V 384 ∗ R) ⊢ wp frame (wpE defs 𝒱 (dev : Thread nD τ) bd) E prog Q := by
  obtain ⟨n, hall⟩ : ∃ n : Nat, n = 32 := ⟨_, rfl⟩
  have hn : n ≤ 32 := by omega
  have hp' : prog = regions i arg2 arg4 arg5 arg6 harg6 arg7 harg7 (inb_fst i) (inb_word i) n hn (.ret ⟨⟩) := by
    subst hall; exact hp
  rw [hp']
  exact runs_point 𝒱 dev bd E i arg2 arg3 arg4 arg5 arg6 harg6 arg7 harg7 q2 W V n hn hall hin hQ

/-- The body of a point that fills the table. -/
theorem wp_first (h : atFirst i = 1#1) (hin : WordsIn W) {R : sProp 𝕄} {Q : PUnit → sProp 𝕄}
    (hQ : iprop(PointLeft dev i arg2 arg3 arg4 arg5 arg6 arg7 q2 W V ∗ R) ⊢ |={E}=> Q ⟨⟩) :
    iprop(PointHeld dev arg2 arg3 arg4 arg5 arg6 arg7 q2 W V 0 ∗ R) ⊢ wp frame (wpE defs 𝒱 (dev : Thread nD τ) bd) E
      (cc0_roi_pool i arg2 harg2 arg3 harg3 arg4 harg4 arg5 harg5 arg6 harg6 arg7 harg7) Q := by
  have hb := body_first (F := F) i arg2 harg2 arg3 harg3 arg4 harg4 arg5 harg5 arg6 harg6 arg7 harg7 (inb_fst i) (inb_word i) h
  generalize hp : regions (F := F) i arg2 arg4 arg5 arg6 harg6 arg7 harg7 (inb_fst i) (inb_word i) 32 (by omega) (.ret PUnit.unit) = prog at hb
  rw [hb]
  have hrun := runs_tableSteps (Q := Q) (defs := defs) 𝒱 dev bd E arg3 arg5 harg5 fullShare V
    (R := iprop(owns (dev : Thread nD τ) arg2 q2 W ∗ (∃ O, owns (dev : Thread nD τ) arg4 fullShare O)
      ∗ (∃ C, owns (dev : Thread nD τ) arg6 fullShare C) ∗ (∃ D, owns (dev : Thread nD τ) arg7 fullShare D) ∗ R))
    (K := prog)
    (by
      refine BIBase.Entails.trans ?_ (runs_eq 𝒱 dev bd E i arg2 arg3 arg4 arg5 arg6 harg6 arg7 harg7 q2 W V prog hp.symm hin hQ)
      unfold TabHeld PointHeld
      iintro ⟨⟨HV, HT⟩, HW, HO, HC, HD, HR⟩
      isplitr [HR]
      · isplitl [HW]; · iexact HW
        isplitl [HV]; · iexact HV
        isplitl [HO]; · iexact HO
        isplitl [HT]; · iexact HT
        isplitl [HC]; · iexact HC
        iexact HD
      iexact HR)
  unfold RunsFrom at hrun
  refine BIBase.Entails.trans ?_ hrun
  unfold TabHeld PointHeld
  iintro ⟨⟨HW, HV, HO, HT, HC, HD⟩, HR⟩
  isplitl [HV HT]
  · isplitl [HV]; · iexact HV
    iexact HT
  isplitl [HW]; · iexact HW
  isplitl [HO]; · iexact HO
  isplitl [HC]; · iexact HC
  isplitl [HD]; · iexact HD
  iexact HR

/-- The body of a point that finds it filled. -/
theorem wp_later (h : ¬ atFirst i = 1#1) (hin : WordsIn W) {R : sProp 𝕄} {Q : PUnit → sProp 𝕄}
    (hQ : iprop(PointLeft dev i arg2 arg3 arg4 arg5 arg6 arg7 q2 W V ∗ R) ⊢ |={E}=> Q ⟨⟩) :
    iprop(PointHeld dev arg2 arg3 arg4 arg5 arg6 arg7 q2 W V 384 ∗ R) ⊢ wp frame (wpE defs 𝒱 (dev : Thread nD τ) bd) E
      (cc0_roi_pool i arg2 harg2 arg3 harg3 arg4 harg4 arg5 harg5 arg6 harg6 arg7 harg7) Q :=
  runs_eq 𝒱 dev bd E i arg2 arg3 arg4 arg5 arg6 harg6 arg7 harg7 q2 W V _
    (body_later i arg2 harg2 arg3 harg3 arg4 harg4 arg5 harg5 arg6 harg6 arg7 harg7 (inb_fst i) (inb_word i) h) hin hQ

end triples

end Cert.Kernel
-- ==== Proof.KernelRun.lean ====
/-
  The run of the kernel's program.

  The host turns the map and flattens the table of regions; the grid's points each leave their block of 32
  regions; the host turns the result. Between the points the table of maxima stays filled. From any memory
  whose regions lie in range, the run ends with the arguments as they were, the counters at zero and the
  result array at the turned blocks.
-/
module

public import proofs.«01_k».proof.Proof.KernelPoint
public import proofs.«01_k».proof.Proof.Gen.Kernel.Launch
public import Idealize.ShloMosaic.Lib.Pipeline.FrameSuffix
public import Idealize.ShloMosaic.Lib.Pipeline.FrameBody
public import Idealize.ShloMosaic.Lib.Pipeline.ValueKit
public import Idealize.ShloMosaic.Lib.Pipeline.Covers

@[expose] public section

noncomputable section

namespace Cert.Kernel

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

attribute [local instance] Cert.Kernel.Gen.facts

local notation "𝕄" => MT nD τ sig Unit (Elt F) ℕ (UR sig nD τ) ℕ

variable (m : (ℓ : Loc nD τ sig) → Buf (Elt F) ℓ) (g : Dev nD → PrngReg)

/-! ## At the region's entry -/

/-- Core `c`'s buffers when the region is entered: the host's three operations have run. -/
def V₀ (c : Dev nD) : Valuation τ sig (Elt F) := StableHlo.after [hostOps0].flatten (fun b => m (c, b))

/-- The map, turned. -/
def turned (c : Dev nD) : Vec F S64x64x256 .bf16 := V₀ m c (Proc.devRef .tc main_v1)
/-- The table of regions, flat. -/
def flat (c : Dev nD) : Vec F S2048 .i32 := V₀ m c (Proc.devRef .tc main_v2)

theorem turned_eq (c : Dev nD) : turned m c
    = (truncf .bf16 (transpose S64x64x256 [2, 1, 0] (m ((c : Thread nD τ).loc main_arg0) : FVec F S256x64x64 .f32) transposes_S256x64x64_S64x64x256_2_1_0 : FVec F S64x64x256 .f32) bitsLt_bf16_f32 : FVec F S64x64x256 .bf16) := by
  rfl

theorem flat_eq (c : Dev nD) : flat m c
    = (shapeCast S2048 (m ((c : Thread nD τ).loc main_arg1) : IVec S512x4 32) shapeCasts_S512x4_S2048 : IVec S2048 32) := by
  rfl

/-- The prefetched tables' contents. -/
def adm (p : Fin 1) : (pcfgs (F := F) p).Adm := ⟨fun k => V₀ m 0 (Proc.devRef .tc (pre0.ref k)), trivial⟩

/-- What the body's invariant holds before point `n`: the table of words, the scratch, the generator's register;
    once a point has run, the table of maxima filled. -/
def inv (c : Dev nD) (n : Nat) : sProp 𝕄 :=
  iprop(Pipeline.ΦT (U := UR sig nD τ) pre0 (adm m 0).1 c
    ∗ (∃ T : Vec F S6x64x64x256 .bf16, ⌜Upto (turned m c) T (if n = 0 then 0 else 384)⌝ ∗ owns (c : Thread nD τ) (Memref.whole cc0_scratch0) fullShare T)
    ∗ (∃ C : Vec F S8x64x256 .bf16, owns (c : Thread nD τ) (Memref.whole cc0_scratch1) fullShare C)
    ∗ (∃ D : Vec F S64x8x256 .bf16, owns (c : Thread nD τ) (Memref.whole cc0_scratch2) fullShare D)
    ∗ ∃ r, prngReg c r)

/-- The proof data: the arrays at their entry contents; the map's buffer left as fetched, the result's at the
    point's block. -/
def dats (p : Fin 1) (c : Dev nD) : Dat τ (Elt F) Unit ℕ (UR sig nD τ) ℕ (Pipeline.pin (pcfgs (F := F)) (adm m) p) c where
  A w := V₀ m c (Proc.devRef .tc (Pipeline.arrRef spec0 w))
  after w t := match w with
    | ⟨0, _⟩ => turned m c
    | ⟨1, _⟩ => block (turned m c) (flat m c) (grid0.coords t)
    | ⟨_ + 2, h⟩ => absurd h (Nat.not_lt.2 (Nat.le_add_left _ _))
  Φ t := inv m c t.val
  q _ := fullShare
  owed _ := 0

abbrev 𝒱₀ : Variants := Variants.none

theorem map_block (c : Dev nD) (t : Fin grid0.N) : (dats m 0 c).blockOf 0 t = turned m c := by
  funext y
  show turned m c (((win0 (adm m 0) 0).blk t).view.emb y) = turned m c y
  congr 1
  funext a; apply Fin.ext
  refine ((win0 (adm m 0) 0).rect_emb_val t y a).trans ?_
  have h0 : (win0 (adm m 0) 0).index t a = 0 := by fin_cases a <;> rfl
  rw [h0, Nat.zero_mul, Nat.zero_add]

theorem before_map (c : Dev nD) (t : Fin grid0.N) (d) : (dats m 0 c).before 0 t d = turned m c := by
  have h := (dats m 0 c).before_in_eq_fetched 0 rfl (fun _ => rfl) (fun _ _ _ => rfl) (fun t => (map_block m c t).symm) t d
  rw [h]; unfold Dat.fetched; rw [map_block]; rfl

theorem first_of_zero (t : Fin grid0.N) (h : ¬ atFirst (grid0.coords t) = 1#1) : t.val ≠ 0 := by
  intro h0
  obtain rfl : t = t0_0 := Fin.ext h0
  exact h (by decide)

/-- The tables at the body's disposal: one, the words. -/
theorem tables_eq (c : Dev nD) : (Pipeline.ΦT (U := UR sig nD τ) pre0 (adm m 0).1 c : sProp 𝕄)
    = owns (c : Thread nD τ) (Memref.whole main_v2) fullShare.right (flat m c) := by
  obtain rfl : c = 0 := Subsingleton.elim _ _
  rw [owns_whole]
  exact BI.bigSep_singleton

/-- The invariant and what the point finds, regrouped as the body's lemmas have it. -/
theorem held_of_inv (c : Dev nD) (n : Nat) (a3 : Memref sig .tc .vmem S64x64x256 .bf16) (a4 : Memref sig .tc .vmem S32x8x8x256 .f32) :
    iprop(inv m c n ∗ (∃ X, owes (c : Thread nD τ) (0 : CellTallies nD τ sig Unit) X) ∗ owns (c : Thread nD τ) a3 fullShare (turned m c) ∗ (∃ O, owns (c : Thread nD τ) a4 fullShare O))
      ⊢ iprop(PointHeld (F := F) (U := UR sig nD τ) c (Memref.whole main_v2) a3 a4 (Memref.whole cc0_scratch0) (Memref.whole cc0_scratch1) (Memref.whole cc0_scratch2) fullShare.right (flat m c) (turned m c) (if n = 0 then 0 else 384)
        ∗ ((∃ r, prngReg c r) ∗ ∃ X, owes (c : Thread nD τ) (0 : CellTallies nD τ sig Unit) X)) := by
  unfold PointHeld inv
  rw [tables_eq]
  iintro ⟨⟨HW, HT, HC, HD, Hr⟩, Ho, HV, HO⟩
  isplitl [HW HT HC HD HV HO]
  · isplitl [HW]; · iexact HW
    isplitl [HV]; · iexact HV
    isplitl [HO]; · iexact HO
    isplitl [HT]; · iexact HT
    isplitl [HC]; · iexact HC
    iexact HD
  isplitl [Hr]; · iexact Hr
  iexact Ho

theorem inv_of_left (c : Dev nD) (n : Nat) (t : Fin grid0.N) (a3 : Memref sig .tc .vmem S64x64x256 .bf16) (a4 : Memref sig .tc .vmem S32x8x8x256 .f32) :
    iprop(PointLeft (F := F) (U := UR sig nD τ) c (grid0.coords t) (Memref.whole main_v2) a3 a4 (Memref.whole cc0_scratch0) (Memref.whole cc0_scratch1) (Memref.whole cc0_scratch2) fullShare.right (flat m c) (turned m c)
      ∗ ((∃ r, prngReg c r) ∗ ∃ X, owes (c : Thread nD τ) (0 : CellTallies nD τ sig Unit) X))
      ⊢ iprop(inv m c (n + 1) ∗ (∃ X, owes (c : Thread nD τ) (0 : CellTallies nD τ sig Unit) X) ∗ owns (c : Thread nD τ) a3 fullShare (turned m c)
        ∗ owns (c : Thread nD τ) a4 fullShare (block (turned m c) (flat m c) (grid0.coords t))) := by
  unfold PointLeft inv
  rw [tables_eq, if_neg (Nat.succ_ne_zero _)]
  iintro ⟨⟨HW, HV, HO, HT, HC, HD⟩, Hr, Ho⟩
  isplitl [HW HT HC HD Hr]
  · isplitl [HW]; · iexact HW
    isplitl [HT]; · iexact HT
    isplitl [HC]; · iexact HC
    isplitl [HD]; · iexact HD
    iexact Hr
  isplitl [Ho]; · iexact Ho
  isplitl [HV]; · iexact HV
  iexact HO

/-- An unfilled table holds what it should of nothing. -/
theorem held_none (c : Dev nD) (a3 : Memref sig .tc .vmem S64x64x256 .bf16) (a4 : Memref sig .tc .vmem S32x8x8x256 .f32) (n : Nat) :
    iprop(PointHeld (F := F) (U := UR sig nD τ) c (Memref.whole main_v2) a3 a4 (Memref.whole cc0_scratch0) (Memref.whole cc0_scratch1) (Memref.whole cc0_scratch2) fullShare.right (flat m c) (turned m c) n)
      ⊢ PointHeld (F := F) (U := UR sig nD τ) c (Memref.whole main_v2) a3 a4 (Memref.whole cc0_scratch0) (Memref.whole cc0_scratch1) (Memref.whole cc0_scratch2) fullShare.right (flat m c) (turned m c) 0 := by
  unfold PointHeld
  iintro ⟨HW, HV, HO, ⟨%T, -, HT⟩, HC, HD⟩
  isplitl [HW]; · iexact HW
  isplitl [HV]; · iexact HV
  isplitl [HO]; · iexact HO
  isplitl [HT]
  · iexists T; isplitr; · ipureintro; exact fun _ _ _ _ h => absurd h (Nat.not_lt_zero _)
    iexact HT
  isplitl [HC]; · iexact HC
  iexact HD

/-- A point's run: the table of maxima built at the first point of each half, the block computed. -/
theorem point_runs (hin : ∀ c, WordsIn (flat m c)) (c : Dev nD) (t : Fin grid0.N) (a3 : Memref sig .tc .vmem S64x64x256 .bf16) (h3 : a3.IsWhole)
    (a4 : Memref sig .tc .vmem S32x8x8x256 .f32) (h4 : a4.IsWhole) {Q : PUnit → sProp 𝕄}
    (hQ : iprop(inv m c (t.val + 1) ∗ (∃ X, owes (c : Thread nD τ) (0 : CellTallies nD τ sig Unit) X) ∗ owns (c : Thread nD τ) a3 fullShare (turned m c)
        ∗ owns (c : Thread nD τ) a4 fullShare (block (turned m c) (flat m c) (grid0.coords t))) ⊢ Q ⟨⟩) :
    iprop(inv m c t.val ∗ (∃ X, owes (c : Thread nD τ) (0 : CellTallies nD τ sig Unit) X) ∗ owns (c : Thread nD τ) a3 fullShare (turned m c) ∗ (∃ O, owns (c : Thread nD τ) a4 fullShare O))
      ⊢ wp frame (wpE (defs₀ (F := F)) 𝒱₀ (c : Thread nD τ) none) Set.univ
        (cc0_roi_pool (grid0.coords t) (Memref.whole main_v2) (Memref.isWhole_whole _) a3 h3 a4 h4 (Memref.whole cc0_scratch0) (Memref.isWhole_whole _) (Memref.whole cc0_scratch1) (Memref.isWhole_whole _) (Memref.whole cc0_scratch2) (Memref.isWhole_whole _)) Q := by
  have hpost : iprop(PointLeft (F := F) (U := UR sig nD τ) c (grid0.coords t) (Memref.whole main_v2) a3 a4 (Memref.whole cc0_scratch0) (Memref.whole cc0_scratch1) (Memref.whole cc0_scratch2) fullShare.right (flat m c) (turned m c)
      ∗ ((∃ r, prngReg c r) ∗ ∃ X, owes (c : Thread nD τ) (0 : CellTallies nD τ sig Unit) X)) ⊢ |={Set.univ}=> Q ⟨⟩ := by
    refine BIBase.Entails.trans (inv_of_left m c t.val t a3 a4) (BIBase.Entails.trans hQ ?_)
    iintro H; imodintro; iexact H
  refine BIBase.Entails.trans (held_of_inv m c t.val a3 a4) ?_
  by_cases h : atFirst (grid0.coords t) = 1#1
  · refine BIBase.Entails.trans ?_ (wp_first 𝒱₀ c none Set.univ (grid0.coords t) _ _ a3 h3 a4 h4 _ _ _ _ _ _ fullShare.right (flat m c) (turned m c) h (hin c) hpost)
    exact sep_mono (held_none m c a3 a4 _) .rfl
  · rw [if_neg (first_of_zero t h)]
    exact wp_later 𝒱₀ c none Set.univ (grid0.coords t) _ _ a3 h3 a4 h4 _ _ _ _ _ _ fullShare.right (flat m c) (turned m c) h (hin c) hpost

theorem obligation (hin : ∀ c, WordsIn (flat m c)) (c : Dev nD) :
    BodyObligation (dats m 0 c) (defs₀ (F := F)) 𝒱₀ () Set.univ := fun t => by
  rw [bigSep_W0, bigSep_W0]
  rw [show (dats m 0 c).Φ t.castSucc = inv m c t.val from rfl, show (dats m 0 c).Φ t.succ = inv m c (t.val + 1) from rfl]
  set s := (cfg0 (adm m 0)).slots t with hs
  have hprog : defs₀ (F := F) .tc (Pipeline.pin (pcfgs (F := F)) (adm m) 0).body ((Pipeline.pin (pcfgs (F := F)) (adm m) 0).bodyArgs t s)
      = cc0_roi_pool (grid0.coords t) (Memref.whole main_v2) (Memref.isWhole_whole _) (spec0_0.stage (s 0)) (hstage0_0 ((s 0).cast nbuf0_0)) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) := rfl
  rw [hprog]
  refine BIBase.Entails.trans ?_ (point_runs m hin c t (spec0_0.stage (s 0)) (hstage0_0 ((s 0).cast nbuf0_0)) (spec0_1.stage (s 1)) (hstage0_1 ((s 1).cast nbuf0_1)) ?_)
  · iintro ⟨Hi, Ho, ⟨%d0, H0⟩, ⟨%d1, H1⟩⟩
    isplitl [Hi]; · iexact Hi
    isplitl [Ho]
    · unfold Dat.owesAt Pipeline.owesWithin
      icases Ho with ⟨%X, -, Ho⟩
      iexists X; iexact Ho
    isplitl [H0]
    · iapply (Entails.of_eq (congrArg (fun v : Vec F S64x64x256 .bf16 => (owns (c : Thread nD τ) (spec0_0.stage (s 0)) fullShare v : sProp 𝕄)) (before_map m c t d0)))
      iexact H0
    iexists _; iexact H1
  · iintro ⟨Hi, ⟨%X, Ho⟩, H0, H1⟩
    isplitl [Hi]; · iexact Hi
    isplitl [Ho]
    · unfold Dat.owesAt Pipeline.owesWithin
      iexists X; isplitr; · ipureintro; exact fun _ _ => Or.inl trivial
      iexact Ho
    isplitl [H0]; · iexact H0
    iexact H1

/-! ## The launch -/

/-- The launch's last line writes the result only. -/
theorem last_not_written (b : Ref sig .tc) (hb : b ≠ main_v4) : ∀ op ∈ [hostOps1 (F := F)].flatten, Proc.devRef .tc b ∉ op.writes := by
  intro op hop
  simp only [hostOps1, List.flatten_cons, List.flatten_nil, List.append_nil, List.mem_cons, List.mem_nil_iff, or_false] at hop
  subst hop
  simp only [StableHlo.unary_writes, Finset.mem_singleton]
  exact StableHlo.devRef_ne_of_ne hb

/-- The lines before it write no argument. -/
theorem first_not_written (b : Ref sig .tc) (hb : b ≠ main_v0 ∧ b ≠ main_v1 ∧ b ≠ main_v2) : ∀ op ∈ [hostOps0 (F := F)].flatten, Proc.devRef .tc b ∉ op.writes := by
  obtain ⟨h0, h1, h2⟩ := hb
  intro op hop
  simp only [hostOps0, List.flatten_cons, List.flatten_nil, List.append_nil, List.mem_cons, List.mem_nil_iff, or_false] at hop
  rcases hop with rfl | rfl | rfl <;>
    simp only [StableHlo.unary_writes, StableHlo.reshape_writes, Finset.mem_singleton] <;>
    exact StableHlo.devRef_ne_of_ne ‹_›

/-- The last line stays within the windows' arrays and the buffers beside them. -/
theorem last_sub : ∀ ops ∈ [hostOps1 (F := F)], ∀ op ∈ ops, op.bufs ⊆ Pipeline.tailRefs sig pre0 spec0 := by
  intro ops h op hop
  obtain rfl := List.mem_singleton.mp h
  obtain rfl := List.mem_singleton.mp hop
  rw [StableHlo.unary_bufs]
  intro b hb
  rcases Finset.mem_insert.mp hb with rfl | hb
  · exact Finset.mem_map.mpr ⟨main_v3, by decide, rfl⟩
  · obtain rfl := Finset.mem_singleton.mp hb
    exact Finset.mem_map.mpr ⟨main_v4, by decide, rfl⟩

/-- The array of the regions' bins. -/
def bins (c : Dev nD) : Vec F S512x8x8x256 .f32 := (dats m 0 c).arrAt 1 grid0.N

/-- The contents after the last line. -/
abbrev Vend (c : Dev nD) (b : Ref sig .tc) := Pipeline.afterTail (pcfgs (F := F)) (adm m) (dats m) 0 (V₀ m) [hostOps1] c b

/-- The result is no window's array. -/
theorem arr_ne_result : ∀ w, Pipeline.arrRef spec0 w ≠ main_v4 := by decide

theorem enter (c : Dev nD) : iprop(Pipeline.ΦA spec0 c ∗ Pipeline.ΦT pre0 (adm m 0).1 c) ⊢ inv m c 0 := by
  unfold Pipeline.ΦA inv
  rw [scopedRest0_eq]
  simp only [owns_whole]
  iintro ⟨⟨⟨HT, HC, HD⟩, Hr⟩, HW⟩
  isplitl [HW]; · iexact HW
  isplitl [HT]
  · icases HT with ⟨%T, HT⟩
    iexists T; isplitr; · ipureintro; exact fun _ _ _ _ h => absurd h (Nat.not_lt_zero _)
    iexact HT
  isplitl [HC]; · iexact HC
  isplitl [HD]; · iexact HD
  iexact Hr

theorem leave (c : Dev nD) (n : Nat) : inv m c n ⊢ Pipeline.ΦA spec0 c := by
  unfold Pipeline.ΦA inv
  rw [scopedRest0_eq]
  simp only [owns_whole]
  iintro ⟨-, ⟨%T, -, HT⟩, HC, HD, Hr⟩
  isplitl [HT HC HD]
  · isplitl [HT]; · iexists T; iexact HT
    isplitl [HC]; · iexact HC
    iexact HD
  iexact Hr

set_option backward.isDefEq.respectTransparency.types false in
theorem run_frame (hin : ∀ c, WordsIn (flat m c)) :
    θ_run defs (onTc (τ := τ) (main (F := F))) ⟨m, fun _ => 0, g⟩
      (fun r => Pipeline.FramePost (Pipeline.pin (pcfgs (F := F)) (adm m)) (dats m) 0 (Vend m) r ∧ r.2.sem = fun _ => 0) :=
  Pipeline.θ_run_frameP_around_track (pcfgs (F := F)) (adm m) (dats m) 0 launch0 defs₀ 𝒱₀ m g main
    (fun c => (obligation m hin c).loose) (fun c => (dats m 0 c).share_full fun _ => rfl) (fun _ _ => rfl)
    (V₀ m) [hostOps1]
    last_sub
    (fun ops h op hop => by
      obtain rfl := List.mem_singleton.mp h
      obtain rfl := List.mem_singleton.mp hop
      rfl)
    (fun ops h op hop w => by
      obtain rfl := List.mem_singleton.mp h
      exact last_not_written (Pipeline.arrRef spec0 w) (arr_ne_result w) op (by simpa using hop))
    (Pipeline.hmainP_around pcfgs 0 defs₀ 𝒱₀ m main [hostOps0] [hostOps1] hostOps0_sub ⟨rfl, rfl, rfl⟩ main_chain)
    (fun c w => by dsimp only [dats]) (fun c k => by obtain rfl : c = 0 := Subsingleton.elim _ _; rfl)
    (fun c => enter m c) (fun c => leave m c _) _ (fun r h => h)

/-- An argument ends as it was. -/
theorem arg_kept (c : Dev nD) (b : Ref sig .tc) (hb : b ≠ main_v4) (hb0 : b ≠ main_v0 ∧ b ≠ main_v1 ∧ b ≠ main_v2) (hw : ∀ w : Fin 2, Pipeline.arrRef spec0 w ≠ b) :
    (Vend m c b : Buf (Elt F) ((c : Thread nD τ).loc b)) = m ((c : Thread nD τ).loc b) := by
  refine (StableHlo.after_of_forall_not_mem (b := Proc.devRef .tc b) [hostOps1 (F := F)].flatten _ (last_not_written (F := F) b hb)).trans ?_
  refine (Pipeline.withArrays_of_ne spec0 c (V₀ m c) (fun w => (dats m 0 c).arrAt w grid0.N) b hw).trans ?_
  exact StableHlo.after_of_forall_not_mem (b := Proc.devRef .tc b) [hostOps0 (F := F)].flatten _ (first_not_written (F := F) b hb0)

/-- The last line turns the array of bins. -/
theorem last_line (X : Valuation τ sig (Elt F)) : StableHlo.after [hostOps1 (F := F)].flatten X (Proc.devRef .tc main_v4)
    = (transpose S512x256x8x8 [0, 3, 1, 2] (X (Proc.devRef .tc main_v3) : FVec F S512x8x8x256 .f32) transposes_S512x8x8x256_S512x256x8x8_0_3_1_2 : FVec F S512x256x8x8 .f32) := by
  rfl

/-- The result ends as the turned array of bins. -/
theorem result_eq (c : Dev nD) : Vend m c main_v4
    = (transpose S512x256x8x8 [0, 3, 1, 2] (bins m c : FVec F S512x8x8x256 .f32) transposes_S512x8x8x256_S512x256x8x8_0_3_1_2 : FVec F S512x256x8x8 .f32) := by
  have h := Pipeline.withArrays_arr spec0 (launch0 (F := F)).win.arr_inj c (V₀ m c) (fun w => (dats m 0 c).arrAt w grid0.N) 1
  refine (last_line (Pipeline.withArrays spec0 c (V₀ m c) (fun w => (dats m 0 c).arrAt w grid0.N))).trans ?_
  exact congrArg (fun x : FVec F S512x8x8x256 .f32 => (transpose S512x256x8x8 [0, 3, 1, 2] x transposes_S512x8x8x256_S512x256x8x8_0_3_1_2 : FVec F S512x256x8x8 .f32)) h

/-- The program's run: the result the turned bins, the arguments unchanged, the counters at zero. -/
theorem run_main (hin : ∀ c, WordsIn (flat m c)) :
    θ_run defs (onTc (τ := τ) (main (F := F))) ⟨m, fun _ => 0, g⟩
      (fun r => (∀ c : Dev nD, r.2.mem ((c : Thread nD τ).loc main_v4) = (transpose S512x256x8x8 [0, 3, 1, 2] (bins m c : FVec F S512x8x8x256 .f32) transposes_S512x8x8x256_S512x256x8x8_0_3_1_2 : FVec F S512x256x8x8 .f32)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  refine (θ_run defs _ _).mono (fun r h => ⟨fun c => ⟨?_, ?_, ?_⟩, h.2⟩) (run_frame m g hin)
  · exact ((h.1 c).2 main_v4 (show main_v4 ∈ Pipeline.restRefs sig spec0 by decide)).trans (result_eq m c)
  · exact ((h.1 c).2 main_arg0 (show main_arg0 ∈ Pipeline.restRefs sig spec0 by decide)).trans (arg_kept m c main_arg0 (by decide) (by decide) (by decide))
  · exact ((h.1 c).2 main_arg1 (show main_arg1 ∈ Pipeline.restRefs sig spec0 by decide)).trans (arg_kept m c main_arg1 (by decide) (by decide) (by decide))

/-- Region `r`'s bin row, from the map and the table. -/
def regionVal (V : Vec F S64x64x256 .bf16) (W : Vec F S2048 .i32) (r : Fin 512) (k : Nat) : FVec F S8x256 .f32 :=
  binVal V (W (ValueIdx.ix1 (⟨r.val * 4, by omega⟩ : Fin 2048))) (W (ValueIdx.ix1 (⟨r.val * 4 + 1, by omega⟩ : Fin 2048)))
    (W (ValueIdx.ix1 (⟨r.val * 4 + 2, by omega⟩ : Fin 2048))) (W (ValueIdx.ix1 (⟨r.val * 4 + 3, by omega⟩ : Fin 2048))) k

theorem pointVal_eq (V : Vec F S64x64x256 .bf16) (W : Vec F S2048 .i32) (i : grid0.Coords) (b : Fin 32) (k : Nat) :
    pointVal V W i b k = regionVal V W ⟨roi i b, roi_lt i b.isLt⟩ k := by
  unfold pointVal regionVal
  rw [roiY_eq W i b.isLt, roiX_eq W i b.isLt, roiH_eq W i b.isLt, roiW_eq W i b.isLt]

/-- A table of zeros. -/
def noTable : (pcfg0 (F := Bits)).Adm := ⟨fun k => match k with | ⟨0, _⟩ => (fun _ => (0#32 : BitVec 32)), trivial⟩

/-- The output window's blocks cover its array. -/
theorem out_covers (a : (pcfg0 (F := F)).Adm) : (win0 a 1).Covers := by
  have h : (win0 noTable 1).Covers := by decide +kernel
  exact h

/-- Point `t` writes block `t`. -/
theorem out_index (a : (pcfg0 (F := F)).Adm) (t : Fin grid0.N) : (win0 a 1).index t = ![t.val, 0, 0, 0] := by
  have h : ∀ t : Fin grid0.N, (win0 noTable 1).index t = ![t.val, 0, 0, 0] := by decide +kernel
  exact h t

/-- The points, counted, are the grid's rows one after another. -/
theorem point_number : ∀ t : Fin grid0.N, ((grid0.coords t) 0).val * 8 + ((grid0.coords t) 1).val = t.val := by decide +kernel

/-- A point's block, read at an index. -/
theorem block_at (V : Vec F S64x64x256 .bf16) (W : Vec F S2048 .i32) (t : Fin grid0.N) (y : S32x8x8x256.Idx) (z : S512x8x8x256.Idx)
    (h0 : (z 0).val = t.val * 32 + (y 0).val) (h1 : (z 1).val = (y 1).val) (h2 : (z 2).val = (y 2).val) (h3 : (z 3).val = (y 3).val) :
    block V W (grid0.coords t) y = regionVal V W (z 0) (z 1).val (ValueIdx.ix2 (z 2) (z 3)) := by
  show pointVal V W (grid0.coords t) (y 0).val (y 1).val (ValueIdx.ix2 (y 2) (y 3)) = _
  refine (congrFun (pointVal_eq V W (grid0.coords t) (y 0) (y 1).val) _).trans ?_
  have hr : (⟨roi (grid0.coords t) (y 0).val, roi_lt _ (y 0).isLt⟩ : Fin 512) = z 0 := by
    apply Fin.ext
    show roi (grid0.coords t) (y 0).val = _
    rw [h0]; unfold roi; rw [point_number]
  have e2 : y 2 = z 2 := Fin.ext h2.symm
  have e3 : y 3 = z 3 := Fin.ext h3.symm
  rw [h1, e2, e3]
  exact congrArg (fun r => regionVal V W r (y 1).val (ValueIdx.ix2 (z 2) (z 3))) hr

/-- The bins are the regions' rows. -/
theorem bins_eq (c : Dev nD) : bins m c = fun z : S512x8x8x256.Idx => regionVal (turned m c) (flat m c) (z 0) (z 1).val (ValueIdx.ix2 (z 2) (z 3)) := by
  refine (dats m 0 c).arrAt_eq_of_covers 1 _ (out_covers _) fun t hf y => ?_
  have e : ∀ a, ((((win0 (adm m 0) 1).blk t).view.emb y) a : Nat) = (![t.val, 0, 0, 0] : Fin 4 → Nat) a * (win0 (adm m 0) 1).size a + (y a).val := fun a => by
    have h := (win0 (adm m 0) 1).rect_emb_val t y a
    rw [out_index] at h
    exact h
  refine block_at (turned m c) (flat m c) t y (((win0 (adm m 0) 1).blk t).view.emb y) (e 0) ?_ ?_ ?_
  · exact (e 1).trans (by show 0 * _ + _ = _; rw [Nat.zero_mul, Nat.zero_add])
  · exact (e 2).trans (by show 0 * _ + _ = _; rw [Nat.zero_mul, Nat.zero_add])
  · exact (e 3).trans (by show 0 * _ + _ = _; rw [Nat.zero_mul, Nat.zero_add])

end Cert.Kernel
-- ==== Proof.InRange.lean ====
/-
  The precondition, read.

  A table of regions passes it exactly when every row has its first corner on the map and its extents between 4
  and 40. Its conjunction over the rows is opened, each comparison of signed words is read as one of naturals, and
  the flattened table has row `r`'s words at `4r`, `4r + 1`, `4r + 2` and `4r + 3`.
-/
module

public import proofs.«01_k».proof.Pre_in_range
public import proofs.«01_k».proof.Proof.Gen.Pre_in_range
public import proofs.«01_k».proof.Proof.KernelPoint
public import Idealize.ShloMosaic.Lib.ReduceAll
public import Idealize.ShloMosaic.Lib.Pipeline.Value
public import Idealize.ShloMosaic.Lib.ValueIdxCore

@[expose] public section

noncomputable section

namespace Cert.InRange

open Idealize.ShloMosaic Idealize.ShloMosaic.ValueIdx
open Cert.Spans Cert.Pre_in_range

attribute [local instance] Cert.Pre_in_range.Gen.facts

variable {F : FTy → Type} [FloatOps F]

/-- A column of the table. -/
theorem column (w : IVec S512x4 32) (k : Fin 4) (hs : S512x4.Slices ![0, k.val] S512x1) (hc : S512x1.ShapeCasts S512) (r : Fin 512) :
    shapeCast S512 (extractStridedSlice S512x1 ![0, k.val] w hs) hc (ix1 r) = w (ix2 r k) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply _ _ hs _ (ix2 r k) fun a => ?_
    fin_cases a
    · show r.val = 0 + r.val; omega
    · show k.val = k.val + 0; omega

/-- A conjunction of bits. -/
theorem and_one {a b : BitVec 1} (h : IntOp.andi a b = 1#1) : a = 1#1 ∧ b = 1#1 := by
  revert a b; decide

/-- A comparison from below, by a natural. -/
theorem ge_of {a b : BitVec 32} (h : IntOp.cmpi .sge a b = 1#1) : b.toInt ≤ a.toInt := by
  have h' : BitVec.ofBool (b.sle a) = 1#1 := h
  cases hb : b.sle a
  · rw [hb] at h'; exact absurd h' (by decide)
  · simpa [BitVec.sle] using hb

theorem lt_of {a b : BitVec 32} (h : IntOp.cmpi .slt a b = 1#1) : a.toInt < b.toInt := by
  have h' : BitVec.ofBool (a.slt b) = 1#1 := h
  cases hb : a.slt b
  · rw [hb] at h'; exact absurd h' (by decide)
  · simpa [BitVec.slt] using hb

theorem toNat_of {a : BitVec 32} {l h : Nat} (hl : (l : Int) ≤ a.toInt) (hh : a.toInt < (h : Int)) : l ≤ a.toNat ∧ a.toNat < h := by
  have := a.isLt
  simp only [BitVec.toInt] at hl hh
  split at hl <;> omega

instance : Subsingleton S_.Idx := ⟨fun a b => funext fun i => i.elim0⟩

/-- Every row of a table that passes the precondition lies in range. -/
theorem row (x : FVec F S256x64x64 .f32) (w : IVec S512x4 32) (h : fn (F := F) x w = fun _ => 1#1) (r : Fin 512) :
    InMap (w (ix2 r (0 : Fin 4))).toNat (w (ix2 r (2 : Fin 4))).toNat ∧ InMap (w (ix2 r (1 : Fin 4))).toNat (w (ix2 r (3 : Fin 4))).toNat := by
  have e := congrFun h (fun i => i.elim0)
  dsimp only [fn, fn_part1] at e
  replace e := Host.reduce_andi_all _ _ _ _ _ e (ix1 r)
  obtain ⟨e, w41⟩ := and_one e
  obtain ⟨e, w4⟩ := and_one e
  obtain ⟨e, h41⟩ := and_one e
  obtain ⟨e, h4⟩ := and_one e
  obtain ⟨e, x64⟩ := and_one e
  obtain ⟨e, x0⟩ := and_one e
  obtain ⟨y0, y64⟩ := and_one e
  have c0 := column w 0 Facts.slices_S512x4_S512x1_0_0 Facts.shapeCasts_S512x1_S512 r
  have c1 := column w 1 Facts.slices_S512x4_S512x1_0_1 Facts.shapeCasts_S512x1_S512 r
  have c2 := column w 2 Facts.slices_S512x4_S512x1_0_2 Facts.shapeCasts_S512x1_S512 r
  have c3 := column w 3 Facts.slices_S512x4_S512x1_0_3 Facts.shapeCasts_S512x1_S512 r
  have ny := toNat_of (l := 0) (h := 64) (c0 ▸ ge_of y0) (c0 ▸ lt_of y64)
  have nx := toNat_of (l := 0) (h := 64) (c1 ▸ ge_of x0) (c1 ▸ lt_of x64)
  have nh := toNat_of (l := 4) (h := 41) (c2 ▸ ge_of h4) (c2 ▸ lt_of h41)
  have nw := toNat_of (l := 4) (h := 41) (c3 ▸ ge_of w4) (c3 ▸ lt_of w41)
  exact ⟨⟨ny.2, nh⟩, ⟨nx.2, nw⟩⟩

/-- The flattened table, read. -/
theorem flat_at (w : IVec S512x4 32) (hc : S512x4.ShapeCasts Cert.Kernel.S2048) (r : Fin 512) (k : Fin 4) (n : Fin 2048) (hn : n.val = r.val * 4 + k.val) :
    (shapeCast Cert.Kernel.S2048 w hc : IVec Cert.Kernel.S2048 32) (ix1 n) = w (ix2 r k) := by
  refine shapeCast_apply _ hc (ix1 n) (ix2 r k) ?_
  rw [Shape.rowMajor_val_two, Shape.rowMajor_val_one]
  exact hn.symm

/-- So the flattened table's words lie in range. -/
theorem words (x : FVec F S256x64x64 .f32) (w : IVec S512x4 32) (h : fn (F := F) x w = fun _ => 1#1) (hc : S512x4.ShapeCasts Cert.Kernel.S2048) :
    Cert.Kernel.WordsIn (F := F) (shapeCast Cert.Kernel.S2048 w hc : IVec Cert.Kernel.S2048 32) := by
  intro r
  have e0 := flat_at w hc r 0 ⟨r.val * 4, by omega⟩ rfl
  have e1 := flat_at w hc r 1 ⟨r.val * 4 + 1, by omega⟩ rfl
  have e2 := flat_at w hc r 2 ⟨r.val * 4 + 2, by omega⟩ rfl
  have e3 := flat_at w hc r 3 ⟨r.val * 4 + 3, by omega⟩ rfl
  have hr := row x w h r
  exact ⟨by rw [e0, e2]; exact hr.1, by rw [e1, e3]; exact hr.2⟩

end Cert.InRange
-- ==== Proof.Frames.lean ====
/-
  The frames of the kernel, of the kernel over the extended reals and of the reference.

  The kernel and its reading over the extended reals are the same program under two names, so that one run serves
  both.
-/
module

public import proofs.«01_k».proof.Defs
public import proofs.«01_k».proof.Proof.KernelRun
public import proofs.«01_k».proof.Proof.InRange
public import proofs.«01_k».proof.Proof.Gen.KernelIdeal.Launch
public import proofs.«01_k».proof.Proof.Gen.ReferenceIdeal.Run
public import Idealize.ShloMosaic.Lib.Quiescent

@[expose] public section

noncomputable section

namespace Cert.Frames

open Idealize.ShloMosaic Idealize.ShloMosaic.TcCoe
open Idealize.SL.Sem

attribute [local instance] Cert.Kernel.Gen.facts Cert.KernelIdeal.Gen.facts Cert.ReferenceIdeal.Gen.facts Cert.Pre_in_range.Gen.facts

/-- A run of the one program is a run of the other. -/
theorem same {F : FTy → Type} [FloatOps F] (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop) :
    θ_run Cert.KernelIdeal.defs (onTc (τ := Cert.KernelIdeal.τ) (Cert.KernelIdeal.main (F := F))) ⟨m, fun _ => 0, g⟩ Q
      = θ_run Cert.Kernel.defs (onTc (τ := Cert.Kernel.τ) (Cert.Kernel.main (F := F))) ⟨m, fun _ => 0, g⟩ Q := by
  sl_kernel_rfl

/-- The words of a memory that passes the precondition lie in range. -/
theorem words {F : FTy → Type} [FloatOps F] (m : (ℓ : Loc Cert.Kernel.nD Cert.Kernel.τ Cert.Kernel.sig) → Buf (Elt F) ℓ)
    (h : ∀ c : Dev Cert.Kernel.nD, Cert.Pre_in_range.fn (F := F) (m ((c.tc : Thread Cert.Kernel.nD Cert.Kernel.τ).loc Cert.Kernel.main_arg0)) (m ((c.tc : Thread Cert.Kernel.nD Cert.Kernel.τ).loc Cert.Kernel.main_arg1)) = fun _ => 1#1)
    (c : Dev Cert.Kernel.nD) : Cert.Kernel.WordsIn (Cert.Kernel.flat m c) := by
  rw [Cert.Kernel.flat_eq]
  exact Cert.InRange.words _ _ (h c) _

/-- The kernel's frame. -/
theorem kernel : Cert.quiescent_Kernel := by
  intro m g hpre
  exact (θ_run Cert.Kernel.defs _ _).mono (fun r h => ⟨fun c => (h.1 c).2, h.2⟩) (Cert.Kernel.run_main (F := Bits) m g (words m hpre))

/-- The run of the kernel over the extended reals. -/
theorem run_ideal (m : (ℓ : Loc Cert.Kernel.nD Cert.Kernel.τ Cert.Kernel.sig) → Buf (Elt Ideal) ℓ) (g : Dev Cert.Kernel.nD → PrngReg)
    (hin : ∀ c, Cert.Kernel.WordsIn (Cert.Kernel.flat m c)) :
    θ_run Cert.KernelIdeal.defs (onTc (τ := Cert.KernelIdeal.τ) (Cert.KernelIdeal.main (F := Ideal))) ⟨m, fun _ => 0, g⟩
      (fun r => (∀ c : Dev Cert.Kernel.nD, r.2.mem ((c.tc : Thread Cert.Kernel.nD Cert.Kernel.τ).loc Cert.Kernel.main_v4)
          = (transpose Cert.Kernel.S512x256x8x8 [0, 3, 1, 2] (Cert.Kernel.bins m c : FVec Ideal Cert.Kernel.S512x8x8x256 .f32) Cert.Kernel.Facts₀.transposes_S512x8x8x256_S512x256x8x8_0_3_1_2 : FVec Ideal Cert.Kernel.S512x256x8x8 .f32)
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)) ∧ r.2.sem = fun _ => 0) :=
  (same m g _).mpr (Cert.Kernel.run_main (F := Ideal) m g hin)

/-- The frame of the kernel over the extended reals. -/
theorem kernel_ideal : Cert.quiescent_KernelIdeal := by
  intro m g hpre
  exact (θ_run Cert.KernelIdeal.defs _ _).mono (fun r h => ⟨fun c => (h.1 c).2, h.2⟩) (run_ideal m g (words m hpre))

/-- The reference's frame. -/
theorem reference_ideal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Frames
-- ==== Proof.RefWords.lean ====
/-
  The words of the reference.

  The reference divides rounding down, by a quotient that is corrected where the signs differ and something
  is left over. On words that are not negative this is the shift the kernel makes, so the reference's words
  for a region's span and for its bins are those of `Spans`.
-/
module

public import proofs.«01_k».proof.Proof.Spans
public import Idealize.ShloMosaic.Lib.StableHlo.Predicate

@[expose] public section

namespace Cert.RefWords

open Idealize.ShloMosaic Cert.Spans

/-- The sign of a word. -/
def sgn (x : BitVec 32) : BitVec 32 := if x = 0 then 0 else if x.msb = true then -1 else 1

/-- The quotient rounded down, as the reference computes it. -/
def floorW (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

theorem msb_false {x : BitVec 32} (hx : x.toNat < 2 ^ 31) : x.msb = false :=
  BitVec.msb_eq_false_iff_two_mul_lt.mpr (by omega)

theorem no_corner {x d : BitVec 32} (hd : 0 < d.toNat) (hd' : d.toNat < 2 ^ 31) : ¬ IntOp.SDivCorner x d := by
  rintro (h | ⟨_, h⟩)
  · rw [h] at hd; exact absurd hd (by decide)
  · rw [h] at hd'; exact absurd hd' (by decide)

theorem div_toNat {x d : BitVec 32} (hx : x.toNat < 2 ^ 31) (hd : 0 < d.toNat) (hd' : d.toNat < 2 ^ 31) :
    (IntOp.divsi .host x d).toNat = x.toNat / d.toNat := by
  rw [IntOp.divsi, if_neg (no_corner hd hd'), BitVec.sdiv_eq, msb_false hx, msb_false hd']
  exact BitVec.toNat_udiv

/-- The quotient needs no correction on words that are not negative. -/
theorem floorW_toNat {x d : BitVec 32} (hx : x.toNat < 2 ^ 31) (hd : 0 < d.toNat) (hd' : d.toNat < 2 ^ 31) :
    (floorW x d).toNat = x.toNat / d.toNat := by
  have hc : IntOp.andi (IntOp.cmpi .ne (sgn x) (sgn d)) (IntOp.cmpi .ne (IntOp.remsi .host x d) 0#32) ≠ 1#1 := by
    by_cases h0 : x = 0
    · have e : IntOp.remsi .host x d = 0#32 := by
        rw [IntOp.remsi, if_neg (no_corner hd hd'), BitVec.srem_eq, msb_false hx, msb_false hd', h0]
        exact BitVec.zero_umod
      rw [e, show IntOp.cmpi .ne 0#32 0#32 = 0#1 from rfl]
      show IntOp.cmpi .ne (sgn x) (sgn d) &&& 0#1 ≠ 1#1
      rw [BitVec.and_zero]; decide
    · have h1 : d ≠ 0 := by rintro rfl; exact absurd hd (by decide)
      have e : sgn x = sgn d := by
        unfold sgn; rw [if_neg h0, if_neg h1, msb_false hx, msb_false hd']
      rw [e, show IntOp.cmpi .ne (sgn d) (sgn d) = 0#1 by simp [IntOp.cmpi]]
      show 0#1 &&& _ ≠ 1#1
      rw [BitVec.zero_and]; decide
  show (if _ = 1#1 then _ else _ : BitVec 32).toNat = _
  rw [if_neg hc, div_toNat hx hd hd']

/-- Halving is a shift by one. -/
theorem floorW_two {x : BitVec 32} (hx : x.toNat < 2 ^ 31) : floorW x 2#32 = Scalar.shrui x 1#32 :=
  BitVec.eq_of_toNat_eq (by rw [floorW_toNat hx (by decide) (by decide), shr_toNat _ _ (by decide)]; rfl)

/-- Taking an eighth is a shift by three. -/
theorem floorW_eight {x : BitVec 32} (hx : x.toNat < 2 ^ 31) : floorW x 8#32 = Scalar.shrui x 3#32 :=
  BitVec.eq_of_toNat_eq (by rw [floorW_toNat hx (by decide) (by decide), shr_toNat _ _ (by decide)]; rfl)

/-- The first coordinate covered. -/
def loR (p r : BitVec 32) : BitVec 32 := IntOp.maxsi (IntOp.subi p (floorW r 2#32)) 0#32
/-- How many are covered. -/
def lenR (p r : BitVec 32) : BitVec 32 :=
  IntOp.subi (Scalar.select (IntOp.cmpi .sgt (IntOp.addi p (floorW r 2#32)) 64#32) 63#32 (IntOp.addi p (floorW r 2#32))) (loR p r)
/-- The first coordinate of bin `k`. -/
def fstR (p r : BitVec 32) (k : Nat) : BitVec 32 :=
  IntOp.addi (loR p r) (floorW (IntOp.muli (BitVec.ofNat 32 k) (lenR p r)) 8#32)
/-- The end of bin `k`. -/
def lstR (p r : BitVec 32) (k : Nat) : BitVec 32 :=
  IntOp.addi (loR p r) (floorW (IntOp.subi (IntOp.addi (IntOp.muli (IntOp.addi (BitVec.ofNat 32 k) 1#32) (lenR p r)) 8#32) 1#32) 8#32)

section
variable {p r : BitVec 32} (h : InMap p.toNat r.toNat)
include h

theorem loR_eq : loR p r = loW p r := by
  unfold loR; rw [floorW_two (by have := h.2.2; omega)]; rfl

theorem lenR_eq : lenR p r = lenW p r := by
  unfold lenR; rw [loR_eq h, floorW_two (by have := h.2.2; omega)]; rfl

theorem mul_len {k : Nat} (hk : k < 9) :
    (Scalar.muli (BitVec.ofNat 32 k) (lenW p r)).toNat = k * len p.toNat r.toNat ∧ k * len p.toNat r.toNat ≤ 320 := by
  have e2 := lenW_toNat h
  have hm : k * len p.toNat r.toNat ≤ 8 * 40 := Nat.mul_le_mul (by omega) (len_le h)
  have ek : (BitVec.ofNat 32 k).toNat = k := by rw [BitVec.toNat_ofNat]; omega
  exact ⟨by rw [mul_toNat (by rw [ek, e2]; omega), ek, e2], hm⟩

theorem fstR_toNat {k : Nat} (hk : k < 8) : (fstR p r k).toNat = fst p.toNat r.toNat k := by
  obtain ⟨e, hm⟩ := mul_len h (k := k) (by omega)
  unfold fstR
  rw [loR_eq h, lenR_eq h, ← fstW_toNat h (by omega : k < 9)]
  rw [show floorW (IntOp.muli (BitVec.ofNat 32 k) (lenW p r)) 8#32 = Scalar.shrui (Scalar.muli (BitVec.ofNat 32 k) (lenW p r)) 3#32 from
    floorW_eight (by show (Scalar.muli (BitVec.ofNat 32 k) (lenW p r)).toNat < _; omega)]
  rfl

theorem lstR_toNat {k : Nat} (hk : k < 8) : (lstR p r k).toNat = lst p.toNat r.toNat k := by
  obtain ⟨e, hm⟩ := mul_len h (k := k + 1) (by omega)
  have ek : IntOp.addi (BitVec.ofNat 32 k) 1#32 = BitVec.ofNat 32 (k + 1) := (BitVec.ofNat_add (n := 32) k 1).symm
  have es : IntOp.subi (IntOp.addi (IntOp.muli (BitVec.ofNat 32 (k + 1)) (lenW p r)) 8#32) 1#32
      = Scalar.addi (Scalar.muli (BitVec.ofNat 32 (k + 1)) (lenW p r)) 7#32 := by
    show (Scalar.muli (BitVec.ofNat 32 (k + 1)) (lenW p r) + 8#32) - 1#32 = Scalar.muli (BitVec.ofNat 32 (k + 1)) (lenW p r) + 7#32
    rw [BitVec.sub_eq_add_neg, BitVec.add_assoc]; rfl
  unfold lstR
  rw [loR_eq h, lenR_eq h, ek, es, ← lstW_toNat h hk]
  rw [show floorW (Scalar.addi (Scalar.muli (BitVec.ofNat 32 (k + 1)) (lenW p r)) 7#32) 8#32
      = Scalar.shrui (Scalar.addi (Scalar.muli (BitVec.ofNat 32 (k + 1)) (lenW p r)) 7#32) 3#32 from
    floorW_eight (by rw [add_toNat (by rw [e]; show _ + 7 < _; omega), e]; show _ + 7 < _; omega)]
  rfl

/-- The reference's mask of bin `k`, at coordinate `n`. -/
def maskR (p r : BitVec 32) (k n : Nat) : BitVec 1 :=
  IntOp.andi (IntOp.cmpi .sge (BitVec.ofNat 32 n) (fstR p r k)) (IntOp.cmpi .slt (BitVec.ofNat 32 n) (lstR p r k))

theorem maskR_iff {k n : Nat} (hk : k < 8) (hn : n < 64) :
    maskR p r k n = 1#1 ↔ fst p.toNat r.toNat k ≤ n ∧ n < lst p.toNat r.toNat k := by
  have en : (BitVec.ofNat 32 n).toNat = n := by rw [BitVec.toNat_ofNat]; omega
  have hb := bin_bounds h hk
  have e1 := fstR_toNat h hk
  have e2 := lstR_toNat h hk
  have i1 := StableHlo.Predicate.sge_iff_toNat (a := BitVec.ofNat 32 n) (b := fstR p r k) (by omega) (by omega)
  have i2 := StableHlo.Predicate.slt_iff_toNat (a := BitVec.ofNat 32 n) (b := lstR p r k) (by omega) (by omega)
  rw [en, e1] at i1
  rw [en, e2] at i2
  rw [← i1, ← i2, maskR]
  generalize IntOp.cmpi .sge (BitVec.ofNat 32 n) (fstR p r k) = a
  generalize IntOp.cmpi .slt (BitVec.ofNat 32 n) (lstR p r k) = b
  show a &&& b = 1#1 ↔ _
  revert a b; decide

end

end Cert.RefWords
-- ==== Proof.RefValue.lean ====
/-
  The reference's result, read at an index.

  Over the extended reals the result for region `r`, channel `c`, row bin `i` and column bin `j` is the least
  upper bound of the map over the bin: it lies below `t` exactly if every element of the bin does.
-/
module

public import proofs.«01_k».proof.Proof.Gen.ReferenceIdeal.Run
public import proofs.«01_k».proof.Proof.RefWords
public import Idealize.ShloMosaic.Lib.Pointwise

@[expose] public section

noncomputable section

namespace Cert.ReferenceIdeal.Value

open Idealize.ShloMosaic Cert.RefWords Cert.Spans
variable [Cert.ReferenceIdeal.Facts]
open Facts₀ Facts

variable (V0 : Valuation τ sig (Elt Ideal))

/-- Word `k` of region `r`. -/
def word (r : Fin 512) (k : Fin 4) : BitVec 32 := V0 (Proc.tc.devRef main_arg1) (ix2 r k)
/-- The map at channel `c`, row `y`, column `x`. -/
def elt (c : Fin 256) (y x : Fin 64) : EReal := V0 (Proc.tc.devRef main_arg0) (ix3 c y x)

theorem v1_at (r : Fin 512) : res_main_v1 V0 (ix1 r) = word V0 r 0 := by
  unfold res_main_v1; pointwise; rfl
theorem v3_at (r : Fin 512) : res_main_v3 V0 (ix1 r) = word V0 r 1 := by
  unfold res_main_v3; pointwise; rfl
theorem v5_at (r : Fin 512) : res_main_v5 V0 (ix1 r) = word V0 r 2 := by
  unfold res_main_v5; pointwise; rfl
theorem v7_at (r : Fin 512) : res_main_v7 V0 (ix1 r) = word V0 r 3 := by
  unfold res_main_v7; pointwise; rfl

theorem v8_at (r : Fin 512) : res_main_v8 V0 (ix1 r) = floorW (word V0 r 2) 2#32 := by
  unfold res_main_v8 res_main_call0_v2
  pointwise
  rw [v5_at]; rfl
theorem v16_at (r : Fin 512) : res_main_v16 V0 (ix1 r) = floorW (word V0 r 3) 2#32 := by
  unfold res_main_v16 res_main_call2_v2
  pointwise
  rw [v7_at]; rfl
theorem v11_at (r : Fin 512) : res_main_v11 V0 (ix1 r) = loR (word V0 r 0) (word V0 r 2) := by
  unfold res_main_v11
  pointwise
  rw [v1_at, v8_at]; rfl
theorem v19_at (r : Fin 512) : res_main_v19 V0 (ix1 r) = loR (word V0 r 1) (word V0 r 3) := by
  unfold res_main_v19
  pointwise
  rw [v3_at, v16_at]; rfl
theorem v24_at (r : Fin 512) : res_main_v24 V0 (ix1 r) = lenR (word V0 r 0) (word V0 r 2) := by
  unfold res_main_v24 res_main_v12
  pointwise
  rw [v1_at, v8_at, v11_at]; rfl
theorem v62_at (r : Fin 512) : res_main_v62 V0 (ix1 r) = lenR (word V0 r 1) (word V0 r 3) := by
  unfold res_main_v62 res_main_v20
  pointwise
  rw [v3_at, v16_at, v19_at]; rfl
theorem v31_at (r : Fin 512) (k : Fin 8) : res_main_v31 V0 (ix2 r k)
    = IntOp.muli (BitVec.ofNat 32 k.val) (lenR (word V0 r 0) (word V0 r 2)) := by
  unfold res_main_v31 res_main_v25
  pointwise
  rw [v24_at]
theorem v69_at (r : Fin 512) (k : Fin 8) : res_main_v69 V0 (ix2 r k)
    = IntOp.muli (BitVec.ofNat 32 k.val) (lenR (word V0 r 1) (word V0 r 3)) := by
  unfold res_main_v69 res_main_v63
  pointwise
  rw [v62_at]
theorem v46_at (r : Fin 512) (k : Fin 8) : res_main_v46 V0 (ix2 r k)
    = IntOp.subi (IntOp.addi (IntOp.muli (IntOp.addi (BitVec.ofNat 32 k.val) 1#32) (lenR (word V0 r 0) (word V0 r 2))) 8#32) 1#32 := by
  unfold res_main_v46 res_main_v25
  pointwise
  rw [v24_at]
theorem v84_at (r : Fin 512) (k : Fin 8) : res_main_v84 V0 (ix2 r k)
    = IntOp.subi (IntOp.addi (IntOp.muli (IntOp.addi (BitVec.ofNat 32 k.val) 1#32) (lenR (word V0 r 1) (word V0 r 3))) 8#32) 1#32 := by
  unfold res_main_v84 res_main_v63
  pointwise
  rw [v62_at]

/-- The maximum over the columns of bin `j`, at row `y`. -/
def colR (r : Fin 512) (c : Fin 256) (j : Fin 8) (y : Fin 64) : EReal :=
  Finset.fold max (Ideal.ofBits .f32 0xFF800000#32)
    (fun x : Fin 64 => Scalar.select (maskR (word V0 r 1) (word V0 r 3) j.val x.val) (elt V0 c y x) (Ideal.ofBits .f32 0xFF800000#32)) Finset.univ

theorem v107_at (r : Fin 512) (c : Fin 256) (i j : Fin 8) (y : Fin 64) : res_main_v107 V0 (ix5 r c i j y)
    = (Scalar.select (maskR (word V0 r 0) (word V0 r 2) i.val y.val) (colR V0 r c j y) (Ideal.ofBits .f32 0xFF800000#32) : EReal) := by
  unfold res_main_v107 res_main_v50 res_main_v88 res_main_call4_v2 res_main_call5_v2 res_main_call6_v2 res_main_call7_v2
  pointwise
  simp only [v11_at, v19_at, v31_at, v69_at, v46_at, v84_at]
  rfl

theorem neg_inf : Ideal.ofBits .f32 0xFF800000#32 = (⊥ : EReal) := by simp [Ideal.ofBits, Ideal.ieee]

/-- A masked maximum lies below `t` if the elements under the mask do. -/
theorem masked_le {P : Fin 64 → Prop} (m : Fin 64 → BitVec 1) (hm : ∀ x, m x = 1#1 ↔ P x) (f : Fin 64 → EReal) (t : EReal) :
    Finset.fold max (⊥ : EReal) (fun x => Scalar.select (m x) (f x) ⊥) Finset.univ ≤ t ↔ ∀ x, P x → f x ≤ t := by
  rw [Finset.fold_max_le]
  constructor
  · intro h x hx
    have h2 := h.2 x (Finset.mem_univ x)
    rw [show Scalar.select (m x) (f x) ⊥ = f x from if_pos ((hm x).mpr hx)] at h2
    exact h2
  · intro h
    refine ⟨bot_le, fun x _ => ?_⟩
    by_cases hx : m x = 1#1
    · rw [show Scalar.select (m x) (f x) ⊥ = f x from if_pos hx]; exact h x ((hm x).mp hx)
    · rw [show Scalar.select (m x) (f x) ⊥ = ⊥ from if_neg hx]; exact bot_le

/-- The reference's result. -/
def out : FVec Ideal S512x256x8x8 .f32 :=
  Host.reduce FloatOps.maximumf (res_main_v107 V0) (constant S_ .f32 0xFF800000#32) reducesTo_S512x256x8x8x64_S512x256x8x8_d4 h_S_

/-- A maximum over the last axis, at an index. -/
theorem rows_fold (v : FVec Ideal S512x256x8x8x64 .f32) (r : Fin 512) (c : Fin 256) (i j : Fin 8) :
    Host.reduce FloatOps.maximumf v (constant S_ .f32 0xFF800000#32) reducesTo_S512x256x8x8x64_S512x256x8x8_d4 h_S_ (ix4 r c i j)
      = (Finset.fold max (Ideal.ofBits .f32 0xFF800000#32) (fun y : Fin 64 => (v (ix5 r c i j y) : EReal)) Finset.univ : EReal) := by
  pointwise

theorem out_at (r : Fin 512) (c : Fin 256) (i j : Fin 8) : out V0 (ix4 r c i j)
    = (Finset.fold max (Ideal.ofBits .f32 0xFF800000#32) (fun y : Fin 64 => (Scalar.select (maskR (word V0 r 0) (word V0 r 2) i.val y.val) (colR V0 r c j y)
        (Ideal.ofBits .f32 0xFF800000#32) : EReal)) Finset.univ : EReal) := by
  unfold out
  rw [rows_fold]
  simp only [v107_at]

theorem out_le (r : Fin 512) (c : Fin 256) (i j : Fin 8) (hy : InMap (word V0 r 0).toNat (word V0 r 2).toNat)
    (hx : InMap (word V0 r 1).toNat (word V0 r 3).toNat) (t : EReal) :
    (out V0 (ix4 r c i j) : EReal) ≤ t ↔ ∀ y : Fin 64, (fst (word V0 r 0).toNat (word V0 r 2).toNat i.val ≤ y.val ∧ y.val < lst (word V0 r 0).toNat (word V0 r 2).toNat i.val)
      → ∀ x : Fin 64, (fst (word V0 r 1).toNat (word V0 r 3).toNat j.val ≤ x.val ∧ x.val < lst (word V0 r 1).toNat (word V0 r 3).toNat j.val)
        → elt V0 c y x ≤ t := by
  rw [out_at, neg_inf, masked_le _ (fun y => maskR_iff hy i.isLt y.isLt)]
  refine forall_congr' fun y => imp_congr_right fun _ => ?_
  unfold colR
  rw [neg_inf, masked_le _ (fun x => maskR_iff hx j.isLt x.isLt)]

end Cert.ReferenceIdeal.Value

end
-- ==== Proof.KernelValue.lean ====
/-
  The kernel's result, read at an index.

  Over the extended reals a bin's value is the least upper bound of the map over the bin: it lies below `t`
  exactly if every element of the bin does. The table gives the maximum of a bin's columns, the masked
  reduction that of its rows.
-/
module

public import proofs.«01_k».proof.Proof.KernelRun
public import Idealize.ShloMosaic.Lib.Pointwise
public import Idealize.ShloMosaic.Lib.StableHlo.Predicate

@[expose] public section

noncomputable section

namespace Cert.Kernel

open Idealize.ShloMosaic Cert.Spans
variable [Facts]
open Facts₀ Facts

variable (V : Vec Ideal S64x64x256 .bf16)

/-- The map at column `x`, row `y`, channel `c`. -/
def elt (x y : Fin 64) (c : Fin 256) : EReal := V (ValueIdx.ix3 x y c)

theorem mapAt_elt (x y : Fin 64) (c : Fin 256) : mapAt V x.val y c = elt V x y c := by
  unfold mapAt elt
  exact congrArg (fun z : Fin 64 => V (ValueIdx.ix3 z y c)) (Fin.ext (by show min x.val 63 = x.val; omega))

/-- The table's entry lies below `t` if the columns it covers do. -/
theorem tab_le (d w : Nat) (hw : w < 64) (y : Fin 64) (c : Fin 256) (t : EReal) :
    (tab V d w y c : EReal) ≤ t ↔ ∀ x : Fin 64, (w ≤ x.val ∧ x.val ≤ w + d) → elt V x y c ≤ t := by
  induction d with
  | zero =>
    show (mapAt V w y c : EReal) ≤ t ↔ _
    rw [show mapAt V w y c = elt V ⟨w, hw⟩ y c from mapAt_elt V ⟨w, hw⟩ y c]
    constructor
    · intro h x hx
      obtain rfl : x = ⟨w, hw⟩ := Fin.ext (by show x.val = w; omega)
      exact h
    · intro h; exact h ⟨w, hw⟩ (by constructor <;> simp)
  | succ d ih =>
    by_cases hc : w + (d + 1) < 64
    · rw [show (tab V (d + 1) w y c : EReal) = max (tab V d w y c : EReal) (mapAt V (w + (d + 1)) y c : EReal) from if_pos hc, max_le_iff, ih,
        show mapAt V (w + (d + 1)) y c = elt V ⟨w + (d + 1), hc⟩ y c from mapAt_elt V ⟨w + (d + 1), hc⟩ y c]
      constructor
      · rintro ⟨h1, h2⟩ x hx
        by_cases hd : x.val ≤ w + d
        · exact h1 x ⟨hx.1, hd⟩
        · obtain rfl : x = ⟨w + (d + 1), hc⟩ := Fin.ext (by show x.val = w + (d + 1); omega)
          exact h2
      · intro h
        exact ⟨fun x hx => h x (by omega), h ⟨w + (d + 1), hc⟩ (by constructor <;> simp)⟩
    · rw [show (tab V (d + 1) w y c : EReal) = (tab V d w y c : EReal) from if_neg hc, ih]
      constructor
      · intro h x hx; exact h x (by have := x.isLt; omega)
      · intro h x hx; exact h x (by omega)

/-- The maximum over the columns of a bin. -/
theorem colVal_le {x rw : BitVec 32} (h : InMap x.toNat rw.toNat) {j : Nat} (hj : j < 8) (y : Fin 64) (c : Fin 256) (t : EReal) :
    (colVal V x rw j y c : EReal) ≤ t ↔ ∀ n : Fin 64, (fst x.toNat rw.toNat j ≤ n.val ∧ n.val < lst x.toNat rw.toNat j) → elt V n y c ≤ t := by
  have hb := bin_bounds h hj
  unfold colVal
  rw [off3_fst h hj, off3_snd h hj, tab_le V _ _ (by omega)]
  refine forall_congr' fun n => ?_
  rw [show (fst x.toNat rw.toNat j ≤ n.val ∧ n.val ≤ fst x.toNat rw.toNat j + (lst x.toNat rw.toNat j - fst x.toNat rw.toNat j - 1))
    ↔ (fst x.toNat rw.toNat j ≤ n.val ∧ n.val < lst x.toNat rw.toNat j) by omega]

/-- Which of the eight rows loaded are the bin's. -/
def maskK (y rh : BitVec 32) (k n : Nat) : BitVec 1 :=
  IntOp.andi (IntOp.cmpi .sge (IntOp.addi (BitVec.ofNat 32 n) (rowWin y rh k)) (rowLo y rh k))
    (IntOp.cmpi .slt (IntOp.addi (BitVec.ofNat 32 n) (rowWin y rh k)) (rowHi y rh k))

theorem maskK_iff {y rh : BitVec 32} (h : InMap y.toNat rh.toNat) {k n : Nat} (hk : k < 8) (hn : n < 8) :
    maskK y rh k n = 1#1 ↔ fst y.toNat rh.toNat k ≤ min (fst y.toNat rh.toNat k) 56 + n ∧ min (fst y.toNat rh.toNat k) 56 + n < lst y.toNat rh.toNat k := by
  have en : (BitVec.ofNat 32 n).toNat = n := by rw [BitVec.toNat_ofNat]; omega
  have hb := bin_bounds h hk
  have e1 := rowLo_toNat h hk
  have e2 := rowHi_toNat h hk
  have e3 := rowWin_toNat h hk
  have ea : (IntOp.addi (BitVec.ofNat 32 n) (rowWin y rh k)).toNat = min (fst y.toNat rh.toNat k) 56 + n := by
    rw [show (IntOp.addi (BitVec.ofNat 32 n) (rowWin y rh k)).toNat = _ from add_toNat (x := BitVec.ofNat 32 n) (by omega), en, e3]; omega
  have i1 := StableHlo.Predicate.sge_iff_toNat (a := IntOp.addi (BitVec.ofNat 32 n) (rowWin y rh k)) (b := rowLo y rh k) (by omega) (by omega)
  have i2 := StableHlo.Predicate.slt_iff_toNat (a := IntOp.addi (BitVec.ofNat 32 n) (rowWin y rh k)) (b := rowHi y rh k) (by omega) (by omega)
  rw [ea, e1] at i1
  rw [ea, e2] at i2
  rw [← i1, ← i2, maskK]
  generalize IntOp.cmpi .sge (IntOp.addi (BitVec.ofNat 32 n) (rowWin y rh k)) (rowLo y rh k) = a
  generalize IntOp.cmpi .slt (IntOp.addi (BitVec.ofNat 32 n) (rowWin y rh k)) (rowHi y rh k) = b
  show a &&& b = 1#1 ↔ _
  revert a b; decide

theorem neg_inf : Ideal.ofBits .bf16 0xFF80#16 = (⊥ : EReal) := by simp [Ideal.ofBits, Ideal.ieee]

theorem rowVal_at (y rh : BitVec 32) (k : Nat) (v : Vec Ideal S8x8x256 .bf16) (j : Fin 8) (c : Fin 256) :
    rowVal y rh k v (ix2 j c) = (Finset.fold max (Ideal.ofBits .bf16 0xFF80#16)
      (fun n : Fin 8 => (Scalar.select (maskK y rh k n.val) (v (ix3 n j c) : EReal) (Ideal.ofBits .bf16 0xFF80#16) : EReal)) Finset.univ : EReal) := by
  unfold rowVal rowMask rowPos
  pointwise
  rfl

/-- A row of the eight, as the maximum over the columns of a bin. -/
theorem rowsAt_at {y x rh rw : BitVec 32} (hy : InMap y.toNat rh.toNat) {k : Nat} (hk : k < 8) (n : Fin 8) (j : Fin 8) (c : Fin 256)
    (m : Fin 64) (hm : min (fst y.toNat rh.toNat k) 56 + n.val = m.val) :
    rowsAt V y x rh rw k (ix3 n j c) = colVal V x rw j.val m c := by
  have e : (⟨min (k0_off4 y rh (BitVec.ofNat 32 k) 0 + n.val) 63, by omega⟩ : Fin 64) = m :=
    Fin.ext ((congrArg (fun a => min (a + n.val) 63) (off4_fst hy hk)).trans (by have := m.isLt; omega))
  exact congrArg (fun z : Fin 64 => colVal V x rw j.val z c) e

/-- A masked maximum of rows lies below `t` if the rows under the mask do. -/
theorem masked_le {P : Fin 8 → Prop} (m : Fin 8 → BitVec 1) (hm : ∀ x, m x = 1#1 ↔ P x) (f : Fin 8 → EReal) (t : EReal) :
    Finset.fold max (⊥ : EReal) (fun x => Scalar.select (m x) (f x) ⊥) Finset.univ ≤ t ↔ ∀ x, P x → f x ≤ t := by
  rw [Finset.fold_max_le]
  constructor
  · intro h x hx
    have h2 := h.2 x (Finset.mem_univ x)
    rw [show Scalar.select (m x) (f x) ⊥ = f x from if_pos ((hm x).mpr hx)] at h2
    exact h2
  · intro h
    refine ⟨bot_le, fun x _ => ?_⟩
    by_cases hx : m x = 1#1
    · rw [show Scalar.select (m x) (f x) ⊥ = f x from if_pos hx]; exact h x ((hm x).mp hx)
    · rw [show Scalar.select (m x) (f x) ⊥ = ⊥ from if_neg hx]; exact bot_le

/-- The value of a bin. -/
theorem binVal_le {y x rh rw : BitVec 32} (hy : InMap y.toNat rh.toNat) (hx : InMap x.toNat rw.toNat) {k : Nat} (hk : k < 8) (j : Fin 8) (c : Fin 256) (t : EReal) :
    (binVal V y x rh rw k (ix2 j c) : EReal) ≤ t ↔ ∀ m : Fin 64, (fst y.toNat rh.toNat k ≤ m.val ∧ m.val < lst y.toNat rh.toNat k)
      → ∀ n : Fin 64, (fst x.toNat rw.toNat j.val ≤ n.val ∧ n.val < lst x.toNat rw.toNat j.val) → elt V n m c ≤ t := by
  have hb := bin_bounds hy hk
  have hc (m : Fin 64) := colVal_le V hx j.isLt m c t
  have hr (n : Fin 8) (m : Fin 64) := rowsAt_at V (x := x) (rw := rw) hy hk n j c m
  unfold binVal
  rw [rowVal_at, neg_inf, masked_le _ (fun n => maskK_iff hy hk n.isLt)]
  generalize rowsAt V y x rh rw k = R at *
  generalize fst y.toNat rh.toNat k = a at *
  generalize lst y.toNat rh.toNat k = b at *
  constructor
  · intro h m hm
    rw [← hc m]
    have hn : min a 56 + (m.val - min a 56) = m.val := by omega
    have h2 := h ⟨m.val - min a 56, by have := m.isLt; omega⟩ (by show _ ≤ _ + (_ - _) ∧ _ + (_ - _) < _; omega)
    rw [hr _ m hn] at h2
    exact h2
  · intro h n hn
    rw [hr n ⟨min a 56 + n.val, by omega⟩ rfl, hc]
    exact h _ hn

end Cert.Kernel

end
-- ==== Proof.Equation.lean ====
/-
  The kernel's result is the reference's.

  Both are, at every index, the least upper bound of the same part of the map, so they are equal.
-/
module

public import proofs.«01_k».proof.Proof.RefValue
public import proofs.«01_k».proof.Proof.KernelValue

@[expose] public section

noncomputable section

namespace Cert.Equation

open Idealize.ShloMosaic Cert.Spans
open Cert.Kernel (S512x8x8x256 S512x256x8x8 S64x64x256 S2048)
variable [Cert.Kernel.Facts] [Cert.ReferenceIdeal.Facts]

/-- The kernel's result from the map it turns and from its words. -/
def result (V : Vec Ideal S64x64x256 .bf16) (W : Vec Ideal S2048 .i32) : FVec Ideal S512x8x8x256 .f32 :=
  fun z => Cert.Kernel.regionVal V W (z 0) (z 1).val (ValueIdx.ix2 (z 2) (z 3))

theorem result_at (V : Vec Ideal S64x64x256 .bf16) (W : Vec Ideal S2048 .i32) (r : Fin 512) (c : Fin 256) (i j : Fin 8) :
    (transpose S512x256x8x8 [0, 3, 1, 2] (result V W) Cert.Kernel.Facts₀.transposes_S512x8x8x256_S512x256x8x8_0_3_1_2 : FVec Ideal S512x256x8x8 .f32) (ix4 r c i j)
      = Cert.Kernel.regionVal V W r i.val (ix2 j c) := by
  pointwise
  rfl

/-- From the same map and the same words, the two results agree. -/
theorem equal (V0 : Valuation Cert.ReferenceIdeal.τ Cert.ReferenceIdeal.sig (Elt Ideal)) (V : Vec Ideal S64x64x256 .bf16) (W : Vec Ideal S2048 .i32)
    (hin : Cert.Kernel.WordsIn W) (hV : ∀ x y c, Cert.Kernel.elt V x y c = Cert.ReferenceIdeal.Value.elt V0 c y x)
    (hW : ∀ (r : Fin 512) (k : Fin 4) (n : Fin 2048), n.val = r.val * 4 + k.val → W (ValueIdx.ix1 n) = Cert.ReferenceIdeal.Value.word V0 r k) :
    (transpose S512x256x8x8 [0, 3, 1, 2] (result V W) Cert.Kernel.Facts₀.transposes_S512x8x8x256_S512x256x8x8_0_3_1_2 : FVec Ideal S512x256x8x8 .f32)
      = Cert.ReferenceIdeal.Value.out V0 := by
  funext z
  obtain ⟨r, c, i, j, rfl⟩ : ∃ (r : Fin 512) (c : Fin 256) (i j : Fin 8), z = ix4 r c i j := ⟨z 0, z 1, z 2, z 3, ValueIdx.eq_ix4 z⟩
  have h0 := hW r 0 ⟨r.val * 4, by omega⟩ rfl
  have h1 := hW r 1 ⟨r.val * 4 + 1, by omega⟩ rfl
  have h2 := hW r 2 ⟨r.val * 4 + 2, by omega⟩ rfl
  have h3 := hW r 3 ⟨r.val * 4 + 3, by omega⟩ rfl
  obtain ⟨hy, hx⟩ := hin r
  rw [h0, h2] at hy
  rw [h1, h3] at hx
  rw [result_at]
  unfold Cert.Kernel.regionVal
  rw [h0, h1, h2, h3]
  refine eq_of_forall_ge_iff (α := EReal) fun t => ?_
  rw [Cert.Kernel.binVal_le V hy hx i.isLt j c t, Cert.ReferenceIdeal.Value.out_le V0 r c i j hy hx t]
  simp only [hV]

end Cert.Equation

end
-- ==== Proof.Algebraic.lean ====
/-
  The value claim: over the extended reals the kernel and the reference end with equal results.
-/
module

public import proofs.«01_k».proof.Proof.Frames
public import proofs.«01_k».proof.Proof.Equation

@[expose] public section

noncomputable section

namespace Cert.Frames

open Idealize.ShloMosaic Idealize.ShloMosaic.TcCoe
open Idealize.SL.Sem

attribute [local instance] Cert.Kernel.Gen.facts Cert.KernelIdeal.Gen.facts Cert.ReferenceIdeal.Gen.facts Cert.Pre_in_range.Gen.facts

/-- The reference's frame from arguments in range. -/
theorem reference_ideal_pre : Cert.quiescent_ReferenceIdeal_pre_in_range := by
  intro m g _
  exact reference_ideal m g trivial

section
variable (m : (ℓ : Loc Cert.Kernel.nD Cert.Kernel.τ Cert.Kernel.sig) → Buf (Elt Ideal) ℓ)
variable (m' : (ℓ : Loc Cert.ReferenceIdeal.nD Cert.ReferenceIdeal.τ Cert.ReferenceIdeal.sig) → Buf (Elt Ideal) ℓ)
variable (c : Dev Cert.Kernel.nD)

/-- The kernel's turned map is the reference's map. -/
theorem turned_elt (h : m' ((c.tc : Thread Cert.ReferenceIdeal.nD Cert.ReferenceIdeal.τ).loc Cert.ReferenceIdeal.main_arg0) = m ((c.tc : Thread Cert.Kernel.nD Cert.Kernel.τ).loc Cert.Kernel.main_arg0))
    (x y : Fin 64) (k : Fin 256) :
    Cert.Kernel.elt (Cert.Kernel.turned m c) x y k = Cert.ReferenceIdeal.Value.elt (StableHlo.launchContents m' c) k y x := by
  unfold Cert.Kernel.elt
  rw [Cert.Kernel.turned_eq]
  have e : (transpose Cert.Kernel.S64x64x256 [2, 1, 0] (m ((c : Thread Cert.Kernel.nD Cert.Kernel.τ).loc Cert.Kernel.main_arg0) : FVec Ideal Cert.Kernel.S256x64x64 .f32)
      Cert.Kernel.Facts₀.transposes_S256x64x64_S64x64x256_2_1_0 : FVec Ideal Cert.Kernel.S64x64x256 .f32) (ix3 x y k)
      = (m ((c : Thread Cert.Kernel.nD Cert.Kernel.τ).loc Cert.Kernel.main_arg0) : FVec Ideal Cert.Kernel.S256x64x64 .f32) (ix3 k y x) := by
    pointwise
  exact e.trans (congrFun h.symm (ix3 k y x))

/-- The kernel's words are the reference's. -/
theorem flat_word (h : m' ((c.tc : Thread Cert.ReferenceIdeal.nD Cert.ReferenceIdeal.τ).loc Cert.ReferenceIdeal.main_arg1) = m ((c.tc : Thread Cert.Kernel.nD Cert.Kernel.τ).loc Cert.Kernel.main_arg1))
    (r : Fin 512) (k : Fin 4) (n : Fin 2048) (hn : n.val = r.val * 4 + k.val) :
    Cert.Kernel.flat m c (ValueIdx.ix1 n) = Cert.ReferenceIdeal.Value.word (StableHlo.launchContents m' c) r k := by
  rw [Cert.Kernel.flat_eq]
  refine (Cert.InRange.flat_at _ _ r k n hn).trans ?_
  exact congrFun h.symm (ValueIdx.ix2 r k)

end

/-- The kernel over the extended reals ends with the reference's result. -/
theorem algebraic : Cert.algebraic_KernelIdeal_ReferenceIdeal := by
  intro m g m' g' hpre hargs
  have hin := words m hpre
  refine ⟨fun c => (transpose Cert.Kernel.S512x256x8x8 [0, 3, 1, 2] (Cert.Kernel.bins m c : FVec Ideal Cert.Kernel.S512x8x8x256 .f32)
    Cert.Kernel.Facts₀.transposes_S512x8x8x256_S512x256x8x8_0_3_1_2 : FVec Ideal Cert.Kernel.S512x256x8x8 .f32), ?_, ?_⟩
  · exact (θ_run Cert.KernelIdeal.defs _ _).mono (fun r h => h.1) (run_ideal m g hin)
  · refine (θ_run Cert.ReferenceIdeal.defs _ _).mono (fun r h c => ⟨(h c).1.trans ?_, (h c).2⟩) (Cert.ReferenceIdeal.Value.run (F := Ideal) m' g')
    have e := Cert.Equation.equal (StableHlo.launchContents m' c) (Cert.Kernel.turned m c) (Cert.Kernel.flat m c) (hin c)
      (turned_elt m m' c (hargs c).1) (flat_word m m' c (hargs c).2)
    refine Eq.trans ?_ (e.symm.trans (congrArg (fun B : FVec Ideal Cert.Kernel.S512x8x8x256 .f32 =>
      (transpose Cert.Kernel.S512x256x8x8 [0, 3, 1, 2] B Cert.Kernel.Facts₀.transposes_S512x8x8x256_S512x256x8x8_0_3_1_2 : FVec Ideal Cert.Kernel.S512x256x8x8 .f32))
      (Cert.Kernel.bins_eq m c).symm))
    rfl

end Cert.Frames

end
-- ==== Proof.lean ====
/-
  The proof of `Cert.Claim`: the frames of the three programs, and the equality of the kernel's result with the
  reference's over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  Cert.Frames.kernel, Cert.Frames.kernel_ideal, Cert.Frames.reference_ideal, Cert.Frames.reference_ideal_pre, trivial, Cert.Frames.algebraic⟩

end Cert.Proof

end
